-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_ids_in_range : Cert.Pre_ids_in_range.Facts] (m : (ℓ : Loc Cert.Reference.nD Cert.Reference.τ Cert.Reference.sig) → Buf (Elt Bits) ℓ) : Prop :=
  ∀ c : Dev Cert.Reference.nD,
    (Cert.Pre_ids_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_ids_in_range3 : Cert.Pre_ids_in_range3.Facts] (m : (ℓ : Loc Cert.Kernel3.nD Cert.Kernel3.τ Cert.Kernel3.sig) → Buf (Elt Bits) ℓ) : Prop :=
  ∀ c : Dev Cert.Kernel3.nD,
    (Cert.Pre_ids_in_range3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3))) = (fun _ => 1#1)

def Pre_Kernel3Ideal [hPre_ids_in_range3 : Cert.Pre_ids_in_range3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_ids_in_range3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_ids_in_range3 [hPre_ids_in_range3 : Cert.Pre_ids_in_range3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_ids_in_range3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_ids_in_range : Cert.Pre_ids_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_ids_in_range3 : Cert.Pre_ids_in_range3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] [hPre_ids_in_range3 : Cert.Pre_ids_in_range3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_ids_in_range3 [hReference3Ideal : Cert.Reference3Ideal.Facts] [hPre_ids_in_range3 : Cert.Pre_ids_in_range3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_ids_in_range3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v46)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v46) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v47) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v45)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v45) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_ids_in_range3 : Cert.Pre_ids_in_range3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v46)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v46) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v53_2)) (v1 : (c : Dev Cert.Kernel4Ideal.nD) → Buf (Elt Ideal) ((c.tc : Thread Cert.Kernel4Ideal.nD Cert.Kernel4Ideal.τ).loc Cert.Kernel4Ideal.main_v53_3)) (v2 : (c : Dev Cert.Kernel4Ideal.nD) → Buf (Elt Ideal) ((c.tc : Thread Cert.Kernel4Ideal.nD Cert.Kernel4Ideal.τ).loc Cert.Kernel4Ideal.main_v53_4)) (v3 : (c : Dev Cert.Kernel4Ideal.nD) → Buf (Elt Ideal) ((c.tc : Thread Cert.Kernel4Ideal.nD Cert.Kernel4Ideal.τ).loc Cert.Kernel4Ideal.main_v53_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v53_2) = v0 c
          ∧ r.2.mem ((c.tc : Thread Cert.Kernel4Ideal.nD Cert.Kernel4Ideal.τ).loc Cert.Kernel4Ideal.main_v53_3) = v1 c
          ∧ r.2.mem ((c.tc : Thread Cert.Kernel4Ideal.nD Cert.Kernel4Ideal.τ).loc Cert.Kernel4Ideal.main_v53_4) = v2 c
          ∧ r.2.mem ((c.tc : Thread Cert.Kernel4Ideal.nD Cert.Kernel4Ideal.τ).loc Cert.Kernel4Ideal.main_v53_5) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v24) = v2 c
          ∧ r.2.mem ((c.tc : Thread Cert.Reference4Ideal.nD Cert.Reference4Ideal.τ).loc Cert.Reference4Ideal.main_v25) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_ids_in_range : Cert.Pre_ids_in_range.Facts) (hPre_ids_in_range3 : Cert.Pre_ids_in_range3.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ quiescent_Reference (hReference := hReference) (hPre_ids_in_range := hPre_ids_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_ids_in_range3 := hPre_ids_in_range3)
    ∧ quiescent_Kernel3Ideal (hKernel3Ideal := hKernel3Ideal) (hPre_ids_in_range3 := hPre_ids_in_range3)
    ∧ quiescent_Reference3Ideal (hReference3Ideal := hReference3Ideal)
    ∧ quiescent_Reference3Ideal_pre_ids_in_range3 (hReference3Ideal := hReference3Ideal) (hPre_ids_in_range3 := hPre_ids_in_range3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_ids_in_range := hPre_ids_in_range)
    ∧ bitexact_Kernel_Reference (hKernel := hKernel) (hReference := hReference) (hPre_ids_in_range := hPre_ids_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_ids_in_range3 := hPre_ids_in_range3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_ids_in_range.lean ====
abbrev S16384x2 : Shape := ⟨2, ![16384, 2]⟩
abbrev S16384x1024 : Shape := ⟨2, ![16384, 1024]⟩
abbrev S49152x1024 : Shape := ⟨2, ![49152, 1024]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : IVec S16384x2 32) (main_arg1 : FVec F S16384x1024 .f32) (main_arg2 : FVec F S49152x1024 .f32) : IVec S_ 1 :=
  let main_c : IVec S_ 32 := constantI S_ 32 0#32
  let main_v0 : IVec S16384x2 32 := broadcastInDim S16384x2 ![] bcast_S_S16384x2 main_c
  let main_v1 : IVec S16384x2 1 := cmpi .sge main_arg0 main_v0
  let main_c_0 : IVec S_ 32 := constantI S_ 32 32#32
  let main_v2 : IVec S16384x2 32 := broadcastInDim S16384x2 ![] bcast_S_S16384x2 main_c_0
  let main_v3 : IVec S16384x2 1 := cmpi .slt main_arg0 main_v2
  let main_v4 : IVec S16384x2 1 := andi main_v1 main_v3
  let main_c_1 : IVec S_ 1 := constantI S_ 1 1#1
  let main_v5 : IVec S_ 1 := (fun x v => Host.reduce IntOp.andi x v reducesTo_S16384x2_S_d0_1 h_S_) main_v4 main_c_1
  main_v5
-- ==== Pre_ids_in_range3.lean ====
abbrev S16384x2 : Shape := ⟨2, ![16384, 2]⟩
abbrev S16384x128 : Shape := ⟨2, ![16384, 128]⟩
abbrev S16384x1024 : Shape := ⟨2, ![16384, 1024]⟩
abbrev S49152x1024 : Shape := ⟨2, ![49152, 1024]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : IVec S16384x2 32) (main_arg1 : FVec F S16384x128 .f32) (main_arg2 : FVec F S16384x1024 .f32) (main_arg3 : FVec F S49152x1024 .f32) : IVec S_ 1 :=
  let main_c : IVec S_ 32 := constantI S_ 32 0#32
  let main_v0 : IVec S16384x2 32 := broadcastInDim S16384x2 ![] bcast_S_S16384x2 main_c
  let main_v1 : IVec S16384x2 1 := cmpi .sge main_arg0 main_v0
  let main_c_0 : IVec S_ 32 := constantI S_ 32 32#32
  let main_v2 : IVec S16384x2 32 := broadcastInDim S16384x2 ![] bcast_S_S16384x2 main_c_0
  let main_v3 : IVec S16384x2 1 := cmpi .slt main_arg0 main_v2
  let main_v4 : IVec S16384x2 1 := andi main_v1 main_v3
  let main_c_1 : IVec S_ 1 := constantI S_ 1 1#1
  let main_v5 : IVec S_ 1 := (fun x v => Host.reduce IntOp.andi x v reducesTo_S16384x2_S_d0_1 h_S_) main_v4 main_c_1
  main_v5
-- ==== Kernel.lean ====
abbrev S16384x2 : Shape := ⟨2, ![16384, 2]⟩
abbrev S16384x1024 : Shape := ⟨2, ![16384, 1024]⟩
abbrev S49152x1024 : Shape := ⟨2, ![49152, 1024]⟩
abbrev S32768 : Shape := ⟨1, ![32768]⟩
abbrev S32768x1 : Shape := ⟨2, ![32768, 1]⟩
abbrev S32 : Shape := ⟨1, ![32]⟩
abbrev S1x32 : Shape := ⟨2, ![1, 32]⟩
abbrev S32768x32 : Shape := ⟨2, ![32768, 32]⟩
abbrev S_ : Shape := ⟨0, ![]⟩
abbrev S96 : Shape := ⟨1, ![96]⟩
abbrev S96x1 : Shape := ⟨2, ![96, 1]⟩
abbrev S96x32 : Shape := ⟨2, ![96, 32]⟩
abbrev S1 : Shape := ⟨1, ![1]⟩
abbrev S16x1x2048 : Shape := ⟨3, ![16, 1, 2048]⟩
abbrev S1x1x2048 : Shape := ⟨3, ![1, 1, 2048]⟩
abbrev S1024x1024 : Shape := ⟨2, ![1024, 1024]⟩
abbrev S1x1x1 : Shape := ⟨3, ![1, 1, 1]⟩
abbrev S1x1024 : Shape := ⟨2, ![1, 1024]⟩

abbrev nBuf : Space → Nat
  | .hbm => 92
  | .vmem => 2
  | .smem => 2
  | _ => 0

abbrev bufTy : (tb : Table) → Fin (tcTables nBuf tb) → BufTy
  | .hbm, ⟨0, _⟩ => ⟨S16384x2, .i32⟩
  | .hbm, ⟨1, _⟩ => ⟨S16384x1024, .f32⟩
  | .hbm, ⟨2, _⟩ => ⟨S49152x1024, .f32⟩
  | .hbm, ⟨3, _⟩ => ⟨S32768, .i32⟩
  | .hbm, ⟨4, _⟩ => ⟨S32768x1, .i32⟩
  | .hbm, ⟨5, _⟩ => ⟨S32, .i32⟩
  | .hbm, ⟨6, _⟩ => ⟨S1x32, .i32⟩
  | .hbm, ⟨7, _⟩ => ⟨S32768x32, .i32⟩
  | .hbm, ⟨8, _⟩ => ⟨S32768x32, .i32⟩
  | .hbm, ⟨9, _⟩ => ⟨S32768x32, .i1⟩
  | .hbm, ⟨10, _⟩ => ⟨S32768x32, .i32⟩
  | .hbm, ⟨11, _⟩ => ⟨S_, .i32⟩
  | .hbm, ⟨12, _⟩ => ⟨S_, .i32⟩
  | .hbm, ⟨13, _⟩ => ⟨S32768x32, .i32⟩
  | .hbm, ⟨14, _⟩ => ⟨S32768x32, .i32⟩
  | .hbm, ⟨15, _⟩ => ⟨S_, .i32⟩
  | .hbm, ⟨16, _⟩ => ⟨S32768, .i32⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S1x32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i1⟩
  | .hbm, ⟨36, _⟩ => ⟨S32, .i32⟩
  | .hbm, ⟨37, _⟩ => ⟨S32, .i32⟩
  | .hbm, ⟨38, _⟩ => ⟨S_, .i32⟩
  | .hbm, ⟨39, _⟩ => ⟨S32, .i32⟩
  | .hbm, ⟨40, _⟩ => ⟨S32, .i1⟩
  | .hbm, ⟨41, _⟩ => ⟨S32, .i1⟩
  | .hbm, ⟨42, _⟩ => ⟨S_, .i32⟩
  | .hbm, ⟨43, _⟩ => ⟨S32, .i32⟩
  | .hbm, ⟨44, _⟩ => ⟨S32, .i32⟩
  | .hbm, ⟨45, _⟩ => ⟨S32, .i32⟩
  | .hbm, ⟨46, _⟩ => ⟨S_, .i32⟩
  | .hbm, ⟨47, _⟩ => ⟨S32, .i32⟩
  | .hbm, ⟨48, _⟩ => ⟨S32, .i32⟩
  | .hbm, ⟨49, _⟩ => ⟨S_, .i32⟩
  | .hbm, ⟨50, _⟩ => ⟨S_, .i32⟩
  | .hbm, ⟨51, _⟩ => ⟨S32, .i32⟩
  | .hbm, ⟨52, _⟩ => ⟨S32, .i32⟩
  | .hbm, ⟨53, _⟩ => ⟨S1x32, .i32⟩
  | .hbm, ⟨54, _⟩ => ⟨S32768x32, .i32⟩
  | .hbm, ⟨55, _⟩ => ⟨S32768x32, .i32⟩
  | .hbm, ⟨56, _⟩ => ⟨S_, .i32⟩
  | .hbm, ⟨57, _⟩ => ⟨S32768, .i32⟩
  | .hbm, ⟨58, _⟩ => ⟨S32768, .i32⟩
  | .hbm, ⟨59, _⟩ => ⟨S96, .i32⟩
  | .hbm, ⟨60, _⟩ => ⟨S_, .i32⟩
  | .hbm, ⟨61, _⟩ => ⟨S96, .i32⟩
  | .hbm, ⟨62, _⟩ => ⟨S96, .i32⟩
  | .hbm, ⟨63, _⟩ => ⟨S96x1, .i32⟩
  | .hbm, ⟨64, _⟩ => ⟨S1x32, .i32⟩
  | .hbm, ⟨65, _⟩ => ⟨S96x32, .i32⟩
  | .hbm, ⟨66, _⟩ => ⟨S96x32, .i32⟩
  | .hbm, ⟨67, _⟩ => ⟨S96x32, .i1⟩
  | .hbm, ⟨68, _⟩ => ⟨S96x32, .i32⟩
  | .hbm, ⟨69, _⟩ => ⟨S_, .i32⟩
  | .hbm, ⟨70, _⟩ => ⟨S96, .i32⟩
  | .hbm, ⟨71, _⟩ => ⟨S_, .i32⟩
  | .hbm, ⟨72, _⟩ => ⟨S96, .i32⟩
  | .hbm, ⟨73, _⟩ => ⟨S96, .i32⟩
  | .hbm, ⟨74, _⟩ => ⟨S1, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i1⟩
  | .hbm, ⟨82, _⟩ => ⟨S_, .i32⟩
  | .hbm, ⟨83, _⟩ => ⟨S_, .i32⟩
  | .hbm, ⟨84, _⟩ => ⟨S_, .i1⟩
  | .hbm, ⟨85, _⟩ => ⟨S_, .i1⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S1, .i32⟩
  | .hbm, ⟨90, _⟩ => ⟨S16x1x2048, .i32⟩
  | .hbm, ⟨91, _⟩ => ⟨S49152x1024, .f32⟩
  | .local _ .vmem, ⟨0, _⟩ => ⟨S1024x1024, .f32⟩
  | .local _ .vmem, ⟨1, _⟩ => ⟨S1024x1024, .f32⟩
  | .local _ .smem, ⟨0, _⟩ => ⟨S1x1x2048, .i32⟩
  | .local _ .smem, ⟨1, _⟩ => ⟨S1x1x2048, .i32⟩
  | _, _ => ⟨S16384x2, .i32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_call0_c : Ref sig .tc := ⟨.hbm, 11, rfl⟩
abbrev main_call0_call0_v0 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_call2_call0_c : Ref sig .tc := ⟨.hbm, 49, rfl⟩
abbrev main_call2_call0_v0 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_6 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_7 : Ref sig .tc := ⟨.hbm, 69, rfl⟩
abbrev main_v38 : Ref sig .tc := ⟨.hbm, 70, rfl⟩
abbrev main_c_8 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_9 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_c : Ref sig .tc := ⟨.hbm, 83, rfl⟩
abbrev main_call3_v6 : Ref sig .tc := ⟨.hbm, 84, rfl⟩
abbrev main_call3_v7 : Ref sig .tc := ⟨.hbm, 85, rfl⟩
abbrev main_call3_c_0 : Ref sig .tc := ⟨.hbm, 86, rfl⟩
abbrev main_call3_v8 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c1024_i32 : BitVec 32 := 1024#32
  let v0 : BitVec 32 := Scalar.addi c0_i32 c1024_i32
  let c1_i32 : BitVec 32 := 1#32
  ⟨c0_i32, v0, c1_i32⟩
def k0_off1 (k0_t1 : Fin k0_t1_loop.trips) : Fin 3 → Nat :=
  let c0 : Index := 0#32
  let c0_5 : Index := 0#32
  let c2_i32 : BitVec 32 := 2#32
  let c0_i32 : BitVec 32 := 0#32
  let c1_i32 : BitVec 32 := 1#32
  let arg6 : BitVec 32 := Scf.iv c0_i32 c1_i32 k0_t1
  let v2 : BitVec 32 := Scalar.muli c2_i32 arg6
  let c0_i32_4 : BitVec 32 := 0#32
  let v3 : BitVec 32 := Scalar.addi v2 c0_i32_4
  let v4 : Index := Scalar.indexCast v3
  ![0, 0, v4.toNat]
def k0_off2 (v5 : BitVec 32) : Fin 2 → Nat :=
  let c0_i32_6 : BitVec 32 := 0#32
  ![v5.toNat, 0]

def k0_chk1 (v5 : BitVec 32) : Prop :=
  (∀ a, (k0_off2 v5) a + S1x1024.size a ≤ S49152x1024.size a)
theorem k0_off2_inb : ∀ (v5 : BitVec 32) (k0_hw1 : k0_chk1 v5), ∀ a, (k0_off2 v5) a + S1x1024.size a ≤ S49152x1024.size a := fun v5 k0_hw1 => k0_hw1

def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_7 : BitVec 32 := 0#32
  ![arg6.toNat, 0]
def k0_off4 (k0_t1 : Fin k0_t1_loop.trips) : Fin 3 → Nat :=
  let c0_10 : Index := 0#32
  let c0_11 : Index := 0#32
  let c2_i32_8 : BitVec 32 := 2#32
  let c0_i32 : BitVec 32 := 0#32
  let c1_i32 : BitVec 32 := 1#32
  let arg6 : BitVec 32 := Scf.iv c0_i32 c1_i32 k0_t1
  let v8 : BitVec 32 := Scalar.muli c2_i32_8 arg6
  let c1_i32_9 : BitVec 32 := 1#32
  let v9 : BitVec 32 := Scalar.addi v8 c1_i32_9
  let v10 : Index := Scalar.indexCast v9
  ![0, 0, v10.toNat]
def k0_off5 (v11 : BitVec 32) : Fin 2 → Nat :=
  let c0_i32_12 : BitVec 32 := 0#32
  ![v11.toNat, 0]

def k0_chk2 (v11 : BitVec 32) : Prop :=
  (∀ a, (k0_off5 v11) a + S1x1024.size a ≤ S49152x1024.size a)
theorem k0_off5_inb : ∀ (v11 : BitVec 32) (k0_hw2 : k0_chk2 v11), ∀ a, (k0_off5 v11) a + S1x1024.size a ≤ S49152x1024.size a := fun v11 k0_hw2 => k0_hw2

def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_13 : BitVec 32 := 0#32
  ![arg6.toNat, 0]
@[reducible] def k0_t2_loop : Scf.Loop 32 :=
  let c0_i32_1 : BitVec 32 := 0#32
  let c1024_i32_2 : BitVec 32 := 1024#32
  let v1 : BitVec 32 := Scalar.addi c0_i32_1 c1024_i32_2
  let c1_i32_3 : BitVec 32 := 1#32
  ⟨c0_i32_1, v1, c1_i32_3⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S16384x2 : Shape := ⟨2, ![16384, 2]⟩
abbrev S16384x1024 : Shape := ⟨2, ![16384, 1024]⟩
abbrev S49152x1024 : Shape := ⟨2, ![49152, 1024]⟩
abbrev S32768 : Shape := ⟨1, ![32768]⟩
abbrev S1x32768 : Shape := ⟨2, ![1, 32768]⟩
abbrev S32768x1 : Shape := ⟨2, ![32768, 1]⟩
abbrev S32768x32768 : Shape := ⟨2, ![32768, 32768]⟩
abbrev S_ : Shape := ⟨0, ![]⟩
abbrev S32 : Shape := ⟨1, ![32]⟩
abbrev S1x32 : Shape := ⟨2, ![1, 32]⟩
abbrev S32768x32 : Shape := ⟨2, ![32768, 32]⟩
abbrev S16384x2x1024 : Shape := ⟨3, ![16384, 2, 1024]⟩
abbrev S32768x1024 : Shape := ⟨2, ![32768, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S16384x1024, .f32⟩
  | .hbm, ⟨2, _⟩ => ⟨S49152x1024, .f32⟩
  | .hbm, ⟨3, _⟩ => ⟨S32768, .i32⟩
  | .hbm, ⟨4, _⟩ => ⟨S32768, .i32⟩
  | .hbm, ⟨5, _⟩ => ⟨S1x32768, .i32⟩
  | .hbm, ⟨6, _⟩ => ⟨S32768x1, .i32⟩
  | .hbm, ⟨7, _⟩ => ⟨S32768x32768, .i32⟩
  | .hbm, ⟨8, _⟩ => ⟨S32768x32768, .i32⟩
  | .hbm, ⟨9, _⟩ => ⟨S32768x32768, .i1⟩
  | .hbm, ⟨10, _⟩ => ⟨S1x32768, .i32⟩
  | .hbm, ⟨11, _⟩ => ⟨S32768x1, .i32⟩
  | .hbm, ⟨12, _⟩ => ⟨S32768x32768, .i32⟩
  | .hbm, ⟨13, _⟩ => ⟨S32768x32768, .i32⟩
  | .hbm, ⟨14, _⟩ => ⟨S32768x32768, .i1⟩
  | .hbm, ⟨15, _⟩ => ⟨S32768x32768, .i1⟩
  | .hbm, ⟨16, _⟩ => ⟨S32768x32768, .i32⟩
  | .hbm, ⟨17, _⟩ => ⟨S_, .i32⟩
  | .hbm, ⟨18, _⟩ => ⟨S32768, .i32⟩
  | .hbm, ⟨19, _⟩ => ⟨S32, .i32⟩
  | .hbm, ⟨20, _⟩ => ⟨S32768x1, .i32⟩
  | .hbm, ⟨21, _⟩ => ⟨S1x32, .i32⟩
  | .hbm, ⟨22, _⟩ => ⟨S32768x32, .i32⟩
  | .hbm, ⟨23, _⟩ => ⟨S32768x32, .i32⟩
  | .hbm, ⟨24, _⟩ => ⟨S32768x32, .i1⟩
  | .hbm, ⟨25, _⟩ => ⟨S32768x32, .i32⟩
  | .hbm, ⟨26, _⟩ => ⟨S_, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S_, .i32⟩
  | .hbm, ⟨35, _⟩ => ⟨S_, .i32⟩
  | .hbm, ⟨36, _⟩ => ⟨S32, .i32⟩
  | .hbm, ⟨37, _⟩ => ⟨S32, .i32⟩
  | .hbm, ⟨38, _⟩ => ⟨S32, .i32⟩
  | .hbm, ⟨39, _⟩ => ⟨S_, .i32⟩
  | .hbm, ⟨40, _⟩ => ⟨S32, .i32⟩
  | .hbm, ⟨41, _⟩ => ⟨S32, .i1⟩
  | .hbm, ⟨42, _⟩ => ⟨S32, .i32⟩
  | .hbm, ⟨43, _⟩ => ⟨S32, .i32⟩
  | .hbm, ⟨44, _⟩ => ⟨S_, .i32⟩
  | .hbm, ⟨45, _⟩ => ⟨S32, .i32⟩
  | .hbm, ⟨46, _⟩ => ⟨S32, .i1⟩
  | .hbm, ⟨47, _⟩ => ⟨S32, .i1⟩
  | .hbm, ⟨48, _⟩ => ⟨S_, .i32⟩
  | .hbm, ⟨49, _⟩ => ⟨S32, .i32⟩
  | .hbm, ⟨50, _⟩ => ⟨S32, .i32⟩
  | .hbm, ⟨51, _⟩ => ⟨S32, .i32⟩
  | .hbm, ⟨52, _⟩ => ⟨S32768x1, .i32⟩
  | .hbm, ⟨53, _⟩ => ⟨S1x32, .i32⟩
  | .hbm, ⟨54, _⟩ => ⟨S32768x32, .i32⟩
  | .hbm, ⟨55, _⟩ => ⟨S32768x32, .i32⟩
  | .hbm, ⟨56, _⟩ => ⟨S32768x32, .i1⟩
  | .hbm, ⟨57, _⟩ => ⟨S1x32, .i32⟩
  | .hbm, ⟨58, _⟩ => ⟨S_, .i32⟩
  | .hbm, ⟨59, _⟩ => ⟨S_, .i32⟩
  | .hbm, ⟨60, _⟩ => ⟨S32768x32, .i32⟩
  | .hbm, ⟨61, _⟩ => ⟨S32768x32, .i32⟩
  | .hbm, ⟨62, _⟩ => ⟨S32768x32, .i32⟩
  | .hbm, ⟨63, _⟩ => ⟨S_, .i32⟩
  | .hbm, ⟨64, _⟩ => ⟨S32768, .i32⟩
  | .hbm, ⟨65, _⟩ => ⟨S_, .i32⟩
  | .hbm, ⟨66, _⟩ => ⟨S32768, .i32⟩
  | .hbm, ⟨67, _⟩ => ⟨S32768, .i32⟩
  | .hbm, ⟨68, _⟩ => ⟨S32768, .i32⟩
  | .hbm, ⟨69, _⟩ => ⟨S16384x2x1024, .f32⟩
  | .hbm, ⟨70, _⟩ => ⟨S32768x1024, .f32⟩
  | .hbm, ⟨71, _⟩ => ⟨S_, .i32⟩
  | .hbm, ⟨72, _⟩ => ⟨S32768, .i32⟩
  | .hbm, ⟨73, _⟩ => ⟨S32768, .i1⟩
  | .hbm, ⟨74, _⟩ => ⟨S_, .i32⟩
  | .hbm, ⟨75, _⟩ => ⟨S32768, .i32⟩
  | .hbm, ⟨76, _⟩ => ⟨S32768, .i32⟩
  | .hbm, ⟨77, _⟩ => ⟨S32768, .i32⟩
  | .hbm, ⟨78, _⟩ => ⟨S32768x1, .i32⟩
  | .hbm, ⟨79, _⟩ => ⟨S49152x1024, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_v22 : Ref sig .tc := ⟨.hbm, 27, rfl⟩
abbrev main_c_1 : Ref sig .tc := ⟨.hbm, 28, rfl⟩
abbrev main_v23 : Ref sig .tc := ⟨.hbm, 29, rfl⟩
abbrev main_v24 : Ref sig .tc := ⟨.hbm, 30, rfl⟩
abbrev main_c_2 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_4 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v34 : Ref sig .tc := ⟨.hbm, 62, rfl⟩
abbrev main_c_5 : Ref sig .tc := ⟨.hbm, 63, rfl⟩
abbrev main_v35 : Ref sig .tc := ⟨.hbm, 64, rfl⟩
abbrev main_c_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_7 : Ref sig .tc := ⟨.hbm, 71, rfl⟩
abbrev main_v41 : Ref sig .tc := ⟨.hbm, 72, rfl⟩
abbrev main_v42 : Ref sig .tc := ⟨.hbm, 73, rfl⟩
abbrev main_c_8 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩

abbrev nD : Nat := 1
abbrev τ : Topo := Topo.v7x

variable {F : FTy → Type} [FloatOps F]
-- ==== Kernel2.lean ====
abbrev S16384x2 : Shape := ⟨2, ![16384, 2]⟩
abbrev S49152x1024 : Shape := ⟨2, ![49152, 1024]⟩
abbrev S4x32x1024x256 : Shape := ⟨4, ![4, 32, 1024, 256]⟩
abbrev S4x32x256x1024 : Shape := ⟨4, ![4, 32, 256, 1024]⟩
abbrev S32768 : Shape := ⟨1, ![32768]⟩
abbrev S32768x1 : Shape := ⟨2, ![32768, 1]⟩
abbrev S32 : Shape := ⟨1, ![32]⟩
abbrev S1x32 : Shape := ⟨2, ![1, 32]⟩
abbrev S32768x32 : Shape := ⟨2, ![32768, 32]⟩
abbrev S_ : Shape := ⟨0, ![]⟩
abbrev S96 : Shape := ⟨1, ![96]⟩
abbrev S96x1 : Shape := ⟨2, ![96, 1]⟩
abbrev S96x32 : Shape := ⟨2, ![96, 32]⟩
abbrev S1 : Shape := ⟨1, ![1]⟩
abbrev S512x1024 : Shape := ⟨2, ![512, 1024]⟩
abbrev S1x1x1024x256 : Shape := ⟨4, ![1, 1, 1024, 256]⟩
abbrev S1x1x256x1024 : Shape := ⟨4, ![1, 1, 256, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 91
  | .vmem => 10
  | .smem => 2
  | _ => 0

abbrev bufTy : (tb : Table) → Fin (tcTables nBuf tb) → BufTy
  | .hbm, ⟨0, _⟩ => ⟨S16384x2, .i32⟩
  | .hbm, ⟨1, _⟩ => ⟨S49152x1024, .f32⟩
  | .hbm, ⟨2, _⟩ => ⟨S4x32x1024x256, .f32⟩
  | .hbm, ⟨3, _⟩ => ⟨S4x32x1024x256, .f32⟩
  | .hbm, ⟨4, _⟩ => ⟨S4x32x256x1024, .f32⟩
  | .hbm, ⟨5, _⟩ => ⟨S32768, .i32⟩
  | .hbm, ⟨6, _⟩ => ⟨S32768x1, .i32⟩
  | .hbm, ⟨7, _⟩ => ⟨S32, .i32⟩
  | .hbm, ⟨8, _⟩ => ⟨S1x32, .i32⟩
  | .hbm, ⟨9, _⟩ => ⟨S32768x32, .i32⟩
  | .hbm, ⟨10, _⟩ => ⟨S32768x32, .i32⟩
  | .hbm, ⟨11, _⟩ => ⟨S32768x32, .i1⟩
  | .hbm, ⟨12, _⟩ => ⟨S32768x32, .i32⟩
  | .hbm, ⟨13, _⟩ => ⟨S_, .i32⟩
  | .hbm, ⟨14, _⟩ => ⟨S_, .i32⟩
  | .hbm, ⟨15, _⟩ => ⟨S32768x32, .i32⟩
  | .hbm, ⟨16, _⟩ => ⟨S32768x32, .i32⟩
  | .hbm, ⟨17, _⟩ => ⟨S_, .i32⟩
  | .hbm, ⟨18, _⟩ => ⟨S32768, .i32⟩
  | .hbm, ⟨19, _⟩ => ⟨S_, .i32⟩
  | .hbm, ⟨20, _⟩ => ⟨S32768, .i32⟩
  | .hbm, ⟨21, _⟩ => ⟨S32768, .i32⟩
  | .hbm, ⟨22, _⟩ => ⟨S1x32, .i32⟩
  | .hbm, ⟨23, _⟩ => ⟨S32, .i32⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S32, .i32⟩
  | .hbm, ⟨37, _⟩ => ⟨S32, .i1⟩
  | .hbm, ⟨38, _⟩ => ⟨S32, .i32⟩
  | .hbm, ⟨39, _⟩ => ⟨S32, .i32⟩
  | .hbm, ⟨40, _⟩ => ⟨S_, .i32⟩
  | .hbm, ⟨41, _⟩ => ⟨S32, .i32⟩
  | .hbm, ⟨42, _⟩ => ⟨S32, .i1⟩
  | .hbm, ⟨43, _⟩ => ⟨S32, .i1⟩
  | .hbm, ⟨44, _⟩ => ⟨S_, .i32⟩
  | .hbm, ⟨45, _⟩ => ⟨S32, .i32⟩
  | .hbm, ⟨46, _⟩ => ⟨S32, .i32⟩
  | .hbm, ⟨47, _⟩ => ⟨S32, .i32⟩
  | .hbm, ⟨48, _⟩ => ⟨S_, .i32⟩
  | .hbm, ⟨49, _⟩ => ⟨S32, .i32⟩
  | .hbm, ⟨50, _⟩ => ⟨S32, .i32⟩
  | .hbm, ⟨51, _⟩ => ⟨S_, .i32⟩
  | .hbm, ⟨52, _⟩ => ⟨S_, .i32⟩
  | .hbm, ⟨53, _⟩ => ⟨S32, .i32⟩
  | .hbm, ⟨54, _⟩ => ⟨S32, .i32⟩
  | .hbm, ⟨55, _⟩ => ⟨S1x32, .i32⟩
  | .hbm, ⟨56, _⟩ => ⟨S32768x32, .i32⟩
  | .hbm, ⟨57, _⟩ => ⟨S32768x32, .i32⟩
  | .hbm, ⟨58, _⟩ => ⟨S_, .i32⟩
  | .hbm, ⟨59, _⟩ => ⟨S32768, .i32⟩
  | .hbm, ⟨60, _⟩ => ⟨S32768, .i32⟩
  | .hbm, ⟨61, _⟩ => ⟨S96, .i32⟩
  | .hbm, ⟨62, _⟩ => ⟨S_, .i32⟩
  | .hbm, ⟨63, _⟩ => ⟨S96, .i32⟩
  | .hbm, ⟨64, _⟩ => ⟨S96, .i32⟩
  | .hbm, ⟨65, _⟩ => ⟨S96x1, .i32⟩
  | .hbm, ⟨66, _⟩ => ⟨S1x32, .i32⟩
  | .hbm, ⟨67, _⟩ => ⟨S96x32, .i32⟩
  | .hbm, ⟨68, _⟩ => ⟨S96x32, .i32⟩
  | .hbm, ⟨69, _⟩ => ⟨S96x32, .i1⟩
  | .hbm, ⟨70, _⟩ => ⟨S96x32, .i32⟩
  | .hbm, ⟨71, _⟩ => ⟨S_, .i32⟩
  | .hbm, ⟨72, _⟩ => ⟨S96, .i32⟩
  | .hbm, ⟨73, _⟩ => ⟨S_, .i32⟩
  | .hbm, ⟨74, _⟩ => ⟨S96, .i32⟩
  | .hbm, ⟨75, _⟩ => ⟨S1, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S_, .i1⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S512x1024, .f32⟩
  | .local _ .vmem, ⟨9, _⟩ => ⟨S512x1024, .f32⟩
  | .local _ .smem, ⟨0, _⟩ => ⟨S96, .i32⟩
  | .local _ .smem, ⟨1, _⟩ => ⟨S1, .i32⟩
  | _, _ => ⟨S16384x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_call0_c : Ref sig .tc := ⟨.hbm, 13, rfl⟩
abbrev main_call0_call0_v0 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_v21 : Ref sig .tc := ⟨.hbm, 50, rfl⟩
abbrev main_call2_call0_c : Ref sig .tc := ⟨.hbm, 51, rfl⟩
abbrev main_call2_call0_v0 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_5 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c_7 : Ref sig .tc := ⟨.hbm, 71, rfl⟩
abbrev main_v38 : Ref sig .tc := ⟨.hbm, 72, rfl⟩
abbrev main_c_8 : Ref sig .tc := ⟨.hbm, 73, rfl⟩
abbrev main_v39 : Ref sig .tc := ⟨.hbm, 74, rfl⟩
abbrev main_v41 : Ref sig .tc := ⟨.hbm, 75, rfl⟩
abbrev main_v42 : Ref sig .tc := ⟨.hbm, 76, rfl⟩
abbrev main_c_9 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_c : Ref sig .tc := ⟨.hbm, 84, rfl⟩
abbrev main_call3_v6 : Ref sig .tc := ⟨.hbm, 85, rfl⟩
abbrev main_call3_v7 : Ref sig .tc := ⟨.hbm, 86, rfl⟩
abbrev main_call3_c_0 : Ref sig .tc := ⟨.hbm, 87, rfl⟩
abbrev main_call3_v8 : Ref sig .tc := ⟨.hbm, 88, rfl⟩
abbrev main_v43 : Ref sig .tc := ⟨.hbm, 89, rfl⟩
abbrev main_v45 : Ref sig .tc := ⟨.hbm, 90, rfl⟩
abbrev main_v40 : Ref sig .tc := ⟨.smem, 0, rfl⟩
abbrev main_v44 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![96], ![false]⟩

abbrev pre0 : Pipeline.Prefetch sig := ⟨2, ![main_v40.idx, main_v44.idx], fun | 0 => main_v40.names | 1 => main_v44.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16384x2 : Shape := ⟨2, ![16384, 2]⟩
abbrev S49152x1024 : Shape := ⟨2, ![49152, 1024]⟩
abbrev S4x32x1024x256 : Shape := ⟨4, ![4, 32, 1024, 256]⟩
abbrev S4x32x256x1024 : Shape := ⟨4, ![4, 32, 256, 1024]⟩
abbrev S32768 : Shape := ⟨1, ![32768]⟩
abbrev S32 : Shape := ⟨1, ![32]⟩
abbrev S32768x1 : Shape := ⟨2, ![32768, 1]⟩
abbrev S1x32 : Shape := ⟨2, ![1, 32]⟩
abbrev S32768x32 : Shape := ⟨2, ![32768, 32]⟩
abbrev S_ : Shape := ⟨0, ![]⟩
abbrev S32x1 : Shape := ⟨2, ![32, 1]⟩
abbrev S32x32 : Shape := ⟨2, ![32, 32]⟩
abbrev S49152 : Shape := ⟨1, ![49152]⟩
abbrev S49152x1 : Shape := ⟨2, ![49152, 1]⟩
abbrev S49152x32 : Shape := ⟨2, ![49152, 32]⟩
abbrev S1x32x1024x256 : Shape := ⟨4, ![1, 32, 1024, 256]⟩
abbrev S32x1024x256 : Shape := ⟨3, ![32, 1024, 256]⟩
abbrev S49152x32x256 : Shape := ⟨3, ![49152, 32, 256]⟩
abbrev S49152x32x1 : Shape := ⟨3, ![49152, 32, 1]⟩
abbrev S1x32x256x1024 : Shape := ⟨4, ![1, 32, 256, 1024]⟩
abbrev S32x256x1024 : Shape := ⟨3, ![32, 256, 1024]⟩

abbrev nBuf : Space → Nat
  | .hbm => 92
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S49152x1024, .f32⟩
  | .hbm, ⟨2, _⟩ => ⟨S4x32x1024x256, .f32⟩
  | .hbm, ⟨3, _⟩ => ⟨S4x32x1024x256, .f32⟩
  | .hbm, ⟨4, _⟩ => ⟨S4x32x256x1024, .f32⟩
  | .hbm, ⟨5, _⟩ => ⟨S32768, .i32⟩
  | .hbm, ⟨6, _⟩ => ⟨S32, .i32⟩
  | .hbm, ⟨7, _⟩ => ⟨S32768x1, .i32⟩
  | .hbm, ⟨8, _⟩ => ⟨S1x32, .i32⟩
  | .hbm, ⟨9, _⟩ => ⟨S32768x32, .i32⟩
  | .hbm, ⟨10, _⟩ => ⟨S32768x32, .i32⟩
  | .hbm, ⟨11, _⟩ => ⟨S32768x32, .i1⟩
  | .hbm, ⟨12, _⟩ => ⟨S32768x32, .i32⟩
  | .hbm, ⟨13, _⟩ => ⟨S_, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i1⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S32, .i32⟩
  | .hbm, ⟨33, _⟩ => ⟨S32, .i1⟩
  | .hbm, ⟨34, _⟩ => ⟨S32, .i1⟩
  | .hbm, ⟨35, _⟩ => ⟨S_, .i32⟩
  | .hbm, ⟨36, _⟩ => ⟨S32, .i32⟩
  | .hbm, ⟨37, _⟩ => ⟨S32, .i32⟩
  | .hbm, ⟨38, _⟩ => ⟨S32, .i32⟩
  | .hbm, ⟨39, _⟩ => ⟨S1x32, .i32⟩
  | .hbm, ⟨40, _⟩ => ⟨S32x1, .i32⟩
  | .hbm, ⟨41, _⟩ => ⟨S32x32, .i32⟩
  | .hbm, ⟨42, _⟩ => ⟨S32x32, .i32⟩
  | .hbm, ⟨43, _⟩ => ⟨S32x32, .i1⟩
  | .hbm, ⟨44, _⟩ => ⟨S1x32, .i32⟩
  | .hbm, ⟨45, _⟩ => ⟨S_, .i32⟩
  | .hbm, ⟨46, _⟩ => ⟨S_, .i32⟩
  | .hbm, ⟨47, _⟩ => ⟨S32x32, .i32⟩
  | .hbm, ⟨48, _⟩ => ⟨S32x32, .i32⟩
  | .hbm, ⟨49, _⟩ => ⟨S32x32, .i32⟩
  | .hbm, ⟨50, _⟩ => ⟨S_, .i32⟩
  | .hbm, ⟨51, _⟩ => ⟨S32, .i32⟩
  | .hbm, ⟨52, _⟩ => ⟨S_, .i32⟩
  | .hbm, ⟨53, _⟩ => ⟨S32, .i32⟩
  | .hbm, ⟨54, _⟩ => ⟨S32, .i32⟩
  | .hbm, ⟨55, _⟩ => ⟨S49152, .i32⟩
  | .hbm, ⟨56, _⟩ => ⟨S1x32, .i32⟩
  | .hbm, ⟨57, _⟩ => ⟨S49152x1, .i32⟩
  | .hbm, ⟨58, _⟩ => ⟨S49152x32, .i32⟩
  | .hbm, ⟨59, _⟩ => ⟨S49152x32, .i32⟩
  | .hbm, ⟨60, _⟩ => ⟨S49152x32, .i1⟩
  | .hbm, ⟨61, _⟩ => ⟨S49152x32, .i32⟩
  | .hbm, ⟨62, _⟩ => ⟨S_, .i32⟩
  | .hbm, ⟨63, _⟩ => ⟨S49152, .i32⟩
  | .hbm, ⟨64, _⟩ => ⟨S49152x1, .i32⟩
  | .hbm, ⟨65, _⟩ => ⟨S1x32, .i32⟩
  | .hbm, ⟨66, _⟩ => ⟨S49152x32, .i32⟩
  | .hbm, ⟨67, _⟩ => ⟨S49152x32, .i32⟩
  | .hbm, ⟨68, _⟩ => ⟨S49152x32, .i1⟩
  | .hbm, ⟨69, _⟩ => ⟨S49152x32, .f32⟩
  | .hbm, ⟨70, _⟩ => ⟨S1x32x1024x256, .f32⟩
  | .hbm, ⟨71, _⟩ => ⟨S32x1024x256, .f32⟩
  | .hbm, ⟨72, _⟩ => ⟨S49152x32x256, .f32⟩
  | .hbm, ⟨73, _⟩ => ⟨S1x32x1024x256, .f32⟩
  | .hbm, ⟨74, _⟩ => ⟨S32x1024x256, .f32⟩
  | .hbm, ⟨75, _⟩ => ⟨S49152x32x256, .f32⟩
  | .hbm, ⟨76, _⟩ => ⟨S49152x32x256, .f32⟩
  | .hbm, ⟨77, _⟩ => ⟨S49152x32x256, .f32⟩
  | .hbm, ⟨78, _⟩ => ⟨S_, .f32⟩
  | .hbm, ⟨79, _⟩ => ⟨S49152x32x256, .f32⟩
  | .hbm, ⟨80, _⟩ => ⟨S49152x32x256, .f32⟩
  | .hbm, ⟨81, _⟩ => ⟨S_, .f32⟩
  | .hbm, ⟨82, _⟩ => ⟨S49152x32x256, .f32⟩
  | .hbm, ⟨83, _⟩ => ⟨S49152x32x256, .f32⟩
  | .hbm, ⟨84, _⟩ => ⟨S49152x32x256, .f32⟩
  | .hbm, ⟨85, _⟩ => ⟨S49152x32x256, .f32⟩
  | .hbm, ⟨86, _⟩ => ⟨S49152x32x1, .f32⟩
  | .hbm, ⟨87, _⟩ => ⟨S49152x32x256, .f32⟩
  | .hbm, ⟨88, _⟩ => ⟨S49152x32x256, .f32⟩
  | .hbm, ⟨89, _⟩ => ⟨S1x32x256x1024, .f32⟩
  | .hbm, ⟨90, _⟩ => ⟨S32x256x1024, .f32⟩
  | .hbm, ⟨91, _⟩ => ⟨S49152x1024, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v20 : Ref sig .tc := ⟨.hbm, 49, rfl⟩
abbrev main_c_4 : Ref sig .tc := ⟨.hbm, 50, rfl⟩
abbrev main_v21 : Ref sig .tc := ⟨.hbm, 51, rfl⟩
abbrev main_c_5 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_6 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_call2_v0 : Ref sig .tc := ⟨.hbm, 76, rfl⟩
abbrev main_call2_v1 : Ref sig .tc := ⟨.hbm, 77, rfl⟩
abbrev main_call2_cst : Ref sig .tc := ⟨.hbm, 78, rfl⟩
abbrev main_call2_v2 : Ref sig .tc := ⟨.hbm, 79, rfl⟩
abbrev main_call2_v3 : Ref sig .tc := ⟨.hbm, 80, rfl⟩
abbrev main_call2_cst_0 : Ref sig .tc := ⟨.hbm, 81, rfl⟩
abbrev main_call2_v4 : Ref sig .tc := ⟨.hbm, 82, rfl⟩
abbrev main_call2_v5 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩

abbrev nD : Nat := 1
abbrev τ : Topo := Topo.v7x

variable {F : FTy → Type} [FloatOps F]
-- ==== Kernel3.lean ====
abbrev S16384x2 : Shape := ⟨2, ![16384, 2]⟩
abbrev S16384x128 : Shape := ⟨2, ![16384, 128]⟩
abbrev S16384x1024 : Shape := ⟨2, ![16384, 1024]⟩
abbrev S49152x1024 : Shape := ⟨2, ![49152, 1024]⟩
abbrev S32768 : Shape := ⟨1, ![32768]⟩
abbrev S32768x1 : Shape := ⟨2, ![32768, 1]⟩
abbrev S32 : Shape := ⟨1, ![32]⟩
abbrev S1x32 : Shape := ⟨2, ![1, 32]⟩
abbrev S32768x32 : Shape := ⟨2, ![32768, 32]⟩
abbrev S_ : Shape := ⟨0, ![]⟩
abbrev S96 : Shape := ⟨1, ![96]⟩
abbrev S96x1 : Shape := ⟨2, ![96, 1]⟩
abbrev S96x32 : Shape := ⟨2, ![96, 32]⟩
abbrev S1 : Shape := ⟨1, ![1]⟩
abbrev S32x1x1024 : Shape := ⟨3, ![32, 1, 1024]⟩
abbrev S1x1x1024 : Shape := ⟨3, ![1, 1, 1024]⟩
abbrev S512x1024 : Shape := ⟨2, ![512, 1024]⟩
abbrev S512x128 : Shape := ⟨2, ![512, 128]⟩
abbrev S2x2x512x1024 : Shape := ⟨4, ![2, 2, 512, 1024]⟩
abbrev S2 : Shape := ⟨1, ![2]⟩
abbrev S1x1x1 : Shape := ⟨3, ![1, 1, 1]⟩
abbrev S1x1x512x1024 : Shape := ⟨4, ![1, 1, 512, 1024]⟩
abbrev S1x1024 : Shape := ⟨2, ![1, 1024]⟩
abbrev S512x1 : Shape := ⟨2, ![512, 1]⟩

abbrev nBuf : Space → Nat
  | .hbm => 93
  | .vmem => 7
  | .smem => 4
  | _ => 0

abbrev bufTy : (tb : Table) → Fin (tcTables nBuf tb) → BufTy
  | .hbm, ⟨0, _⟩ => ⟨S16384x2, .i32⟩
  | .hbm, ⟨1, _⟩ => ⟨S16384x128, .f32⟩
  | .hbm, ⟨2, _⟩ => ⟨S16384x1024, .f32⟩
  | .hbm, ⟨3, _⟩ => ⟨S49152x1024, .f32⟩
  | .hbm, ⟨4, _⟩ => ⟨S32768, .i32⟩
  | .hbm, ⟨5, _⟩ => ⟨S32768x1, .i32⟩
  | .hbm, ⟨6, _⟩ => ⟨S32, .i32⟩
  | .hbm, ⟨7, _⟩ => ⟨S1x32, .i32⟩
  | .hbm, ⟨8, _⟩ => ⟨S32768x32, .i32⟩
  | .hbm, ⟨9, _⟩ => ⟨S32768x32, .i32⟩
  | .hbm, ⟨10, _⟩ => ⟨S32768x32, .i1⟩
  | .hbm, ⟨11, _⟩ => ⟨S32768x32, .i32⟩
  | .hbm, ⟨12, _⟩ => ⟨S_, .i32⟩
  | .hbm, ⟨13, _⟩ => ⟨S_, .i32⟩
  | .hbm, ⟨14, _⟩ => ⟨S32768x32, .i32⟩
  | .hbm, ⟨15, _⟩ => ⟨S32768x32, .i32⟩
  | .hbm, ⟨16, _⟩ => ⟨S_, .i32⟩
  | .hbm, ⟨17, _⟩ => ⟨S32768, .i32⟩
  | .hbm, ⟨18, _⟩ => ⟨S_, .i32⟩
  | .hbm, ⟨19, _⟩ => ⟨S32768, .i32⟩
  | .hbm, ⟨20, _⟩ => ⟨S32768, .i32⟩
  | .hbm, ⟨21, _⟩ => ⟨S1x32, .i32⟩
  | .hbm, ⟨22, _⟩ => ⟨S32, .i32⟩
  | .hbm, ⟨23, _⟩ => ⟨S_, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S32, .i32⟩
  | .hbm, ⟨34, _⟩ => ⟨S_, .i32⟩
  | .hbm, ⟨35, _⟩ => ⟨S32, .i32⟩
  | .hbm, ⟨36, _⟩ => ⟨S32, .i1⟩
  | .hbm, ⟨37, _⟩ => ⟨S32, .i32⟩
  | .hbm, ⟨38, _⟩ => ⟨S32, .i32⟩
  | .hbm, ⟨39, _⟩ => ⟨S_, .i32⟩
  | .hbm, ⟨40, _⟩ => ⟨S32, .i32⟩
  | .hbm, ⟨41, _⟩ => ⟨S32, .i1⟩
  | .hbm, ⟨42, _⟩ => ⟨S32, .i1⟩
  | .hbm, ⟨43, _⟩ => ⟨S_, .i32⟩
  | .hbm, ⟨44, _⟩ => ⟨S32, .i32⟩
  | .hbm, ⟨45, _⟩ => ⟨S32, .i32⟩
  | .hbm, ⟨46, _⟩ => ⟨S32, .i32⟩
  | .hbm, ⟨47, _⟩ => ⟨S_, .i32⟩
  | .hbm, ⟨48, _⟩ => ⟨S32, .i32⟩
  | .hbm, ⟨49, _⟩ => ⟨S32, .i32⟩
  | .hbm, ⟨50, _⟩ => ⟨S_, .i32⟩
  | .hbm, ⟨51, _⟩ => ⟨S_, .i32⟩
  | .hbm, ⟨52, _⟩ => ⟨S32, .i32⟩
  | .hbm, ⟨53, _⟩ => ⟨S32, .i32⟩
  | .hbm, ⟨54, _⟩ => ⟨S1x32, .i32⟩
  | .hbm, ⟨55, _⟩ => ⟨S32768x32, .i32⟩
  | .hbm, ⟨56, _⟩ => ⟨S32768x32, .i32⟩
  | .hbm, ⟨57, _⟩ => ⟨S_, .i32⟩
  | .hbm, ⟨58, _⟩ => ⟨S32768, .i32⟩
  | .hbm, ⟨59, _⟩ => ⟨S32768, .i32⟩
  | .hbm, ⟨60, _⟩ => ⟨S96, .i32⟩
  | .hbm, ⟨61, _⟩ => ⟨S_, .i32⟩
  | .hbm, ⟨62, _⟩ => ⟨S96, .i32⟩
  | .hbm, ⟨63, _⟩ => ⟨S96, .i32⟩
  | .hbm, ⟨64, _⟩ => ⟨S96x1, .i32⟩
  | .hbm, ⟨65, _⟩ => ⟨S1x32, .i32⟩
  | .hbm, ⟨66, _⟩ => ⟨S96x32, .i32⟩
  | .hbm, ⟨67, _⟩ => ⟨S96x32, .i32⟩
  | .hbm, ⟨68, _⟩ => ⟨S96x32, .i1⟩
  | .hbm, ⟨69, _⟩ => ⟨S96x32, .i32⟩
  | .hbm, ⟨70, _⟩ => ⟨S_, .i32⟩
  | .hbm, ⟨71, _⟩ => ⟨S96, .i32⟩
  | .hbm, ⟨72, _⟩ => ⟨S_, .i32⟩
  | .hbm, ⟨73, _⟩ => ⟨S96, .i32⟩
  | .hbm, ⟨74, _⟩ => ⟨S96, .i32⟩
  | .hbm, ⟨75, _⟩ => ⟨S1, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S_, .i1⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S1, .i32⟩
  | .hbm, ⟨91, _⟩ => ⟨S32x1x1024, .i32⟩
  | .hbm, ⟨92, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x1024, .f32⟩
  | .local _ .vmem, ⟨5, _⟩ => ⟨S512x1024, .f32⟩
  | .local _ .vmem, ⟨6, _⟩ => ⟨S2x2x512x1024, .f32⟩
  | .local _ .smem, ⟨0, _⟩ => ⟨S1x1x1024, .i32⟩
  | .local _ .smem, ⟨1, _⟩ => ⟨S1x1x1024, .i32⟩
  | .local _ .smem, ⟨2, _⟩ => ⟨S1x1x1024, .i32⟩
  | .local _ .smem, ⟨3, _⟩ => ⟨S1x1x1024, .i32⟩
  | _, _ => ⟨S16384x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_call2_call0_c : Ref sig .tc := ⟨.hbm, 50, rfl⟩
abbrev main_call2_call0_v0 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_6 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_7 : Ref sig .tc := ⟨.hbm, 70, rfl⟩
abbrev main_v38 : Ref sig .tc := ⟨.hbm, 71, rfl⟩
abbrev main_c_8 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_9 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_c : Ref sig .tc := ⟨.hbm, 84, rfl⟩
abbrev main_call3_v6 : Ref sig .tc := ⟨.hbm, 85, rfl⟩
abbrev main_call3_v7 : Ref sig .tc := ⟨.hbm, 86, rfl⟩
abbrev main_call3_c_0 : Ref sig .tc := ⟨.hbm, 87, rfl⟩
abbrev main_call3_v8 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_19 : BitVec 32 := 0#32
  let c512_i32_20 : BitVec 32 := 512#32
  let v35 : BitVec 32 := Scalar.addi c0_i32_19 c512_i32_20
  let c1_i32_21 : BitVec 32 := 1#32
  ⟨c0_i32_19, v35, c1_i32_21⟩
def k0_off1 (k0_t1 : Fin k0_t1_loop.trips) : Fin 3 → Nat :=
  let c0_25 : Index := 0#32
  let c0_26 : Index := 0#32
  let c2_i32_23 : BitVec 32 := 2#32
  let c0_i32_19 : BitVec 32 := 0#32
  let c1_i32_21 : BitVec 32 := 1#32
  let arg9 : BitVec 32 := Scf.iv c0_i32_19 c1_i32_21 k0_t1
  let v36 : BitVec 32 := Scalar.muli c2_i32_23 arg9
  let c0_i32_24 : BitVec 32 := 0#32
  let v37 : BitVec 32 := Scalar.addi v36 c0_i32_24
  let v38 : Index := Scalar.indexCast v37
  ![0, 0, v38.toNat]
def k0_off2 (k0_t1 : Fin k0_t1_loop.trips) : Fin 2 → Nat :=
  let c0_i32_19 : BitVec 32 := 0#32
  let c1_i32_21 : BitVec 32 := 1#32
  let arg9 : BitVec 32 := Scf.iv c0_i32_19 c1_i32_21 k0_t1
  let c0_i32_32 : BitVec 32 := 0#32
  ![arg9.toNat, 0]
def k0_off3 (v39 : BitVec 32) : Fin 2 → Nat :=
  let c0_i32_33 : BitVec 32 := 0#32
  ![v39.toNat, 0]

def k0_chk1 (i : grid0.Coords) (v39 : BitVec 32) : Prop :=
  (∀ (k0_h1 : k0_cond1 i = 1#1), ∀ a, (k0_off3 v39) a + S1x1024.size a ≤ S49152x1024.size a)
theorem k0_off3_inb : ∀ (i : grid0.Coords) (v39 : BitVec 32) (k0_hw1 : k0_chk1 i v39), ∀ (k0_h1 : k0_cond1 i = 1#1), ∀ a, (k0_off3 v39) a + S1x1024.size a ≤ S49152x1024.size a := fun i v39 k0_hw1 k0_h1 => k0_hw1 k0_h1

def k0_off4 (k0_t1 : Fin k0_t1_loop.trips) : Fin 3 → Nat :=
  let c0_36 : Index := 0#32
  let c0_37 : Index := 0#32
  let c2_i32_34 : BitVec 32 := 2#32
  let c0_i32_19 : BitVec 32 := 0#32
  let c1_i32_21 : BitVec 32 := 1#32
  let arg9 : BitVec 32 := Scf.iv c0_i32_19 c1_i32_21 k0_t1
  let v46 : BitVec 32 := Scalar.muli c2_i32_34 arg9
  let c1_i32_35 : BitVec 32 := 1#32
  let v47 : BitVec 32 := Scalar.addi v46 c1_i32_35
  let v48 : Index := Scalar.indexCast v47
  ![0, 0, v48.toNat]
def k0_off5 (k0_t1 : Fin k0_t1_loop.trips) : Fin 2 → Nat :=
  let c0_i32_19 : BitVec 32 := 0#32
  let c1_i32_21 : BitVec 32 := 1#32
  let arg9 : BitVec 32 := Scf.iv c0_i32_19 c1_i32_21 k0_t1
  let c0_i32_43 : BitVec 32 := 0#32
  ![arg9.toNat, 0]
def k0_off6 (v49 : BitVec 32) : Fin 2 → Nat :=
  let c0_i32_44 : BitVec 32 := 0#32
  ![v49.toNat, 0]

def k0_chk2 (i : grid0.Coords) (v49 : BitVec 32) : Prop :=
  (∀ (k0_h1 : k0_cond1 i = 1#1), ∀ a, (k0_off6 v49) a + S1x1024.size a ≤ S49152x1024.size a)
theorem k0_off6_inb : ∀ (i : grid0.Coords) (v49 : BitVec 32) (k0_hw2 : k0_chk2 i v49), ∀ (k0_h1 : k0_cond1 i = 1#1), ∀ a, (k0_off6 v49) a + S1x1024.size a ≤ S49152x1024.size a := fun i v49 k0_hw2 k0_h1 => k0_hw2 k0_h1

def k0_cond2 (i : grid0.Coords) : BitVec 1 :=
  let arg0 : BitVec 32 := BitVec.ofNat 32 (i 0).val
  let c1_i32 : BitVec 32 := 1#32
  let v3 : BitVec 32 := Scalar.addi arg0 c1_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

@[reducible] def k0_t2_loop : Scf.Loop 32 :=
  let c0_i32_26 : BitVec 32 := 0#32
  let c512_i32_27 : BitVec 32 := 512#32
  let v46 : BitVec 32 := Scalar.addi c0_i32_26 c512_i32_27
  let c1_i32_28 : BitVec 32 := 1#32
  ⟨c0_i32_26, v46, c1_i32_28⟩
def k0_off7 (k0_t2 : Fin k0_t2_loop.trips) : Fin 3 → Nat :=
  let c0_32 : Index := 0#32
  let c0_33 : Index := 0#32
  let c2_i32_30 : BitVec 32 := 2#32
  let c0_i32_26 : BitVec 32 := 0#32
  let c1_i32_28 : BitVec 32 := 1#32
  let arg9 : BitVec 32 := Scf.iv c0_i32_26 c1_i32_28 k0_t2
  let v47 : BitVec 32 := Scalar.muli c2_i32_30 arg9
  let c0_i32_31 : BitVec 32 := 0#32
  let v48 : BitVec 32 := Scalar.addi v47 c0_i32_31
  let v49 : Index := Scalar.indexCast v48
  ![0, 0, v49.toNat]
def k0_off8 (i : grid0.Coords) : Fin 1 → Nat :=
  let arg0 : BitVec 32 := BitVec.ofNat 32 (i 0).val
  let c1_i32_19 : BitVec 32 := 1#32
  let v35 : BitVec 32 := Scalar.addi arg0 c1_i32_19
  let c2_i32_20 : BitVec 32 := 2#32
  let c0_i32_21 : BitVec 32 := 0#32
  let v36 : BitVec 1 := Scalar.cmpi .eq c2_i32_20 c0_i32_21
  let c1_i32_22 : BitVec 32 := 1#32
  let v37 : BitVec 32 := Scalar.select v36 c1_i32_22 c2_i32_20
  let v38 : BitVec 32 := Scalar.remsi v35 v37
  let c0_i32_24 : BitVec 32 := 0#32
  let v40 : BitVec 1 := Scalar.cmpi .slt v38 c0_i32_24
  let c0_i32_25 : BitVec 32 := 0#32
  let v41 : BitVec 1 := Scalar.cmpi .slt v37 c0_i32_25
  let v42 : BitVec 1 := Scalar.xori v40 v41
  let c0_i32_23 : BitVec 32 := 0#32
  let v39 : BitVec 1 := Scalar.cmpi .ne v38 c0_i32_23
  let v43 : BitVec 1 := Scalar.andi v42 v39
  let v44 : BitVec 32 := Scalar.addi v38 v37
  let v45 : BitVec 32 := Scalar.select v43 v44 v38
  ![v45.toNat]
def k0_off9 (i : grid0.Coords) : Fin 4 → Nat :=
  let arg0 : BitVec 32 := BitVec.ofNat 32 (i 0).val
  let c1_i32_19 : BitVec 32 := 1#32
  let v35 : BitVec 32 := Scalar.addi arg0 c1_i32_19
  let c2_i32_20 : BitVec 32 := 2#32
  let c0_i32_21 : BitVec 32 := 0#32
  let v36 : BitVec 1 := Scalar.cmpi .eq c2_i32_20 c0_i32_21
  let c1_i32_22 : BitVec 32 := 1#32
  let v37 : BitVec 32 := Scalar.select v36 c1_i32_22 c2_i32_20
  let v38 : BitVec 32 := Scalar.remsi v35 v37
  let c0_i32_24 : BitVec 32 := 0#32
  let v40 : BitVec 1 := Scalar.cmpi .slt v38 c0_i32_24
  let c0_i32_25 : BitVec 32 := 0#32
  let v41 : BitVec 1 := Scalar.cmpi .slt v37 c0_i32_25
  let v42 : BitVec 1 := Scalar.xori v40 v41
  let c0_i32_23 : BitVec 32 := 0#32
  let v39 : BitVec 1 := Scalar.cmpi .ne v38 c0_i32_23
  let v43 : BitVec 1 := Scalar.andi v42 v39
  let v44 : BitVec 32 := Scalar.addi v38 v37
  let v45 : BitVec 32 := Scalar.select v43 v44 v38
  let c0_i32_34 : BitVec 32 := 0#32
  let c0_i32_35 : BitVec 32 := 0#32
  let c0_i32_36 : BitVec 32 := 0#32
  ![v45.toNat, 0, 0, 0]
def k0_off10 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let c0_i32_37 : BitVec 32 := 0#32
  ![arg9.toNat, 0]
def k0_off11 (v50 : BitVec 32) : Fin 2 → Nat :=
  let c0_i32_38 : BitVec 32 := 0#32
  ![v50.toNat, 0]

def k0_chk3 (i : grid0.Coords) (v50 : BitVec 32) : Prop :=
  (∀ (k0_h2 : k0_cond2 i = 1#1), ∀ a, (k0_off11 v50) a + S1x1024.size a ≤ S49152x1024.size a)
theorem k0_off11_inb : ∀ (i : grid0.Coords) (v50 : BitVec 32) (k0_hw3 : k0_chk3 i v50), ∀ (k0_h2 : k0_cond2 i = 1#1), ∀ a, (k0_off11 v50) a + S1x1024.size a ≤ S49152x1024.size a := fun i v50 k0_hw3 k0_h2 => k0_hw3 k0_h2

def k0_off12 (k0_t2 : Fin k0_t2_loop.trips) : Fin 3 → Nat :=
  let c0_41 : Index := 0#32
  let c0_42 : Index := 0#32
  let c2_i32_39 : BitVec 32 := 2#32
  let c0_i32_26 : BitVec 32 := 0#32
  let c1_i32_28 : BitVec 32 := 1#32
  let arg9 : BitVec 32 := Scf.iv c0_i32_26 c1_i32_28 k0_t2
  let v57 : BitVec 32 := Scalar.muli c2_i32_39 arg9
  let c1_i32_40 : BitVec 32 := 1#32
  let v58 : BitVec 32 := Scalar.addi v57 c1_i32_40
  let v59 : Index := Scalar.indexCast v58
  ![0, 0, v59.toNat]
def k0_off13 (i : grid0.Coords) : Fin 1 → Nat :=
  let arg0 : BitVec 32 := BitVec.ofNat 32 (i 0).val
  let c1_i32_19 : BitVec 32 := 1#32
  let v35 : BitVec 32 := Scalar.addi arg0 c1_i32_19
  let c2_i32_20 : BitVec 32 := 2#32
  let c0_i32_21 : BitVec 32 := 0#32
  let v36 : BitVec 1 := Scalar.cmpi .eq c2_i32_20 c0_i32_21
  let c1_i32_22 : BitVec 32 := 1#32
  let v37 : BitVec 32 := Scalar.select v36 c1_i32_22 c2_i32_20
  let v38 : BitVec 32 := Scalar.remsi v35 v37
  let c0_i32_24 : BitVec 32 := 0#32
  let v40 : BitVec 1 := Scalar.cmpi .slt v38 c0_i32_24
  let c0_i32_25 : BitVec 32 := 0#32
  let v41 : BitVec 1 := Scalar.cmpi .slt v37 c0_i32_25
  let v42 : BitVec 1 := Scalar.xori v40 v41
  let c0_i32_23 : BitVec 32 := 0#32
  let v39 : BitVec 1 := Scalar.cmpi .ne v38 c0_i32_23
  let v43 : BitVec 1 := Scalar.andi v42 v39
  let v44 : BitVec 32 := Scalar.addi v38 v37
  let v45 : BitVec 32 := Scalar.select v43 v44 v38
  ![v45.toNat]
def k0_off14 (i : grid0.Coords) : Fin 4 → Nat :=
  let arg0 : BitVec 32 := BitVec.ofNat 32 (i 0).val
  let c1_i32_19 : BitVec 32 := 1#32
  let v35 : BitVec 32 := Scalar.addi arg0 c1_i32_19
  let c2_i32_20 : BitVec 32 := 2#32
  let c0_i32_21 : BitVec 32 := 0#32
  let v36 : BitVec 1 := Scalar.cmpi .eq c2_i32_20 c0_i32_21
  let c1_i32_22 : BitVec 32 := 1#32
  let v37 : BitVec 32 := Scalar.select v36 c1_i32_22 c2_i32_20
  let v38 : BitVec 32 := Scalar.remsi v35 v37
  let c0_i32_24 : BitVec 32 := 0#32
  let v40 : BitVec 1 := Scalar.cmpi .slt v38 c0_i32_24
  let c0_i32_25 : BitVec 32 := 0#32
  let v41 : BitVec 1 := Scalar.cmpi .slt v37 c0_i32_25
  let v42 : BitVec 1 := Scalar.xori v40 v41
  let c0_i32_23 : BitVec 32 := 0#32
  let v39 : BitVec 1 := Scalar.cmpi .ne v38 c0_i32_23
  let v43 : BitVec 1 := Scalar.andi v42 v39
  let v44 : BitVec 32 := Scalar.addi v38 v37
  let v45 : BitVec 32 := Scalar.select v43 v44 v38
  let c1_i32_43 : BitVec 32 := 1#32
  let c0_i32_44 : BitVec 32 := 0#32
  let c0_i32_45 : BitVec 32 := 0#32
  ![v45.toNat, 1, 0, 0]
def k0_off15 (k0_t2 : Fin k0_t2_loop.trips) : Fin 2 → Nat :=
  let c0_i32_26 : BitVec 32 := 0#32
  let c1_i32_28 : BitVec 32 := 1#32
  let arg9 : BitVec 32 := Scf.iv c0_i32_26 c1_i32_28 k0_t2
  let c0_i32_46 : BitVec 32 := 0#32
  ![arg9.toNat, 0]
def k0_off16 (v60 : BitVec 32) : Fin 2 → Nat :=
  let c0_i32_47 : BitVec 32 := 0#32
  ![v60.toNat, 0]

def k0_chk4 (i : grid0.Coords) (v60 : BitVec 32) : Prop :=
  (∀ (k0_h2 : k0_cond2 i = 1#1), ∀ a, (k0_off16 v60) a + S1x1024.size a ≤ S49152x1024.size a)
theorem k0_off16_inb : ∀ (i : grid0.Coords) (v60 : BitVec 32) (k0_hw4 : k0_chk4 i v60), ∀ (k0_h2 : k0_cond2 i = 1#1), ∀ a, (k0_off16 v60) a + S1x1024.size a ≤ S49152x1024.size a := fun i v60 k0_hw4 k0_h2 => k0_hw4 k0_h2

@[reducible] def k0_t3_loop : Scf.Loop 32 :=
  let c0_i32_7 : BitVec 32 := 0#32
  let c512_i32 : BitVec 32 := 512#32
  let v17 : BitVec 32 := Scalar.addi c0_i32_7 c512_i32
  let c1_i32_8 : BitVec 32 := 1#32
  ⟨c0_i32_7, v17, c1_i32_8⟩
def k0_off17 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off18 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_19 : BitVec 32 := 0#32
  let c0_i32_20 : BitVec 32 := 0#32
  let c0_i32_21 : BitVec 32 := 0#32
  ![v16.toNat, 0, 0, 0]
def k0_off19 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_26 : BitVec 32 := 1#32
  let c0_i32_27 : BitVec 32 := 0#32
  let c0_i32_28 : BitVec 32 := 0#32
  ![v16.toNat, 1, 0, 0]
def k0_off20 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v21 : Index := Scalar.indexCast v16
  let c0_12 : Index := 0#32
  let c0_13 : Index := 0#32
  let c0_14 : Index := 0#32
  ![v21.toNat, 0, 0, 0]
def k0_off21 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v28 : Index := Scalar.indexCast v16
  let c1 : Index := 1#32
  let c0_15 : Index := 0#32
  let c0_16 : Index := 0#32
  ![v28.toNat, 1, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16384x2 : Shape := ⟨2, ![16384, 2]⟩
abbrev S16384x128 : Shape := ⟨2, ![16384, 128]⟩
abbrev S16384x1024 : Shape := ⟨2, ![16384, 1024]⟩
abbrev S49152x1024 : Shape := ⟨2, ![49152, 1024]⟩
abbrev S32768 : Shape := ⟨1, ![32768]⟩
abbrev S1x32768 : Shape := ⟨2, ![1, 32768]⟩
abbrev S32768x1 : Shape := ⟨2, ![32768, 1]⟩
abbrev S32768x32768 : Shape := ⟨2, ![32768, 32768]⟩
abbrev S_ : Shape := ⟨0, ![]⟩
abbrev S32 : Shape := ⟨1, ![32]⟩
abbrev S1x32 : Shape := ⟨2, ![1, 32]⟩
abbrev S32768x32 : Shape := ⟨2, ![32768, 32]⟩
abbrev S32768x1024 : Shape := ⟨2, ![32768, 1024]⟩
abbrev S16384x2x1024 : Shape := ⟨3, ![16384, 2, 1024]⟩
abbrev S16384x2x1 : Shape := ⟨3, ![16384, 2, 1]⟩

abbrev nBuf : Space → Nat
  | .hbm => 87
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S16384x128, .f32⟩
  | .hbm, ⟨2, _⟩ => ⟨S16384x1024, .f32⟩
  | .hbm, ⟨3, _⟩ => ⟨S49152x1024, .f32⟩
  | .hbm, ⟨4, _⟩ => ⟨S32768, .i32⟩
  | .hbm, ⟨5, _⟩ => ⟨S32768, .i32⟩
  | .hbm, ⟨6, _⟩ => ⟨S1x32768, .i32⟩
  | .hbm, ⟨7, _⟩ => ⟨S32768x1, .i32⟩
  | .hbm, ⟨8, _⟩ => ⟨S32768x32768, .i32⟩
  | .hbm, ⟨9, _⟩ => ⟨S32768x32768, .i32⟩
  | .hbm, ⟨10, _⟩ => ⟨S32768x32768, .i1⟩
  | .hbm, ⟨11, _⟩ => ⟨S1x32768, .i32⟩
  | .hbm, ⟨12, _⟩ => ⟨S32768x1, .i32⟩
  | .hbm, ⟨13, _⟩ => ⟨S32768x32768, .i32⟩
  | .hbm, ⟨14, _⟩ => ⟨S32768x32768, .i32⟩
  | .hbm, ⟨15, _⟩ => ⟨S32768x32768, .i1⟩
  | .hbm, ⟨16, _⟩ => ⟨S32768x32768, .i1⟩
  | .hbm, ⟨17, _⟩ => ⟨S32768x32768, .i32⟩
  | .hbm, ⟨18, _⟩ => ⟨S_, .i32⟩
  | .hbm, ⟨19, _⟩ => ⟨S32768, .i32⟩
  | .hbm, ⟨20, _⟩ => ⟨S32, .i32⟩
  | .hbm, ⟨21, _⟩ => ⟨S32768x1, .i32⟩
  | .hbm, ⟨22, _⟩ => ⟨S1x32, .i32⟩
  | .hbm, ⟨23, _⟩ => ⟨S32768x32, .i32⟩
  | .hbm, ⟨24, _⟩ => ⟨S32768x32, .i32⟩
  | .hbm, ⟨25, _⟩ => ⟨S32768x32, .i1⟩
  | .hbm, ⟨26, _⟩ => ⟨S32768x32, .i32⟩
  | .hbm, ⟨27, _⟩ => ⟨S_, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S32, .i32⟩
  | .hbm, ⟨40, _⟩ => ⟨S_, .i32⟩
  | .hbm, ⟨41, _⟩ => ⟨S32, .i32⟩
  | .hbm, ⟨42, _⟩ => ⟨S32, .i1⟩
  | .hbm, ⟨43, _⟩ => ⟨S32, .i32⟩
  | .hbm, ⟨44, _⟩ => ⟨S32, .i32⟩
  | .hbm, ⟨45, _⟩ => ⟨S_, .i32⟩
  | .hbm, ⟨46, _⟩ => ⟨S32, .i32⟩
  | .hbm, ⟨47, _⟩ => ⟨S32, .i1⟩
  | .hbm, ⟨48, _⟩ => ⟨S32, .i1⟩
  | .hbm, ⟨49, _⟩ => ⟨S_, .i32⟩
  | .hbm, ⟨50, _⟩ => ⟨S32, .i32⟩
  | .hbm, ⟨51, _⟩ => ⟨S32, .i32⟩
  | .hbm, ⟨52, _⟩ => ⟨S32, .i32⟩
  | .hbm, ⟨53, _⟩ => ⟨S32768x1, .i32⟩
  | .hbm, ⟨54, _⟩ => ⟨S1x32, .i32⟩
  | .hbm, ⟨55, _⟩ => ⟨S32768x32, .i32⟩
  | .hbm, ⟨56, _⟩ => ⟨S32768x32, .i32⟩
  | .hbm, ⟨57, _⟩ => ⟨S32768x32, .i1⟩
  | .hbm, ⟨58, _⟩ => ⟨S1x32, .i32⟩
  | .hbm, ⟨59, _⟩ => ⟨S_, .i32⟩
  | .hbm, ⟨60, _⟩ => ⟨S_, .i32⟩
  | .hbm, ⟨61, _⟩ => ⟨S32768x32, .i32⟩
  | .hbm, ⟨62, _⟩ => ⟨S32768x32, .i32⟩
  | .hbm, ⟨63, _⟩ => ⟨S32768x32, .i32⟩
  | .hbm, ⟨64, _⟩ => ⟨S_, .i32⟩
  | .hbm, ⟨65, _⟩ => ⟨S32768, .i32⟩
  | .hbm, ⟨66, _⟩ => ⟨S_, .i32⟩
  | .hbm, ⟨67, _⟩ => ⟨S32768, .i32⟩
  | .hbm, ⟨68, _⟩ => ⟨S32768, .i32⟩
  | .hbm, ⟨69, _⟩ => ⟨S32768, .i32⟩
  | .hbm, ⟨70, _⟩ => ⟨S_, .i32⟩
  | .hbm, ⟨71, _⟩ => ⟨S32768, .i32⟩
  | .hbm, ⟨72, _⟩ => ⟨S32768, .i1⟩
  | .hbm, ⟨73, _⟩ => ⟨S_, .i32⟩
  | .hbm, ⟨74, _⟩ => ⟨S32768, .i32⟩
  | .hbm, ⟨75, _⟩ => ⟨S32768, .i32⟩
  | .hbm, ⟨76, _⟩ => ⟨S32768, .i32⟩
  | .hbm, ⟨77, _⟩ => ⟨S32768x1, .i32⟩
  | .hbm, ⟨78, _⟩ => ⟨S32768x1024, .f32⟩
  | .hbm, ⟨79, _⟩ => ⟨S16384x2x1024, .f32⟩
  | .hbm, ⟨80, _⟩ => ⟨S16384x2, .f32⟩
  | .hbm, ⟨81, _⟩ => ⟨S16384x2x1, .f32⟩
  | .hbm, ⟨82, _⟩ => ⟨S16384x2x1024, .f32⟩
  | .hbm, ⟨83, _⟩ => ⟨S16384x2x1024, .f32⟩
  | .hbm, ⟨84, _⟩ => ⟨S_, .f32⟩
  | .hbm, ⟨85, _⟩ => ⟨S16384x1024, .f32⟩
  | .hbm, ⟨86, _⟩ => ⟨S16384x1024, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_c_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_4 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v34 : Ref sig .tc := ⟨.hbm, 63, rfl⟩
abbrev main_c_5 : Ref sig .tc := ⟨.hbm, 64, rfl⟩
abbrev main_v35 : Ref sig .tc := ⟨.hbm, 65, rfl⟩
abbrev main_c_6 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_7 : Ref sig .tc := ⟨.hbm, 70, rfl⟩
abbrev main_v39 : Ref sig .tc := ⟨.hbm, 71, rfl⟩
abbrev main_v40 : Ref sig .tc := ⟨.hbm, 72, rfl⟩
abbrev main_c_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst : Ref sig .tc := ⟨.hbm, 84, rfl⟩
abbrev main_v51 : Ref sig .tc := ⟨.hbm, 85, rfl⟩
abbrev main_v52 : Ref sig .tc := ⟨.hbm, 86, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x3072 : Shape := ⟨2, ![1024, 3072]⟩
abbrev S64 : Shape := ⟨1, ![64]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S1x64 : Shape := ⟨2, ![1, 64]⟩
abbrev S8x64 : Shape := ⟨2, ![8, 64]⟩
abbrev S16384x512 : Shape := ⟨2, ![16384, 512]⟩
abbrev S512x1024 : Shape := ⟨2, ![512, 1024]⟩
abbrev S512x128 : Shape := ⟨2, ![512, 128]⟩
abbrev S1024x512 : Shape := ⟨2, ![1024, 512]⟩

abbrev nBuf : Space → Nat
  | .hbm => 89
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S4096, .f32⟩
  | .hbm, ⟨22, _⟩ => ⟨S4096x1, .f32⟩
  | .hbm, ⟨23, _⟩ => ⟨S1x8, .f32⟩
  | .hbm, ⟨24, _⟩ => ⟨S4096x8, .f32⟩
  | .hbm, ⟨25, _⟩ => ⟨S4096x8, .f32⟩
  | .hbm, ⟨26, _⟩ => ⟨S4096x8, .f32⟩
  | .hbm, ⟨27, _⟩ => ⟨S4096x8, .f32⟩
  | .hbm, ⟨28, _⟩ => ⟨S4096x8, .f32⟩
  | .hbm, ⟨29, _⟩ => ⟨S_, .f32⟩
  | .hbm, ⟨30, _⟩ => ⟨S4096x48, .f32⟩
  | .hbm, ⟨31, _⟩ => ⟨S_, .f32⟩
  | .hbm, ⟨32, _⟩ => ⟨S4096x8, .f32⟩
  | .hbm, ⟨33, _⟩ => ⟨S_, .f32⟩
  | .hbm, ⟨34, _⟩ => ⟨S4096x48, .f32⟩
  | .hbm, ⟨35, _⟩ => ⟨S4096x64, .f32⟩
  | .hbm, ⟨36, _⟩ => ⟨S4096x8, .f32⟩
  | .hbm, ⟨37, _⟩ => ⟨S4096x64, .f32⟩
  | .hbm, ⟨38, _⟩ => ⟨S4096x64, .f32⟩
  | .hbm, ⟨39, _⟩ => ⟨S1x4096x1x64, .f32⟩
  | .hbm, ⟨40, _⟩ => ⟨S1x4096x2x64, .f32⟩
  | .hbm, ⟨41, _⟩ => ⟨S4096x128, .f32⟩
  | .hbm, ⟨42, _⟩ => ⟨S1x4096x1x64, .f32⟩
  | .hbm, ⟨43, _⟩ => ⟨S1x4096x2x64, .f32⟩
  | .hbm, ⟨44, _⟩ => ⟨S4096x128, .f32⟩
  | .hbm, ⟨45, _⟩ => ⟨S1x4096x1x64, .f32⟩
  | .hbm, ⟨46, _⟩ => ⟨S1x4096x2x64, .f32⟩
  | .hbm, ⟨47, _⟩ => ⟨S4096x128, .f32⟩
  | .hbm, ⟨48, _⟩ => ⟨S512, .i32⟩
  | .hbm, ⟨49, _⟩ => ⟨S_, .i32⟩
  | .hbm, ⟨50, _⟩ => ⟨S_, .i32⟩
  | .hbm, ⟨51, _⟩ => ⟨S512, .i32⟩
  | .hbm, ⟨52, _⟩ => ⟨S512, .i32⟩
  | .hbm, ⟨53, _⟩ => ⟨S512, .i32⟩
  | .hbm, ⟨54, _⟩ => ⟨S_, .i32⟩
  | .hbm, ⟨55, _⟩ => ⟨S512, .i32⟩
  | .hbm, ⟨56, _⟩ => ⟨S512, .i1⟩
  | .hbm, ⟨57, _⟩ => ⟨S512, .i32⟩
  | .hbm, ⟨58, _⟩ => ⟨S512, .i32⟩
  | .hbm, ⟨59, _⟩ => ⟨S_, .i32⟩
  | .hbm, ⟨60, _⟩ => ⟨S512, .i32⟩
  | .hbm, ⟨61, _⟩ => ⟨S512, .i1⟩
  | .hbm, ⟨62, _⟩ => ⟨S512, .i1⟩
  | .hbm, ⟨63, _⟩ => ⟨S_, .i32⟩
  | .hbm, ⟨64, _⟩ => ⟨S512, .i32⟩
  | .hbm, ⟨65, _⟩ => ⟨S512, .i32⟩
  | .hbm, ⟨66, _⟩ => ⟨S512, .i32⟩
  | .hbm, ⟨67, _⟩ => ⟨S512x1, .i32⟩
  | .hbm, ⟨68, _⟩ => ⟨S1x512, .i32⟩
  | .hbm, ⟨69, _⟩ => ⟨S512x512, .i32⟩
  | .hbm, ⟨70, _⟩ => ⟨S512x512, .i32⟩
  | .hbm, ⟨71, _⟩ => ⟨S512x512, .i1⟩
  | .hbm, ⟨72, _⟩ => ⟨S512x512, .bf16⟩
  | .hbm, ⟨73, _⟩ => ⟨S1x1024, .f32⟩
  | .hbm, ⟨74, _⟩ => ⟨S1024x3072, .bf16⟩
  | .hbm, ⟨75, _⟩ => ⟨S1x64, .f32⟩
  | .hbm, ⟨76, _⟩ => ⟨S8x64, .f32⟩
  | .hbm, ⟨77, _⟩ => ⟨S512, .f32⟩
  | .hbm, ⟨78, _⟩ => ⟨S1x512, .f32⟩
  | .hbm, ⟨79, _⟩ => ⟨S1x64, .f32⟩
  | .hbm, ⟨80, _⟩ => ⟨S8x64, .f32⟩
  | .hbm, ⟨81, _⟩ => ⟨S512, .f32⟩
  | .hbm, ⟨82, _⟩ => ⟨S1x512, .f32⟩
  | .hbm, ⟨83, _⟩ => ⟨S16384x512, .bf16⟩
  | .hbm, ⟨84, _⟩ => ⟨S16384x512, .bf16⟩
  | .hbm, ⟨85, _⟩ => ⟨S16384x512, .bf16⟩
  | .hbm, ⟨86, _⟩ => ⟨S16384x512, .bf16⟩
  | .hbm, ⟨87, _⟩ => ⟨S16384x512, .bf16⟩
  | .hbm, ⟨88, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x512, .f32⟩
  | .local _ .vmem, ⟨5, _⟩ => ⟨S1x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_c : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_0 : Ref sig .tc := ⟨.hbm, 63, rfl⟩
abbrev main_call0_v12 : Ref sig .tc := ⟨.hbm, 64, rfl⟩
abbrev main_call0_v13 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53_0 : Ref sig .tc := ⟨.hbm, 83, rfl⟩
abbrev main_v53_1 : Ref sig .tc := ⟨.hbm, 84, rfl⟩
abbrev main_v53_2 : Ref sig .tc := ⟨.hbm, 85, rfl⟩
abbrev main_v53_3 : Ref sig .tc := ⟨.hbm, 86, rfl⟩
abbrev main_v53_4 : Ref sig .tc := ⟨.hbm, 87, rfl⟩
abbrev main_v53_5 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S16384x1024 : Shape := ⟨2, ![16384, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S16384x512 : Shape := ⟨2, ![16384, 512]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x3072, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .bf16⟩
  | .hbm, ⟨29, _⟩ => ⟨S_, .f32⟩
  | .hbm, ⟨30, _⟩ => ⟨S16384x512, .f32⟩
  | .hbm, ⟨31, _⟩ => ⟨S16384x512, .f32⟩
  | .hbm, ⟨32, _⟩ => ⟨S16384x512, .bf16⟩
  | .hbm, ⟨33, _⟩ => ⟨S16384x512, .bf16⟩
  | .hbm, ⟨34, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel5.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S1x128 : Shape := ⟨2, ![1, 128]⟩
abbrev S1x1024 : Shape := ⟨2, ![1, 1024]⟩
abbrev S16384x128 : Shape := ⟨2, ![16384, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 28
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x32, .f32⟩
  | .hbm, ⟨8, _⟩ => ⟨S32, .f32⟩
  | .hbm, ⟨9, _⟩ => ⟨S1024x36, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S36, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S1024x1024, .bf16⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x128, .i32⟩
  | .hbm, ⟨27, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x128, .bf16⟩
  | .local _ .vmem, ⟨9, _⟩ => ⟨S1024x128, .bf16⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x128, .i32⟩
  | .local _ .vmem, ⟨16, _⟩ => ⟨S512x128, .i32⟩
  | .local _ .vmem, ⟨17, _⟩ => ⟨S512x128, .f32⟩
  | .local _ .vmem, ⟨18, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x32, .f32⟩
  | .hbm, ⟨8, _⟩ => ⟨S32, .f32⟩
  | .hbm, ⟨9, _⟩ => ⟨S16384x1024, .bf16⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Proof.Pos.lean ====
/- Where the dispatch puts each assignment, in natural numbers: the assignments of one expert fill, in order, a stretch of rows that
   starts at a multiple of the tile height. No two assignments share a row, and every row lies in the array. -/
module

public import Idealize.ShloMosaic.Lib.Routing.Words
public import Idealize.ShloMosaic.Lib.Routing.OpsOne
public import Idealize.ShloMosaic.Lib.Routing.OpsSet
public import Idealize.ShloMosaic.Lib.Routing.OpsSearch
public import Idealize.ShloMosaic.Lib.Routing.Count

@[expose] public section

namespace Cert.Pos

open Idealize.ShloMosaic Idealize.ShloMosaic.ValueIdx Idealize.ShloMosaic.Routing

/-! ## The model -/

section Model
variable (e : ℕ → ℕ)

/-- How many earlier assignments chose the same expert as assignment `a`. -/
def rk (a : ℕ) : ℕ := Nat.count (fun b => e b = e a) a
/-- How many of the 32768 assignments chose expert `x`. -/
def cnt (x : ℕ) : ℕ := Nat.count (fun b => e b = x) 32768
/-- The tiles of 512 rows that expert `x` takes. -/
def tiles (x : ℕ) : ℕ := (cnt e x + 512 - 1) / 512
/-- The first row of expert `x`: the rows of the experts before it. -/
def st (x : ℕ) : ℕ := ((List.range x).map fun y => tiles e y * 512).sum
/-- The row of assignment `a`. -/
def row (a : ℕ) : ℕ := st e (e a) + rk e a

theorem st_succ (x : ℕ) : st e (x + 1) = st e x + tiles e x * 512 := by
  simp [st, List.range_succ]

theorem st_mono {x y : ℕ} (h : x ≤ y) : st e x ≤ st e y := by
  induction y with
  | zero => obtain rfl : x = 0 := by omega
            exact le_rfl
  | succ y ih =>
    rcases Nat.lt_or_ge y x with h' | h'
    · obtain rfl : x = y + 1 := by omega
      exact le_rfl
    · have := ih h'; have := st_succ e y; omega

theorem cnt_le_tiles (x : ℕ) : cnt e x ≤ tiles e x * 512 := by
  unfold tiles; omega

theorem tiles_le (x : ℕ) : tiles e x * 512 ≤ cnt e x + 511 := by
  unfold tiles; omega

theorem cnt_le (x : ℕ) : cnt e x ≤ 32768 := Nat.count_le _

theorem rk_lt {a : ℕ} (ha : a < 32768) : rk e a < cnt e (e a) :=
  Nat.count_strict_mono (p := fun b => e b = e a) rfl ha

theorem st_le_sum (n : ℕ) : st e n ≤ ((List.range n).map (cnt e)).sum + n * 511 := by
  induction n with
  | zero => simp [st]
  | succ n ih =>
    have := tiles_le e n
    rw [st_succ, List.range_succ, List.map_append, List.sum_append]
    simp only [List.map_cons, List.map_nil, List.sum_cons, List.sum_nil]
    omega

theorem st_le {x : ℕ} (hx : x ≤ 32) : st e x ≤ 49120 := by
  have h1 := st_mono e hx
  have h2 := st_le_sum e 32
  have h3 : ((List.range (31 + 1)).map (cnt e)).sum ≤ 32768 := by
    have := sum_count_eq e 31 32768
    have h : ((List.range (31 + 1)).map (cnt e)).sum = Nat.count (fun i => e i ≤ 31) 32768 := this
    rw [h]; exact Nat.count_le _
  have h4 : ((List.range 32).map (cnt e)).sum ≤ 32768 := h3
  omega

variable {e}

theorem row_lt_next {a : ℕ} (ha : a < 32768) : row e a < st e (e a + 1) := by
  have := rk_lt e ha; have := cnt_le_tiles e (e a); rw [st_succ]; unfold row; omega

theorem row_lt {a : ℕ} (ha : a < 32768) (he : e a < 32) : row e a < 49152 := by
  have := row_lt_next (e := e) ha; have := st_le e (x := e a + 1) (by omega); omega

theorem row_inj {a b : ℕ} (ha : a < 32768) (hb : b < 32768) (h : row e a = row e b) : a = b := by
  have hab : e a = e b := by
    rcases Nat.lt_trichotomy (e a) (e b) with hl | hl | hl
    · have h1 := row_lt_next (e := e) ha
      have h2 := st_mono e (x := e a + 1) (y := e b) hl
      unfold row at *; omega
    · exact hl
    · have h1 := row_lt_next (e := e) hb
      have h2 := st_mono e (x := e b + 1) (y := e a) hl
      unfold row at *; omega
  have hr : rk e a = rk e b := by unfold row at h; rw [hab] at h; omega
  rcases Nat.lt_trichotomy a b with hl | hl | hl
  · have : rk e a < rk e b := by
      unfold rk; rw [hab]; exact Nat.count_strict_mono (p := fun c => e c = e b) hab hl
    omega
  · exact hl
  · have : rk e b < rk e a := by
      unfold rk; rw [hab]; exact Nat.count_strict_mono (p := fun c => e c = e b) rfl hl
    omega

end Model

/-! ## Sums -/

/-- A one-hot sum picks its one term. -/
theorem sum_pick (g : ℕ → ℕ) (k : ℕ) : ∀ n, k < n → ((List.range n).map fun x => if k = x then g x else 0).sum = g k
  | 0, h => absurd h (Nat.not_lt_zero _)
  | n + 1, h => by
    rw [List.range_succ, List.map_append, List.sum_append]
    simp only [List.map_cons, List.map_nil, List.sum_cons, List.sum_nil, Nat.add_zero]
    rcases Nat.lt_or_ge k n with hk | hk
    · rw [sum_pick g k n hk, if_neg (by omega), Nat.add_zero]
    · obtain rfl : k = n := by omega
      rw [if_pos rfl]
      have : ((List.range k).map fun x => if k = x then g x else 0) = (List.range k).map fun _ => 0 :=
        List.map_congr_left fun x hx => if_neg (by have := List.mem_range.1 hx; omega)
      rw [this]; simp

/-- The terms below `k` sum to the prefix. -/
theorem sum_below (g : ℕ → ℕ) (k : ℕ) : ∀ n, k ≤ n → ((List.range n).map fun x => if x < k then g x else 0).sum = ((List.range k).map g).sum
  | 0, h => by obtain rfl : k = 0 := by omega
               rfl
  | n + 1, h => by
    rw [List.range_succ, List.map_append, List.sum_append]
    simp only [List.map_cons, List.map_nil, List.sum_cons, List.sum_nil, Nat.add_zero]
    rcases Nat.lt_or_ge n k with hk | hk
    · obtain rfl : k = n + 1 := by omega
      rw [if_pos (by omega), List.range_succ, List.map_append, List.sum_append]
      have : ((List.range n).map fun x => if x < n + 1 then g x else 0) = (List.range n).map g :=
        List.map_congr_left fun x hx => if_pos (by have := List.mem_range.1 hx; omega)
      rw [this]; simp
    · rw [sum_below g k n hk, if_neg (by omega), Nat.add_zero]

/-- A fold of word additions is the sum. -/
theorem fold_addi_eq_sum {ι : Type} [DecidableEq ι] (S : Finset ι) (f : ι → BitVec 32) :
    S.fold IntOp.addi 0#32 f = ∑ i ∈ S, f i := by
  induction S using Finset.cons_induction with
  | empty => rfl
  | cons a S ha ih => rw [Finset.fold_cons, Finset.sum_cons, ih]; rfl

/-- The sum of a matrix of words along its rows, where row `i` holds the naturals `f`. -/
theorem reduce_row {n m : ℕ} (x : IVec (shape2 n m) 32) (f : ℕ → ℕ) (i : Fin n) (hx : ∀ q : Fin m, x (ix2 i q) = BitVec.ofNat 32 (f q.val))
    (h : (shape2 n m).ReducesTo [1] (shape1 n)) (hu : 0 < shape0.numel) :
    Host.reduce IntOp.addi x (constantI shape0 32 0#32) h hu (ix1 i) = BitVec.ofNat 32 ((List.range m).map f).sum := by
  classical
  rw [Host.reduce_eq_fold]
  show Finset.fold IntOp.addi 0#32 x (Finset.univ.filter fun k : (shape2 n m).Idx => h.drop k = ix1 i) = _
  rw [fold_addi_eq_sum, ofNat_sum_range, ← Fin.sum_univ_eq_sum_range (fun q => BitVec.ofNat 32 (f q)) m]
  have hdrop : ∀ k : (shape2 n m).Idx, h.drop k = ix1 i ↔ k 0 = i := by
    intro k
    have hv : (h.drop k 0 : ℕ) = k 0 := Shape.ReducesTo.drop_apply_val h k 0
    constructor
    · intro q; rw [q] at hv; exact Fin.ext hv.symm
    · intro q; funext b; have hb : b = 0 := Subsingleton.elim _ _; subst hb; exact Fin.ext (by rw [hv, q]; rfl)
  have hback : ∀ k : (shape2 n m).Idx, k 0 = i → (ix2 i (k 1) : (shape2 n m).Idx) = k := fun k h0 => by
    funext b; match b with
    | ⟨0, _⟩ => exact h0.symm
    | ⟨1, _⟩ => rfl
  refine Finset.sum_bij' (fun k _ => k 1) (fun q _ => ix2 i q) (fun _ _ => Finset.mem_univ _)
    (fun q _ => Finset.mem_filter.2 ⟨Finset.mem_univ _, (hdrop _).2 rfl⟩)
    (fun k hk => hback k ((hdrop k).1 (Finset.mem_filter.1 hk).2)) (fun _ _ => rfl) ?_
  intro k hk
  have := hback k ((hdrop k).1 (Finset.mem_filter.1 hk).2)
  rw [← this]; exact hx _

/-- The counts of a mask down its columns. -/
theorem reduce_count_down {n m : ℕ} (hn : n < 2 ^ 32) (msk : IVec (shape2 n m) 1) (hw : 1 < 32) (h : (shape2 n m).ReducesTo [0] (shape1 m))
    (hu : 0 < shape0.numel) (j : Fin m) (Q : ℕ → Prop) [DecidablePred Q] (hQ : ∀ p : Fin n, msk (ix2 p j) = 1#1 ↔ Q p.val) :
    Host.reduce IntOp.addi (extui 32 msk hw) (constantI shape0 32 0#32) h hu (ix1 j) = BitVec.ofNat 32 (Nat.count Q n) := by
  apply BitVec.eq_of_toNat_eq
  rw [StableHlo.Predicate.toNat_reduce_count_rows hn msk hw h hu (ix1 j), BitVec.toNat_ofNat,
    Nat.mod_eq_of_lt (Nat.lt_of_le_of_lt (Nat.count_le _) hn), ← card_filter_fin n Q]
  refine congrArg Finset.card (Finset.filter_congr fun p _ => ?_)
  exact (iff_of_eq (congrArg (fun z => msk z = 1#1) (ij_eq_ix2 p j))).trans (hQ p)

/-- Counting below a bound, the bound written in the predicate. -/
theorem count_and_lt (p : ℕ → Prop) [DecidablePred p] (k : ℕ) : ∀ n, k ≤ n → Nat.count (fun b => b < k ∧ p b) n = Nat.count p k
  | 0, h => by obtain rfl : k = 0 := by omega
               rfl
  | n + 1, h => by
    rcases Nat.lt_or_ge n k with hk | hk
    · obtain rfl : k = n + 1 := by omega
      rw [Nat.count_eq_card_filter_range, Nat.count_eq_card_filter_range]
      refine congrArg Finset.card (Finset.filter_congr fun b hb => ?_)
      exact ⟨fun q => q.2, fun q => ⟨Finset.mem_range.1 hb, q⟩⟩
    · rw [Nat.count_succ, count_and_lt p k n hk, if_neg (fun q => by omega), Nat.add_zero]

/-- A sum times a number. -/
theorem sum_mul_right (g : ℕ → ℕ) (b : ℕ) : ∀ n, ((List.range n).map g).sum * b = ((List.range n).map fun x => g x * b).sum
  | 0 => by simp
  | n + 1 => by
    rw [List.range_succ, List.map_append, List.sum_append, List.map_append, List.sum_append, ← sum_mul_right g b n]
    simp [Nat.add_mul]

/-- A signed greater-than of two small words compares their naturals. -/
theorem cmpi_sgt_small (a b : ℕ) (ha : a < 2 ^ 31) (hb : b < 2 ^ 31) :
    IntOp.cmpi .sgt (BitVec.ofNat 32 a) (BitVec.ofNat 32 b) = BitVec.ofBool (decide (b < a)) := by
  rw [show IntOp.cmpi .sgt (BitVec.ofNat 32 a) (BitVec.ofNat 32 b) = IntOp.cmpi .slt (BitVec.ofNat 32 b) (BitVec.ofNat 32 a) from rfl,
    WordCmp.cmpi_slt_ofNat (w := 32) (by omega) (by omega)]

end Cert.Pos
-- ==== Proof.Body.lean ====
/- The dispatch call's body: 2048 row copies issued from the staged rows on one DMA semaphore cell, then drained one
   row's credit at a time, over any value instance. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameValue
public import Idealize.ShloMosaic.Lib.Pipeline.ValueKit.Geometry
public import Idealize.ShloMosaic.Lib.ValueIdxCore
public import Idealize.ShloMosaic.Lib.Batch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

theorem trips1 : k0_t1_loop.trips = 1024 := by decide
theorem trips2 : k0_t2_loop.trips = 1024 := by decide

/-- A result row, by the word that names it. -/
def dRow (w : BitVec 32) (hw : k0_chk1 w) : Memref sig .tc .hbm S1x1024 .f32 :=
  (Memref.whole main_v46).slice (Rect.unit (s := S49152x1024) (k0_off2 w) S1x1024.size (k0_off2_inb w hw)) (fun _ => rfl)
/-- A staged row, by the trip that copies it. -/
def sRow (M2 : Memref sig .tc .vmem S1024x1024 .f32) (i : Fin k0_t1_loop.trips) : Memref sig .tc .vmem S1x1024 .f32 :=
  M2.slice (Rect.unit (s := S1024x1024) (k0_off3 i) S1x1024.size (k0_off3_inb i)) (fun _ => rfl)

theorem mOwn_storable (c : Dev nD) {sp : Space} {S : Shape} {e : EltTy} (R : Memref sig .tc sp S e) (q : PosShare TreeShare)
    (f : Buf (Elt F) (R.view.loc (c : Thread nD τ))) :
    BI.Storable (upEmb : UEmb _ 𝕄) (R.view.loc (c : Thread nD τ) ↦[R.view.set]{q} f) := inferInstance

abbrev dOwn (c : Dev nD) (w : BitVec 32) (hw : k0_chk1 w) (f : S49152x1024.Idx → Elt F .f32) : sProp 𝕄 :=
  (dRow w hw).view.loc (c : Thread nD τ) ↦[(dRow w hw).view.set]{fullShare} f
abbrev sOwn (c : Dev nD) (M2 : Memref sig .tc .vmem S1024x1024 .f32) (f2 : Buf (Elt F) (M2.view.loc (c : Thread nD τ)))
    (q : PosShare TreeShare) (i : Fin k0_t1_loop.trips) : sProp 𝕄 :=
  (sRow M2 i).view.loc (c : Thread nD τ) ↦[(sRow M2 i).view.set]{q} f2

/-- One row's credit on the cell. -/
def NN : ℕ := sig.dmaCredit .tc (Kind.table .tc .hbm) (Memref.whole main_v46).view.buf S1x1024 .f32

theorem amount_row (w : BitVec 32) (hw : k0_chk1 w) : (dRow w hw).view.amount (SemLoc.dma (sig := sig) 4) = NN := rfl
theorem NN_pos : 0 < NN := View.dmaCredit_pos ((Memref.whole main_v46).slice (Rect.unit (s := S49152x1024) ![0, 0] S1x1024.size inb_S49152x1024_S1x1024_0_0) (fun _ => rfl)).view (by decide)

/-- Word `j` of the staged block of positions. -/
abbrev wd (c : Dev nD) (M1 : Memref sig .tc .smem S1x1x2048 .i32) (f1 : Buf (Elt F) (M1.view.loc (c : Thread nD τ)))
    (j : Fin (2 * k0_t1_loop.trips)) : BitVec 32 :=
  M1.view.read (Elt F) f1 (ValueIdx.ix3 0 0 (j.cast (by rw [trips1])))

/-- The contents the row copies leave: at a row some word names, the staged row that word's copy reads. -/
def landed (w : Fin (2 * k0_t1_loop.trips) → BitVec 32) (d : S1024x1024.Idx → Elt F .f32) (fd : S49152x1024.Idx → Elt F .f32) :
    S49152x1024.Idx → Elt F .f32 := open scoped Classical in fun i =>
  if h : ∃ j, (w j).toNat = (i 0).val then d (ValueIdx.ix2 ⟨h.choose.val / 2, by have := h.choose.isLt; have := trips1; omega⟩ (i 1)) else fd i

section Issue

variable (c : Dev nD) (w : Fin (2 * k0_t1_loop.trips) → BitVec 32) (hw : ∀ j, k0_chk1 (w j))
  (M1 : Memref sig .tc .smem S1x1x2048 .i32) (h1 : M1.IsWhole) (M2 : Memref sig .tc .vmem S1024x1024 .f32) (h2 : M2.IsWhole)
  (f1 : Buf (Elt F) (M1.view.loc (c : Thread nD τ))) (f2 : Buf (Elt F) (M2.view.loc (c : Thread nD τ)))
  (fd fe : S49152x1024.Idx → Elt F .f32)

/-- The staged row an even (odd) copy hands back, under the left (right) half share. -/
abbrev sBack (q : PosShare TreeShare) (i : ℕ) : sProp 𝕄 :=
  if h : i < k0_t1_loop.trips then sOwn c M2 f2 q ⟨i, h⟩ else BIBase.emp

/-- What copy `t` delivers: its result row at the final contents, and its half share of the staged row. -/
def deliv (t : Fin (2 * k0_t1_loop.trips)) : sProp 𝕄 :=
  iprop(dOwn c (w t) (hw t) fe ∗ Ring.interleaved k0_t1_loop.trips (sBack c M2 f2 fullShare.left) (sBack c M2 f2 fullShare.right) t)

instance sBack_storable (q : PosShare TreeShare) (i : ℕ) : BI.Storable (upEmb : UEmb _ 𝕄) (sBack c M2 f2 q i) := by
  unfold sBack; split
  · exact mOwn_storable c _ _ _
  · infer_instance
instance deliv_storable (t : Fin (2 * k0_t1_loop.trips)) : BI.Storable (upEmb : UEmb _ 𝕄) (deliv c w hw M2 f2 fe t) := by
  unfold deliv
  haveI : BI.Storable (upEmb : UEmb _ 𝕄) (dOwn c (w t) (hw t) fe) := mOwn_storable c _ _ _
  infer_instance

abbrev batch (j u : ℕ) : sProp 𝕄 :=
  Transfers.Batch (countersEmb (U := Pipeline.UD sig nD τ)) (c : Thread nD τ) (.dma 4) () NN (deliv c w hw M2 f2 fe) j u

/-- Before trip `k`: the positions' block, `2k` copies issued and nothing consumed, and the rows of the copies to come. -/
def issueAt (k : ℕ) (_ : Unit) : sProp 𝕄 :=
  iprop((M1.view.loc (c : Thread nD τ) ↦[M1.view.set]{fullShare} f1) ∗ batch c w hw M2 f2 fe (2 * k) 0
    ∗ bigSep (Ring.rangeSet (2 * k0_t1_loop.trips) (2 * k) (2 * k0_t1_loop.trips)) (fun j => dOwn c (w j) (hw j) fd)
    ∗ bigSep (Ring.rangeSet k0_t1_loop.trips k k0_t1_loop.trips) (sOwn c M2 f2 fullShare.left)
    ∗ bigSep (Ring.rangeSet k0_t1_loop.trips k k0_t1_loop.trips) (sOwn c M2 f2 fullShare.right))

/-- The write of copy `t`: its row of the final contents. -/
def Lands : Prop := ∀ (k : Fin k0_t1_loop.trips) (t : Fin (2 * k0_t1_loop.trips)), t.val / 2 = k.val →
  ∀ i ∈ (dRow (w t) (hw t)).view.set,
    (dRow (w t) (hw t)).view.write (Elt F) fd (ReadAs.same.apply ((sRow M2 k).view.read (Elt F) f2)) Finset.univ i = fe i

/-- One copy: the word's check, then its row copied on the cell. -/
theorem issue_one (hl : Lands c w hw M2 f2 fd fe) (k : Fin k0_t1_loop.trips) (t : Fin (2 * k0_t1_loop.trips)) (ht : t.val / 2 = k.val)
    (q : PosShare TreeShare)
    (hq : sOwn c M2 f2 q k ⊢ Ring.interleaved k0_t1_loop.trips (sBack c M2 f2 fullShare.left) (sBack c M2 f2 fullShare.right) t)
    (K : PUnit → Prog (TpuEff nD τ sig (Elt F) Λ₀ .tc) PUnit) (Q : PUnit → sProp 𝕄) :
    iprop(sOwn c M2 f2 q k ∗ dOwn c (w t) (hw t) fd ∗ batch c w hw M2 f2 fe t.val 0)
      ⊢ iprop((batch c w hw M2 f2 fe (t.val + 1) 0 -∗ wp frame (wpE (defs₀ (F := F)) Variants.none (c : Thread nD τ) none) Set.univ (K ⟨⟩) Q)
        -∗ wp frame (wpE (defs₀ (F := F)) Variants.none (c : Thread nD τ) none) Set.univ
            (Prog.op (.enqueueDma (sRow M2 k) (.here (dRow (w t) (hw t))) (.dma 4) (View.wordExact_bits rfl) (View.wordExact_bits rfl) ⟨Or.inl rfl, trivial⟩) K) Q) :=
  Transfers.wp_dmaBatch (countersEmb (U := Pipeline.UD sig nD τ)) Variants.none (c : Thread nD τ) none
    (src := sRow M2 k) (dst := dRow (w t) (hw t)) () NN rfl subset_rfl
    (D := deliv c w hw M2 f2 fe) (j := t.val) (u := 0) t.isLt (Nat.zero_le _) (by
      unfold deliv
      exact BI.sep_mono (Entails.of_eq (pointsTo_congr (hl k t ht))) hq)

theorem ret_bind' {E : Type → Type} {α β : Type} (a : α) (k : α → Prog E β) : (Prog.ret a).bind k = k a := rfl

theorem word_even (k : Fin k0_t1_loop.trips) (hx) (h2k : 2 * k.val < 2 * k0_t1_loop.trips) :
    View.readAt (Elt F) M1.view (Rect.unit (s := S1x1x2048) (k0_off1 k) S1x1x1.size (k0_off1_inb k)).toLoadRect f1 (Shape.Idx.first hx)
      = wd c M1 f1 ⟨2 * k.val, h2k⟩ := by
  show M1.view.read (Elt F) f1 _ = M1.view.read (Elt F) f1 _
  congr 1; funext a; apply Fin.ext
  have e := ValueKit.rect_emb_unit_val (s := S1x1x2048) (k0_off1 k) S1x1x1.size (k0_off1_inb k) (Shape.Idx.first hx) a
  refine e.trans ((congrArg (· + _) (congrFun (k0_off1_eq k) a)).trans ?_)
  fin_cases a <;> rfl
theorem word_odd (k : Fin k0_t1_loop.trips) (hx) (h2k : 2 * k.val + 1 < 2 * k0_t1_loop.trips) :
    View.readAt (Elt F) M1.view (Rect.unit (s := S1x1x2048) (k0_off4 k) S1x1x1.size (k0_off4_inb k)).toLoadRect f1 (Shape.Idx.first hx)
      = wd c M1 f1 ⟨2 * k.val + 1, h2k⟩ := by
  show M1.view.read (Elt F) f1 _ = M1.view.read (Elt F) f1 _
  congr 1; funext a; apply Fin.ext
  have e := ValueKit.rect_emb_unit_val (s := S1x1x2048) (k0_off4 k) S1x1x1.size (k0_off4_inb k) (Shape.Idx.first hx) a
  refine e.trans ((congrArg (· + _) (congrFun (k0_off4_eq k) a)).trans ?_)
  fin_cases a <;> rfl

theorem issue_step (hl : Lands c w hw M2 f2 fd fe)
    (hwd : ∀ j, wd c M1 f1 j = w j) (i : grid0.Coords) (h4 : (Memref.whole main_v46).IsWhole)
    (k : Fin k0_t1_loop.trips) (acc : Unit) :
    issueAt c w hw M1 M2 f1 f2 fd fe k acc ⊢ wp frame (wpE (defs₀ (F := F)) Variants.none (c : Thread nD τ) none) Set.univ
      (k0_t1_body i M1 h1 M2 h2 (Memref.whole main_v46) h4 (Memref.whole main_v46) h4 cc0_scratch0 k acc)
      (issueAt c w hw M1 M2 f1 f2 fd fe (k.val + 1)) := by
  have hk := k.isLt
  unfold issueAt
  rw [Ring.bigSep_rangeSet_head (Φ := fun j => dOwn c (w j) (hw j) fd) (lo := 2 * k.val) (by omega) (by omega),
    Ring.bigSep_rangeSet_head (Φ := fun j => dOwn c (w j) (hw j) fd) (lo := 2 * k.val + 1) (by omega) (by omega),
    Ring.bigSep_rangeSet_head (Φ := sOwn c M2 f2 fullShare.left) (by omega) (by omega),
    Ring.bigSep_rangeSet_head (Φ := sOwn c M2 f2 fullShare.right) (by omega) (by omega),
    show 2 * (k.val + 1) = 2 * k.val + 1 + 1 by omega]
  have hk0 : 2 * k.val < 2 * k0_t1_loop.trips := by omega
  have hk1 : 2 * k.val + 1 < 2 * k0_t1_loop.trips := by omega
  iintro ⟨H1, HB, ⟨HD0, HD1, HDs⟩, ⟨HL, HLs⟩, HR, HRs⟩
  dsimp only [k0_t1_body]
  sl_exec
  have e0 : issue_step.sl.r c M1 f1 k = w ⟨2 * k.val, by omega⟩ := by
    rw [← hwd]; exact word_even c M1 f1 k _ _
  generalize hr0 : issue_step.sl.r c M1 f1 k = r0 at e0
  subst e0
  iapply (wp_assume Variants.none (c : Thread nD τ) none Set.univ (hw ⟨2 * k.val, hk0⟩))
  iapply (issue_one c w hw M2 f2 fd fe hl k ⟨2 * k.val, by omega⟩ (by show 2 * k.val / 2 = k.val; omega) fullShare.left
     (by rw [Ring.interleaved_even]; unfold sBack; rw [dif_pos hk])) $$ [HL HD0 HB]
  · isplitl [HL]; · iexact HL
    isplitl [HD0]; · iexact HD0
    iexact HB
  iintro HB
  simp only [ret_bind']
  sl_exec
  have e1 : issue_step.sl.r_1 c M1 f1 k = w ⟨2 * k.val + 1, by omega⟩ := by
    rw [← hwd]; exact word_odd c M1 f1 k _ _
  generalize hr1 : issue_step.sl.r_1 c M1 f1 k = r1 at e1
  subst e1
  iapply (wp_assume Variants.none (c : Thread nD τ) none Set.univ (hw ⟨2 * k.val + 1, hk1⟩))
  iapply (issue_one c w hw M2 f2 fd fe hl k ⟨2 * k.val + 1, by omega⟩ (by show (2 * k.val + 1) / 2 = k.val; omega) fullShare.right
     (by rw [Ring.interleaved_odd]; unfold sBack; rw [dif_pos hk])) $$ [HR HD1 HB]
  · isplitl [HR]; · iexact HR
    isplitl [HD1]; · iexact HD1
    iexact HB
  iintro HB
  simp only [ret_bind']
  sl_step
  isplitl [H1]; · iexact H1
  isplitl [HB]; · iexact HB
  isplitl [HDs]; · iexact HDs
  isplitl [HLs]; · iexact HLs
  iexact HRs

/-- Before trip `k` of the drain: the batch with `2k` rows' credit consumed, or, after the last, every delivery. -/
def drainAt (k : ℕ) (_ : Unit) : sProp 𝕄 :=
  iprop((∃ W, owes (c : Thread nD τ) 0 W)
    ∗ (if k < k0_t2_loop.trips then batch c w hw M2 f2 fe (2 * k0_t1_loop.trips) (2 * k * NN)
       else iprop(semVal ((c : Thread nD τ), SemLoc.dma 4) 0 ∗ bigSep Finset.univ (deliv c w hw M2 f2 fe))))

theorem credit_lt (a n : ℕ) (h : a + 1 < n) : a * NN + NN < NN * n := by
  have : (a + 1) * NN < n * NN := (Nat.mul_lt_mul_right NN_pos).mpr h
  rw [Nat.mul_comm NN n]; rw [Nat.succ_mul] at this; exact this

theorem drain_step (i : grid0.Coords) (h4 : (Memref.whole main_v46).IsWhole)
    (k : Fin k0_t2_loop.trips) (acc : Unit) :
    drainAt c w hw M2 f2 fe k acc ⊢ wp frame (wpE (defs₀ (F := F)) Variants.none (c : Thread nD τ) none) Set.univ
      (k0_t2_body i M1 h1 M2 h2 (Memref.whole main_v46) h4 (Memref.whole main_v46) h4 cc0_scratch0 k acc)
      (drainAt c w hw M2 f2 fe (k.val + 1)) := by
  have hk : k.val < k0_t2_loop.trips := k.isLt
  have ht1 := trips1
  have ht2 := trips2
  unfold drainAt
  simp only [if_pos hk]
  rcases Nat.lt_or_ge (k.val + 1) k0_t2_loop.trips with hc | hc
  · simp only [if_pos hc]
    iintro ⟨⟨%W, HO⟩, HB⟩
    dsimp only [k0_t2_body]
    iapply (Transfers.wp_waitBatch (countersEmb (U := Pipeline.UD sig nD τ)) Variants.none (c : Thread nD τ) none () (N := NN) rfl
      (D := deliv c w hw M2 f2 fe) (u := 2 * k.val * NN) (credit_lt _ _ (by omega))) $$ [HB HO]
    · isplitl [HB]; · iexact HB
      iexact HO
    iintro ⟨HB, HO⟩
    simp only [ret_bind']
    iapply (Transfers.wp_waitBatch (countersEmb (U := Pipeline.UD sig nD τ)) Variants.none (c : Thread nD τ) none () (N := NN) rfl
      (D := deliv c w hw M2 f2 fe) (u := 2 * k.val * NN + NN) (by rw [← Nat.succ_mul]; exact credit_lt _ _ (by omega))) $$ [HB HO]
    · isplitl [HB]; · iexact HB
      iexact HO
    iintro ⟨HB, HO⟩
    simp only [ret_bind']
    sl_step
    isplitl [HO]; · iexists _; iexact HO
    rw [show 2 * (k.val + 1) * NN = 2 * k.val * NN + NN + NN from by
      show (2 * k.val + 1 + 1) * NN = _
      rw [Nat.succ_mul, Nat.succ_mul]]
    iexact HB
  · simp only [if_neg (Nat.not_lt.mpr hc)]
    iintro ⟨⟨%W, HO⟩, HB⟩
    dsimp only [k0_t2_body]
    iapply (Transfers.wp_waitBatch (countersEmb (U := Pipeline.UD sig nD τ)) Variants.none (c : Thread nD τ) none () (N := NN) rfl
      (D := deliv c w hw M2 f2 fe) (u := 2 * k.val * NN) (credit_lt _ _ (by omega))) $$ [HB HO]
    · isplitl [HB]; · iexact HB
      iexact HO
    iintro ⟨HB, HO⟩
    simp only [ret_bind']
    iapply (Transfers.wp_waitBatchLast (countersEmb (U := Pipeline.UD sig nD τ)) Variants.none (c : Thread nD τ) none () (N := NN) rfl NN_pos
      (D := deliv c w hw M2 f2 fe) (u := 2 * k.val * NN + NN) (by
        rw [← Nat.succ_mul, ← Nat.succ_mul, Nat.mul_comm]; congr 1; omega)) $$ [HB HO]
    · isplitl [HB]; · iexact HB
      iexact HO
    iintro ⟨HD, HS, HO⟩
    simp only [ret_bind']
    sl_step
    isplitl [HO]; · iexists _; iexact HO
    isplitl [HS]; · iexact HS
    iexact HD

end Issue

theorem mem_dRow (w : BitVec 32) (hw : k0_chk1 w) (i : S49152x1024.Idx) : i ∈ (dRow w hw).view.set ↔ (i 0).val = w.toNat := by
  refine ValueKit.mem_set_slice_whole_iff main_v46 _ i ?_
  rw [Rect.mem_set_unit]
  constructor
  · intro h
    have h0 : w.toNat ≤ (i 0).val ∧ (i 0).val < w.toNat + 1 := h 0
    omega
  · intro h a
    fin_cases a
    · show w.toNat ≤ (i 0).val ∧ (i 0).val < w.toNat + 1
      omega
    · show 0 ≤ (i 1).val ∧ (i 1).val < 0 + 1024
      have h1 : (i 1).val < 1024 := (i 1).isLt
      omega

theorem sRow_emb (M2 : Memref sig .tc .vmem S1024x1024 .f32) (k : Fin k0_t1_loop.trips) (x : S1x1024.Idx) :
    (sRow M2 k).view.emb x = M2.view.emb (ValueIdx.ix2 (k.cast trips1) (x 1)) := by
  show M2.view.emb _ = _
  congr 1; funext a; apply Fin.ext
  refine (ValueKit.rect_emb_unit_val (s := S1024x1024) (k0_off3 k) S1x1024.size (k0_off3_inb k) x a).trans ?_
  refine (congrArg (· + _) (congrFun (k0_off3_eq k) a)).trans ?_
  fin_cases a
  · show k.val + (x 0).val = k.val
    have : (x 0).val < 1 := (x 0).isLt
    omega
  · show 0 + (x 1).val = (x 1).val
    omega

theorem landed_at (w : Fin (2 * k0_t1_loop.trips) → BitVec 32) (d : S1024x1024.Idx → Elt F .f32) (fd : S49152x1024.Idx → Elt F .f32)
    (hinj : ∀ j j', (w j).toNat = (w j').toNat → j = j') (t : Fin (2 * k0_t1_loop.trips)) (i : S49152x1024.Idx)
    (hi : (i 0).val = (w t).toNat) :
    landed w d fd i = d (ValueIdx.ix2 ⟨t.val / 2, by have := t.isLt; have := trips1; omega⟩ (i 1)) := by
  have h : ∃ j, (w j).toNat = (i 0).val := ⟨t, hi.symm⟩
  unfold landed
  rw [dif_pos h]
  have e : h.choose = t := hinj _ _ (h.choose_spec.trans hi)
  congr 2
  exact Fin.ext (by show h.choose.val / 2 = t.val / 2; rw [e])

theorem landed_off (w : Fin (2 * k0_t1_loop.trips) → BitVec 32) (d : S1024x1024.Idx → Elt F .f32) (fd : S49152x1024.Idx → Elt F .f32)
    (i : S49152x1024.Idx) (hi : ¬ ∃ j, (w j).toNat = (i 0).val) : landed w d fd i = fd i := by
  unfold landed; rw [dif_neg hi]

section Whole

variable (c : Dev nD) (w : Fin (2 * k0_t1_loop.trips) → BitVec 32) (hw : ∀ j, k0_chk1 (w j))
  (hinj : ∀ j j', (w j).toNat = (w j').toNat → j = j')
  (M1 : Memref sig .tc .smem S1x1x2048 .i32) (h1 : M1.IsWhole) (M2 : Memref sig .tc .vmem S1024x1024 .f32) (h2 : M2.IsWhole)
  (f1 : Buf (Elt F) (M1.view.loc (c : Thread nD τ))) (f2 : Buf (Elt F) (M2.view.loc (c : Thread nD τ)))
  (fd : S49152x1024.Idx → Elt F .f32)

theorem sRow_read (k : Fin k0_t1_loop.trips) (x : S1x1024.Idx) :
    (sRow M2 k).view.read (Elt F) f2 x = M2.view.read (Elt F) f2 (ValueIdx.ix2 (k.cast trips1) (x 1)) :=
  congrArg (fun z => cast (congrArg (Elt F) M2.view.elt_eq) (f2 z)) (sRow_emb M2 k x)

include hinj in
theorem lands : Lands c w hw M2 f2 fd (landed w (M2.view.read (Elt F) f2) fd) := by
  intro k t ht i hi
  have h0 := (mem_dRow _ _ i).mp hi
  rw [landed_at w _ fd hinj t i h0]
  obtain ⟨x, -, e⟩ := Finset.mem_map.mp hi
  subst e
  refine (View.write_emb_of_mem _ _ (Finset.mem_univ x)).trans ?_
  refine (cast_eq _ _).trans ((sRow_read c M2 f2 k x).trans ?_)
  congr 1
  funext a; apply Fin.ext
  fin_cases a
  · exact ht.symm
  · refine Eq.symm ((ValueKit.view_emb_slice_whole_unit_val main_v46 (k0_off2 (w t)) S1x1024.size (k0_off2_inb (w t) (hw t)) x 1).trans ?_)
    show 0 + (x 1).val = (x 1).val
    omega

/-- The elements of a staged row, and of the row a word names. -/
def srcSet (k : Fin k0_t1_loop.trips) : Finset (Idx (M2.view.loc (c : Thread nD τ))) := (sRow M2 k).view.set
def dstSet (j : Fin (2 * k0_t1_loop.trips)) : Finset S49152x1024.Idx := (dRow (w j) (hw j)).view.set

theorem srcSet_disjoint (k k' : Fin k0_t1_loop.trips) (hne : k ≠ k') : Disjoint (srcSet c M2 k) (srcSet c M2 k') := by
  rw [Finset.disjoint_left]
  intro i hi hi'
  obtain ⟨x, -, e⟩ := Finset.mem_map.mp hi
  obtain ⟨x', -, e'⟩ := Finset.mem_map.mp hi'
  have := M2.view.emb.injective (((sRow_emb M2 k x).symm.trans (e.trans e'.symm)).trans (sRow_emb M2 k' x'))
  have := congrFun this 0
  exact hne (Fin.ext (congrArg Fin.val this))

theorem srcSet_cover : Finset.univ.biUnion (srcSet c M2) = M2.view.set := by
  ext i
  refine Finset.mem_biUnion.trans ?_
  constructor
  · rintro ⟨k, -, hi⟩
    exact View.set_slice_subset _ _ hi
  · intro hi
    obtain ⟨y, -, e⟩ := Finset.mem_map.mp hi
    have hk : (Fin.cast trips1 (Fin.cast trips1.symm (y 0)) : Fin 1024) = y 0 := rfl
    refine ⟨Fin.cast trips1.symm (y 0), Finset.mem_univ _, ?_⟩
    have hx : (sRow M2 (Fin.cast trips1.symm (y 0))).view.emb (ValueIdx.ix2 (n0 := 1) (n1 := 1024) 0 (y 1)) = i := by
      refine (sRow_emb _ _ _).trans (Eq.trans ?_ e)
      congr 1; funext a; apply Fin.ext
      fin_cases a <;> rfl
    rw [← hx]
    exact Finset.mem_map_of_mem _ (Finset.mem_univ _)

/-- The staged block, row by row. -/
theorem rows_eq (q : PosShare TreeShare) :
    (M2.view.loc (c : Thread nD τ) ↦[M2.view.set]{q} f2 : sProp 𝕄) = bigSep Finset.univ (sOwn c M2 f2 q) :=
  Ring.pointsTo_sub_blocks (ℓ := M2.view.loc (c : Thread nD τ)) (srcSet c M2) (srcSet_disjoint c M2) M2.view.set (srcSet_cover c M2) f2

include hinj in
theorem dstSet_disjoint (j j' : Fin (2 * k0_t1_loop.trips)) (hne : j ≠ j') : Disjoint (dstSet w hw j) (dstSet w hw j') := by
  rw [Finset.disjoint_left]
  intro i hi hi'
  exact hne (hinj _ _ (((mem_dRow _ _ i).mp hi).symm.trans ((mem_dRow _ _ i).mp hi')))

/-- The rows the words name. -/
def named : Finset S49152x1024.Idx := Finset.univ.biUnion (dstSet w hw)

abbrev resLoc (c : Dev nD) : Loc nD τ sig := (Memref.whole main_v46).view.loc (c : Thread nD τ)

include hinj in
theorem dest_eq (f : S49152x1024.Idx → Elt F .f32) :
    (resLoc c ↦[named w hw]{fullShare} f : sProp 𝕄)
      = bigSep Finset.univ (fun j => dOwn c (w j) (hw j) f) :=
  Ring.pointsTo_sub_blocks (ℓ := resLoc c) (dstSet w hw) (dstSet_disjoint w hw hinj) (named w hw) rfl f

theorem dest_split (f : S49152x1024.Idx → Elt F .f32) :
    (resLoc c ↦{fullShare} f : sProp 𝕄)
      ⊣⊢ iprop((resLoc c ↦[named w hw]{fullShare} f) ∗ resLoc c ↦[Finset.univ \ named w hw]{fullShare} f) :=
  pointsTo_split_subset (Finset.subset_univ (named w hw))

theorem mem_named (i : S49152x1024.Idx) : i ∈ named w hw ↔ ∃ j, (w j).toNat = (i 0).val := by
  refine Finset.mem_biUnion.trans ?_
  constructor
  · rintro ⟨j, -, h⟩; exact ⟨j, ((mem_dRow _ _ i).mp h).symm⟩
  · rintro ⟨j, h⟩; exact ⟨j, Finset.mem_univ _, (mem_dRow _ _ i).mpr h.symm⟩

theorem landed_rest (d : S1024x1024.Idx → Elt F .f32) (i : S49152x1024.Idx) (hn : i ∉ named w hw) : fd i = landed w d fd i := by
  rw [mem_named] at hn
  exact (landed_off w d fd i hn).symm

theorem rest_eq (d : S1024x1024.Idx → Elt F .f32) :
    (resLoc c ↦[Finset.univ \ named w hw]{fullShare} fd : sProp 𝕄) = resLoc c ↦[Finset.univ \ named w hw]{fullShare} landed w d fd := by
  refine pointsTo_congr fun i hi => ?_
  rw [Finset.mem_sdiff] at hi
  exact landed_rest w hw fd d i hi.2

theorem range_sBack (q : PosShare TreeShare) :
    bigSep (Finset.range k0_t1_loop.trips) (sBack c M2 f2 q) = bigSep Finset.univ (sOwn c M2 f2 q) := by
  refine (Ring.bigSep_fin_eq_range k0_t1_loop.trips _ _ fun t h => ?_).symm
  unfold sBack
  rw [dif_pos h]

theorem delivs_eq (fe : S49152x1024.Idx → Elt F .f32) :
    bigSep Finset.univ (deliv c w hw M2 f2 fe)
      = iprop(bigSep Finset.univ (fun j => dOwn c (w j) (hw j) fe)
          ∗ bigSep Finset.univ (sOwn c M2 f2 fullShare.left) ∗ bigSep Finset.univ (sOwn c M2 f2 fullShare.right)) := by
  unfold deliv
  rw [bigSep_sep', Ring.bigSep_interleaved, range_sBack, range_sBack]

include hw hinj in
/-- The whole body: every row a word names takes the staged row of its copy, and the cell is back at zero. -/
theorem body_run (hwd : ∀ j, wd c M1 f1 j = w j) (i : grid0.Coords) (h4 : (Memref.whole main_v46).IsWhole) :
    iprop((M1.view.loc (c : Thread nD τ) ↦[M1.view.set]{fullShare} f1) ∗ (M2.view.loc (c : Thread nD τ) ↦[M2.view.set]{fullShare} f2)
        ∗ (resLoc c ↦{fullShare} fd) ∗ semVal ((c : Thread nD τ), SemLoc.dma 4) 0 ∗ (∃ W, owes (c : Thread nD τ) 0 W))
      ⊢ wp frame (wpE (defs₀ (F := F)) Variants.none (c : Thread nD τ) none) Set.univ
        (cc0_dispatch (F := F) i M1 h1 M2 h2 (Memref.whole main_v46) h4 (Memref.whole main_v46) h4 cc0_scratch0)
        (fun _ => iprop((M1.view.loc (c : Thread nD τ) ↦[M1.view.set]{fullShare} f1) ∗ (M2.view.loc (c : Thread nD τ) ↦[M2.view.set]{fullShare} f2)
        ∗ (resLoc c ↦{fullShare} landed w (M2.view.read (Elt F) f2) fd) ∗ semVal ((c : Thread nD τ), SemLoc.dma 4) 0 ∗ (∃ W, owes (c : Thread nD τ) 0 W) : sProp 𝕄)) := by
  have ht1 := trips1
  rw [cc0_dispatch_eq_skeleton]
  unfold cc0_dispatch_skel
  iintro ⟨H1, H2, HV, HC, HO⟩
  imod (Transfers.batch_alloc' (Lvl := ℕ) (countersEmb (U := Pipeline.UD sig nD τ)) (c : Thread nD τ) () NN
    (deliv c w hw M2 f2 (landed w (M2.view.read (Elt F) f2) fd)) (sm := .dma 4) (E := Set.univ)) $$ HC with HB
  ihave HS := (pointsTo_share (PosShare.mem_left_op_right fullShare)).1 $$ H2
  icases HS with ⟨HL, HR⟩
  ihave HL := (Entails.of_eq (rows_eq c M2 f2 fullShare.left)) $$ HL
  ihave HR := (Entails.of_eq (rows_eq c M2 f2 fullShare.right)) $$ HR
  ihave HV := (dest_split c w hw fd).1 $$ HV
  icases HV with ⟨HN, HX⟩
  ihave HN := (Entails.of_eq (dest_eq c w hw hinj fd)) $$ HN
  iapply (Scf.wp_for_bind frame (wpE (defs₀ (F := F)) Variants.none (c : Thread nD τ) none) Set.univ _ _ _ k0_t1_ok ⟨⟩ _
    (issueAt c w hw M1 M2 f1 f2 fd (landed w (M2.view.read (Elt F) f2) fd))
    (issue_step c w hw M1 h1 M2 h2 f1 f2 fd _ (lands c w hw hinj M2 f2 fd) hwd i h4)) $$ [H1 HB HN HL HR]
  · unfold issueAt
    rw [show 2 * 0 = 0 from rfl, Ring.rangeSet_univ, Ring.rangeSet_univ]
    isplitl [H1]; · iexact H1
    isplitl [HB]; · iexact HB
    isplitl [HN]; · iexact HN
    isplitl [HL]; · iexact HL
    iexact HR
  iintro %acc HI
  ihave HI := (show issueAt c w hw M1 M2 f1 f2 fd (landed w (M2.view.read (Elt F) f2) fd) k0_t1_loop.trips acc
      ⊢ iprop((M1.view.loc (c : Thread nD τ) ↦[M1.view.set]{fullShare} f1) ∗ batch c w hw M2 f2 (landed w (M2.view.read (Elt F) f2) fd) (2 * k0_t1_loop.trips) 0) from by
    unfold issueAt
    rw [Ring.bigSep_rangeSet_empty (le_refl _), Ring.bigSep_rangeSet_empty (le_refl _), Ring.bigSep_rangeSet_empty (le_refl _)]
    iintro ⟨H1, HB, -⟩
    isplitl [H1] <;> iassumption) $$ HI
  icases HI with ⟨H1, HB⟩
  iapply (Scf.wp_for_bind frame (wpE (defs₀ (F := F)) Variants.none (c : Thread nD τ) none) Set.univ _ _ _ k0_t2_ok ⟨⟩ _
    (drainAt c w hw M2 f2 (landed w (M2.view.read (Elt F) f2) fd))
    (drain_step c w hw M1 h1 M2 h2 f2 _ i h4)) $$ [HB HO]
  · unfold drainAt
    rw [if_pos (by rw [trips2]; omega)]
    isplitl [HO]; · iexact HO
    rw [show 2 * 0 * NN = 0 from Nat.zero_mul _]
    iexact HB
  iintro %acc' HI
  ihave HI := (show drainAt c w hw M2 f2 (landed w (M2.view.read (Elt F) f2) fd) k0_t2_loop.trips acc'
      ⊢ iprop((∃ W, owes (c : Thread nD τ) 0 W) ∗ semVal ((c : Thread nD τ), SemLoc.dma 4) 0
        ∗ bigSep Finset.univ (deliv c w hw M2 f2 (landed w (M2.view.read (Elt F) f2) fd))) from by
    unfold drainAt
    rw [if_neg (Nat.lt_irrefl _)]) $$ HI
  icases HI with ⟨HO, HC, HD⟩
  ihave HD := (Entails.of_eq (delivs_eq c w hw M2 f2 _)) $$ HD
  icases HD with ⟨HN, HL, HR⟩
  ihave HN := (Entails.of_eq (dest_eq c w hw hinj _).symm) $$ HN
  ihave HX := (Entails.of_eq (rest_eq c w hw fd (M2.view.read (Elt F) f2))) $$ HX
  ihave HL := (Entails.of_eq (rows_eq c M2 f2 fullShare.left).symm) $$ HL
  ihave HR := (Entails.of_eq (rows_eq c M2 f2 fullShare.right).symm) $$ HR
  sl_step
  isplitl [H1]; · iexact H1
  isplitl [HL HR]
  · iapply (pointsTo_share (PosShare.mem_left_op_right fullShare)).2
    isplitl [HL] <;> iassumption
  isplitl [HN HX]
  · iapply (dest_split c w hw (landed w (M2.view.read (Elt F) f2) fd)).2
    isplitl [HN] <;> iassumption
  isplitl [HC]; · iexact HC
  iexact HO

end Whole

end Cert.KernelIdeal.Hand

end
-- ==== Proof.Run.lean ====
/- The dispatch program's run, over any value instance: the launch around the body of `Body.lean`, the result named as the
   contents the sixteen points' copies leave one after the other. -/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## What the points leave -/

/-- The positions point `t` reads, and its block of token rows. -/
def words (c : Dev nD) (t : Fin cfg0.N) : Fin (2 * k0_t1_loop.trips) → BitVec 32 := fun j =>
  iblk m c 0 t (ValueIdx.ix3 (n0 := 1) (n1 := 1) (n2 := 2048) 0 0 (j.cast (by rw [trips1])))
def tokens (c : Dev nD) (t : Fin cfg0.N) : S1024x1024.Idx → Elt F .f32 := iblk m c 1 t

/-- The result array after `n` points. -/
def accum (c : Dev nD) : ℕ → S49152x1024.Idx → Elt F .f32
  | 0 => V m c main_v46
  | n + 1 => if h : n < cfg0.N then landed (words m c ⟨n, h⟩) (tokens m c ⟨n, h⟩) (accum c n) else accum c n

/-- Each point's positions are rows of the result, no row named twice. -/
def Good : Prop := ∀ c t, (∀ j, k0_chk1 (words m c t j)) ∧ ∀ j j', (words m c t j).toNat = (words m c t j').toNat → j = j'

/-! ## The invariant -/

def GG (n : ℕ) (c : Dev nD) : (b : Ref sig .tc) → Buf (Elt F) ((c : Thread nD τ).loc b) :=
  Function.update (V m c) main_v46 (accum m c n)

abbrev osem0 : Fin 1 → SemLoc sig := fun j => (![SemLoc.dma 4] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 4) 0 := by
  rw [Pipeline.ownSems0_eq_of_list c osem0 [0] (by decide) (by decide)]; rfl

/-- The array the copies write, aliased to the third operand. -/
def R0 : Finset (Ref sig .tc) := {main_v46}
theorem R0_sub : R0 ⊆ Pipeline.restRefs sig spec0 \ ∅ := by decide

theorem routed0_eq (n : ℕ) (c : Dev nD) :
    (Pipeline.routed R0 c (GG m n c) : sProp 𝕄) = (resLoc c ↦{fullShare} accum m c n) := by
  unfold Pipeline.routed
  rw [BI.bigSep_eq_bigSepL_of_eq [main_v46] (by decide) (by decide)]
  show (resLoc c ↦{fullShare} GG m n c main_v46 : sProp 𝕄) = _
  unfold GG
  rw [Function.update_self]

theorem Phi_eq (n : ℕ) (c : Dev nD) :
    (Pipeline.ΦDRG osem0 spec0 ∅ R0 (V m) (GG m n) c : sProp 𝕄)
      = iprop(BIBase.emp ∗ (∃ r, prngReg c r) ∗ semVal ((c : Thread nD τ), SemLoc.dma 4) 0 ∗ BIBase.emp
          ∗ (resLoc c ↦{fullShare} accum m c n)) := by
  rw [Pipeline.ΦDRG_eq, scopedRest0_eq, ownSems00_eq, routed0_eq]
  rfl

theorem GG_zero (c : Dev nD) : GG m 0 c = V m c := by
  unfold GG accum
  exact Function.update_eq_self _ _

/-! ## The proof data and the body obligation -/

def dats (_ : Fin 1) (c : Dev nD) : Dat τ (Elt F) Unit ℕ (Pipeline.UD sig nD τ) ℕ cfg0 c where
  A w := V m c (Pipeline.arrRef spec0 w)
  after w t :=
    match w with
    | ⟨0, _⟩ => iblk m c 0 t
    | ⟨1, _⟩ => iblk m c 1 t
    | ⟨_ + 2, h⟩ => absurd h (Nat.not_lt.2 (Nat.le_add_left _ _))
  Φ t := Pipeline.ΦDRG osem0 spec0 ∅ R0 (V m) (GG m t.val) c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem accum_succ (c : Dev nD) (t : Fin cfg0.N) :
    accum m c (t.val + 1) = landed (words m c t) (tokens m c t) (accum m c t.val) := by
  show (if h : t.val < cfg0.N then landed (words m c ⟨t.val, h⟩) (tokens m c ⟨t.val, h⟩) (accum m c t.val) else accum m c t.val) = _
  rw [dif_pos t.isLt]

theorem sound_body (hg : Good m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦDRG osem0 spec0 ∅ R0 (V m) (GG m (t.val + 1)) c from rfl,
    show (dats m 0 c).owesAt () t.succ = (dats m 0 c).owesAt () t.castSucc from rfl,
    show (dats m 0 c).Φ t.castSucc = Pipeline.ΦDRG osem0 spec0 ∅ R0 (V m) (GG m t.val) c from rfl, Phi_eq, Phi_eq, accum_succ]
  simp only [before0, before1, after0, after1]
  unfold Dat.owesAt Pipeline.owesWithin
  rw [show (dats m 0 c).owed t.castSucc = 0 from rfl]
  unfold owns
  iintro ⟨⟨HE, Hg, HC, HE', HV⟩, ⟨%W, %hW, HO⟩, ⟨%d0, %f1, %hf1, H1⟩, ⟨%d1, %f2, %hf2, H2⟩⟩
  have hrun := body_run (F := F) c (words m c t) (hg c t).1 (hg c t).2 (st0_0 t) (hstage0_0 ((cfg0.slots t 0).cast nbuf0_0))
    (st0_1 t) (hstage0_1 ((cfg0.slots t 1).cast nbuf0_1)) f1 f2 (accum m c t.val)
    (fun j => congrFun hf1 _) (grid0.coords t) (Memref.isWhole_whole _)
  rw [show (st0_1 t).view.read (Elt F) f2 = tokens m c t from hf2] at hrun
  ihave HW := hrun $$ [H1 H2 HV HC HO]
  · isplitl [H1]; · iexact H1
    isplitl [H2]; · iexact H2
    isplitl [HV]; · iexact HV
    isplitl [HC]; · iexact HC
    iexists W; iexact HO
  iapply (wp_wand frame (wpE (defs₀ (F := F)) Variants.none (c : Thread nD τ) none) Set.univ) $$ HW
  iintro %u ⟨H1, H2, HV, HC, ⟨%W', HO⟩⟩
  isplitl [HE Hg HC HE' HV]
  · isplitl [HE]; · iexact HE
    isplitl [Hg]; · iexact Hg
    isplitl [HC]; · iexact HC
    isplitl [HE']; · iexact HE'
    iexact HV
  isplitl [HO]
  · iexists W'; isplitr; · ipureintro; exact fun _ _ => Or.inl trivial
    iexact HO
  isplitl [H1]
  · iexists f1; isplitr; · ipureintro; exact hf1
    iexact H1
  · iexists f2; isplitr; · ipureintro; exact hf2
    iexact H2

theorem defs₀_row (t : Fin cfg0.N) : defs₀ (F := F) .tc cfg0.body (cfg0.bodyArgs t (cfg0.slots t)) = bodyAt0 t := by
  unfold defs₀; rw [Defs.onTc_tc]

theorem body_obligation (hg : Good m) (c : Dev nD) :
    BodyObligation (dats (F := F) m 0 c) (defs₀ (F := F)) Variants.none () Set.univ := fun t => by
  rw [bigSep_W0, bigSep_W0, defs₀_row]
  exact triple_restated (sound_body m hg c t) rfl .rfl fun _ => .rfl

/-! ## The launch -/

set_option maxHeartbeats 800000 in
/-- The lines of host operations, then the region, at the algebra the transfers run in. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩)
    main_chain

set_option backward.isDefEq.respectTransparency.types false in
theorem run_post (hg : Good m) :
    θ_run defs (onTc (τ := τ) (main (F := F))) (s₀ m ρ)
      (fun r => Pipeline.FramePostRG cfgs (dats m) 0 R0 (V m) (GG m cfg0.N) r ∧ r.2.sem = fun _ => 0) :=
  Pipeline.θ_run_frame_dmaRG (Q' := _) cfgs (dats m) (0 : Fin 1) launch0 osem0 defs₀ Variants.none ownSemFacts0 ∅ R0 (Finset.empty_subset _) R0_sub m ρ main
    (hbody := fun c => (body_obligation m hg c).loose) (hshare := fun c => (dats m 0 c).share_full fun _ => rfl)
    (howed := fun _ _ => rfl) (V := V m) (hmain := hmainD m Variants.none) (hA := A_eq m) (G := GG m cfg0.N)
    (hin := fun c => Entails.of_eq (congrArg (fun G => Pipeline.ΦDRG osem0 spec0 ∅ R0 (V m) G c) (funext fun c => (GG_zero m c).symm)))
    (hout := fun _ => .rfl) (hQ' := fun _ h => h)

/-- Every run ends with the arguments as launched, the counters at zero, and the result at what the sixteen points leave. -/
theorem run_main (hg : Good m) :
    θ_run defs (onTc (τ := τ) (main (F := F))) (s₀ m ρ) (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) ∧ ∀ c : Dev nD, r.2.mem ((c.tc : Thread nD τ).loc main_v46) = accum m c cfg0.N) :=
  (θ_run defs _ _).mono (fun r h => ⟨⟨fun c =>
      ⟨((h.1.1 c).2 main_arg0 (Finset.mem_sdiff.mpr ⟨Pipeline.mem_restRefs_of main_arg0 (by decide) (by decide), by decide⟩)).trans (V_main_arg0 m c),
       ((h.1.1 c).1 1).trans (((dats m 0 c).arrAt_in 1 rfl _).trans ((A_eq m c 1).trans (V_main_arg1 m c))),
       ((h.1.1 c).2 main_arg2 (Finset.mem_sdiff.mpr ⟨Pipeline.mem_restRefs_of main_arg2 (by decide) (by decide), by decide⟩)).trans (V_main_arg2 m c)⟩,
      h.2⟩, fun c => (h.1.2 c main_v46 (by decide)).trans (by unfold GG; rw [Function.update_self])⟩) (run_post m ρ hg)

end Cert.KernelIdeal.Hand

end
-- ==== Proof.KPos.lean ====
/- The positions the dispatch program computes before its call: word by word, the rows of `Pos.lean`. -/
module

public import proofs.«01_k».proof.Proof.Run
public import proofs.«01_k».proof.Proof.Pos
public import Idealize.ShloMosaic.Lib.StableHlo.Run

@[expose] public section

noncomputable section

namespace Cert.KernelIdeal.Hand

open Cert.KernelIdeal Cert.KernelIdeal.Gen Cert.Pos
open Idealize.ShloMosaic Idealize.ShloMosaic.TcCoe Idealize.ShloMosaic.ValueIdx Idealize.ShloMosaic.Routing
open Idealize.SL.Sem Idealize.ShloMosaic.StableHlo

/-- Each assignment's expert as a row of zeros and a one. -/
def hot (v : IVec S32768 32) : IVec S32768x32 32 :=
  extui 32 (cmpi .eq (broadcastInDim S32768x32 ![0, 1] bcast_S32768x1_S32768x32_0_1 (broadcastInDim S32768x1 ![0] bcast_S32768_S32768x1_0 v))
    (broadcastInDim S32768x32 ![0, 1] bcast_S1x32_S32768x32_0_1 (broadcastInDim S1x32 ![1] bcast_S32_S1x32_1 (iotaInDim S32 32 0)))) natLt_1_32
/-- Running sums down the assignments. -/
def run (h : IVec S32768x32 32) : IVec S32768x32 32 :=
  Host.reduceWindow IntOp.addi ![32768, 1] ![1, 1] ![32767, 0] ![0, 0] h (broadcastInDim S_ ![] bcast_S_S_ (constantI S_ 32 0#32))
    reduceWindows_S32768x32_S32768x32_w32768s1p32767_0_w1s1p0_0 h_S_
/-- The rank of each assignment within its expert. -/
def rank (h : IVec S32768x32 32) : IVec S32768 32 :=
  subi (Host.reduce IntOp.addi (muli (run h) h) (constantI S_ 32 0#32) reducesTo_S32768x32_S32768_d1 h_S_)
    (broadcastInDim S32768 ![] bcast_S_S32768 (constantI S_ 32 1#32))
/-- The rows each expert takes. -/
def rows (h : IVec S32768x32 32) : IVec S32 32 :=
  muli (pyDiv bcast_S_S32 (subi (addi (shapeCast S32 (extractStridedSlice S1x32 ![32767, 0] (run h) slices_S32768x32_S1x32_32767_0) shapeCasts_S1x32_S32)
      (broadcastInDim S32 ![] bcast_S_S32 (constantI S_ 32 512#32))) (broadcastInDim S32 ![] bcast_S_S32 (constantI S_ 32 1#32)))
      (constantI S_ 32 512#32))
    (broadcastInDim S32 ![] bcast_S_S32 (constantI S_ 32 512#32))
/-- The first row of each expert. -/
def starts (r : IVec S32 32) : IVec S32 32 :=
  subi (Host.reduceWindow IntOp.addi ![32] ![1] ![31] ![0] r (broadcastInDim S_ ![] bcast_S_S_ (constantI S_ 32 0#32)) reduceWindows_S32_S32_w32s1p31_0 h_S_) r
/-- The row of each assignment. -/
def positions (h : IVec S32768x32 32) : IVec S32768 32 :=
  addi (Host.reduce IntOp.addi (muli (broadcastInDim S32768x32 ![0, 1] bcast_S1x32_S32768x32_0_1 (broadcastInDim S1x32 ![1] bcast_S32_S1x32_1 (starts (rows h)))) h)
    (constantI S_ 32 0#32) reducesTo_S32768x32_S32768_d1 h_S_) (rank h)

section Reading
variable (v : IVec S32768 32) (e : ℕ → ℕ) (hv : ∀ a : Fin 32768, v (ix1 a) = BitVec.ofNat 32 (e a.val)) (he : ∀ a, a < 32768 → e a < 32)
include hv he

theorem hot_at (a : Fin 32768) (x : Fin 32) : hot v (ix2 a x) = BitVec.ofNat 32 (if e a.val = x.val then 1 else 0) := by
  have h : cmpi .eq (broadcastInDim S32768x32 ![0, 1] bcast_S32768x1_S32768x32_0_1 (broadcastInDim S32768x1 ![0] bcast_S32768_S32768x1_0 v))
      (broadcastInDim S32768x32 ![0, 1] bcast_S1x32_S32768x32_0_1 (broadcastInDim S1x32 ![1] bcast_S32_S1x32_1 (iotaInDim S32 32 0))) (ix2 a x)
      = BitVec.ofBool (decide (e a.val = x.val)) := by
    show IntOp.cmpi .eq _ _ = _
    rw [bcRows, bcCols, hv, iota1_ap, WordCmp.cmpi_eq_ofNat (w := 32) (by have := he a.val a.isLt; omega) (by have := x.isLt; omega)]
  unfold hot
  show BitVec.setWidth 32 _ = _
  rw [h, setWidth_ofBool]

theorem run_at (a : Fin 32768) (x : Fin 32) : run (hot v) (ix2 a x) = BitVec.ofNat 32 (Nat.count (fun b => e b = x.val) (a.val + 1)) := by
  unfold run
  rw [cumsum_rows (R := 32768) (Rm1 := 32767) (C := 32) rfl (hot v) (fun i c => if e i = c then 1 else 0) (hot_at v e hv he) _ (by rw [bc0]; rfl), sum_map_ite]

theorem rank_at (a : Fin 32768) : rank (hot v) (ix1 a) = BitVec.ofNat 32 (rk e a.val) := by
  unfold rank
  rw [subi_ap, bc0, reduce_row (n := 32768) (m := 32) _ (fun x => if e a.val = x then Nat.count (fun b => e b = x) (a.val + 1) else 0) a (fun q => by
    rw [muli_ap, run_at v e hv he, hot_at v e hv he]
    split
    · show _ * 1#32 = _; rw [BitVec.mul_one]
    · show _ * 0#32 = _; rw [BitVec.mul_zero]), sum_pick _ _ 32 (he _ a.isLt)]
  rw [Nat.count_succ, if_pos rfl]
  show BitVec.ofNat 32 _ - 1#32 = _
  rw [StableHlo.Predicate.sub_one_ofNat _ (by omega) (by have := Nat.count_le (p := fun b => e b = e a.val) (n := a.val); have := a.isLt; omega)]
  rfl

theorem rows_at (x : Fin 32) : rows (hot v) (ix1 x) = BitVec.ofNat 32 (tiles e x.val * 512) := by
  have hs : shapeCast S32 (extractStridedSlice S1x32 ![32767, 0] (run (hot v)) slices_S32768x32_S1x32_32767_0) shapeCasts_S1x32_S32 (ix1 x)
      = BitVec.ofNat 32 (cnt e x.val) := by
    rw [cast21 (a := 1) (b := 32) _ _ (0 : Fin 1) x x (by simp)]
    have : extractStridedSlice S1x32 ![32767, 0] (run (hot v)) slices_S32768x32_S1x32_32767_0 (ix2 (0 : Fin 1) x)
        = run (hot v) (ix2 (⟨32767, by decide⟩ : Fin 32768) x) := by
      unfold extractStridedSlice
      refine congrArg (run (hot v)) (funext fun b => Fin.ext ?_)
      match b with
      | ⟨0, _⟩ => rfl
      | ⟨1, _⟩ => show 0 + x.val = x.val; exact Nat.zero_add _
    rw [this, run_at v e hv he]; rfl
  have hc := cnt_le e x.val
  unfold rows
  rw [muli_ap, bc0, pyDiv_ap bcast_S_S32 _ _ (ix1 x) (a := cnt e x.val + 512 - 1) (b := 512) (by
      rw [subi_ap, addi_ap, hs, bc0, bc0]
      show BitVec.ofNat 32 _ + BitVec.ofNat 32 512 - 1#32 = _
      rw [← BitVec.ofNat_add, StableHlo.Predicate.sub_one_ofNat _ (by omega) (by omega)]) rfl (by omega) (by decide) (by decide)]
  show BitVec.ofNat 32 _ * BitVec.ofNat 32 512 = _
  rw [← BitVec.ofNat_mul]; rfl

theorem starts_at (x : Fin 32) : starts (rows (hot v)) (ix1 x) = BitVec.ofNat 32 (st e x.val) := by
  unfold starts
  rw [subi_ap, cumsum1 (N := 32) (Nm1 := 31) rfl (rows (hot v)) (fun y => tiles e y * 512) (rows_at v e hv he) _ (by rw [bc0]; rfl), rows_at v e hv he]
  have : ((List.range (x.val + 1)).map fun y => tiles e y * 512).sum = st e x.val + tiles e x.val * 512 := st_succ e x.val
  rw [this, BitVec.ofNat_add, BitVec.add_sub_cancel]

theorem positions_at (a : Fin 32768) : positions (hot v) (ix1 a) = BitVec.ofNat 32 (row e a.val) := by
  unfold positions
  rw [addi_ap, rank_at v e hv he, reduce_row (n := 32768) (m := 32) _ (fun x => if e a.val = x then st e x else 0) a (fun q => by
    rw [muli_ap, bcCols, starts_at v e hv he, hot_at v e hv he]
    split
    · show _ * 1#32 = _; rw [BitVec.mul_one]
    · show _ * 0#32 = _; rw [BitVec.mul_zero]), sum_pick _ _ 32 (he _ a.isLt), ← BitVec.ofNat_add]
  rfl

end Reading

end Cert.KernelIdeal.Hand
-- ==== Proof.KVal.lean ====
/- What the dispatch program's call reads and writes: its positions are the rows of `Pos.lean`, so its copies name pairwise different
   rows of the array, and the array it leaves holds each token in its two rows and the third argument elsewhere. -/
module

public import proofs.«01_k».proof.Proof.KPos
public import Idealize.ShloMosaic.Lib.Pipeline.ValueKit.Geometry

@[expose] public section

noncomputable section

namespace Cert.KernelIdeal.Hand

open Cert.KernelIdeal Cert.KernelIdeal.Gen Cert.Pos
open Idealize.ShloMosaic Idealize.ShloMosaic.TcCoe Idealize.ShloMosaic.ValueIdx Idealize.ShloMosaic.Routing
open Idealize.SL.Sem Idealize.ShloMosaic.StableHlo

variable {F : FTy → Type} [FloatOps F] [∀ e, Nonempty (Elt F e)]
variable (m : (ℓ : Loc nD τ sig) → Buf (Elt F) ℓ)

/-- The experts of the assignments, in order. -/
def flat (c : Dev nD) : IVec S32768 32 := shapeCast S32768 (m ((c : Thread nD τ).loc main_arg0)) shapeCasts_S16384x2_S32768

set_option maxRecDepth 8192 in
set_option maxHeartbeats 8000000 in
theorem V_positions (c : Dev nD) : V m c main_v45 = shapeCast S16x1x2048 (positions (hot (flat m c))) shapeCasts_S32768_S16x1x2048 := by
  simp only [V, hostOps0, hostOps0_1, hostOps0_2, hostOps0_3, hostOps0_4, hostOps0_5, hostOps0_6, hostOps0_7, hostOps0_8, List.flatten_cons, List.flatten_nil,
    List.append_nil, List.cons_append, List.nil_append, TRef.binary, TRef.nullary, TRef.ternary, TRef.unary, TRef.toBuf, TRef.ofBuf, cast_eq]
  after_results_simp
  rfl

set_option maxRecDepth 8192 in
set_option maxHeartbeats 8000000 in
theorem V_copy (c : Dev nD) : V m c main_v46 = m ((c : Thread nD τ).loc main_arg2) := by
  simp only [V, hostOps0, hostOps0_1, hostOps0_2, hostOps0_3, hostOps0_4, hostOps0_5, hostOps0_6, hostOps0_7, hostOps0_8, List.flatten_cons, List.flatten_nil,
    List.append_nil, List.cons_append, List.nil_append, TRef.binary, TRef.nullary, TRef.ternary, TRef.unary, TRef.toBuf, TRef.ofBuf, cast_eq]
  after_results_simp
  rfl

/-! ## The blocks of a point -/

theorem index0 : ∀ t : Fin cfg0.N, win0_0.index t = ![t.val, 0, 0] := by decide +kernel
theorem index1 : ∀ t : Fin cfg0.N, win0_1.index t = ![t.val, 0] := by decide +kernel
theorem cfg0_N : cfg0.N = 16 := by decide

theorem words_eq (c : Dev nD) (t : Fin cfg0.N) (j : Fin (2 * k0_t1_loop.trips)) :
    words m c t j = V m c main_v45 (ix3 (n0 := 16) (n1 := 1) (n2 := 2048) ⟨t.val, by have := t.isLt; have := cfg0_N; omega⟩ 0 (j.cast (by rw [trips1]))) := by
  unfold words iblk
  show V m c main_v45 _ = V m c main_v45 _
  refine congrArg (V m c main_v45) (funext fun a => Fin.ext ?_)
  match a with
  | ⟨0, _⟩ => blk_simp [index0]
  | ⟨1, _⟩ => blk_simp [index0]
  | ⟨2, _⟩ => blk_simp [index0]

theorem tokens_eq (c : Dev nD) (t : Fin cfg0.N) (r : Fin 1024) (k : Fin 1024) :
    tokens m c t (ix2 r k) = m ((c : Thread nD τ).loc main_arg1)
      (ix2 (n0 := 16384) (n1 := 1024) ⟨1024 * t.val + r.val, by have := t.isLt; have := cfg0_N; have := r.isLt; omega⟩ k) := by
  rw [← V_main_arg1 m c]
  unfold tokens iblk
  show V m c main_arg1 _ = V m c main_arg1 _
  refine congrArg (V m c main_arg1) (funext fun a => Fin.ext ?_)
  match a with
  | ⟨0, _⟩ => blk_simp [index1]; show t.val * 1024 + r.val = 1024 * t.val + r.val; omega
  | ⟨1, _⟩ => blk_simp [index1]

/-! ## The rows -/

/-- The expert of assignment `a`, a natural number. -/
def expert (c : Dev nD) (a : ℕ) : ℕ := if h : a < 32768 then (flat m c (ix1 ⟨a, h⟩)).toNat else 0

section Rows
variable (c : Dev nD) (he : ∀ a, a < 32768 → expert m c a < 32)
include he

theorem flat_at (a : Fin 32768) : flat m c (ix1 a) = BitVec.ofNat 32 (expert m c a.val) := by
  unfold expert; rw [dif_pos a.isLt, BitVec.ofNat_toNat, BitVec.setWidth_eq]

theorem words_at (t : Fin cfg0.N) (j : Fin (2 * k0_t1_loop.trips)) :
    (words m c t j).toNat = row (expert m c) (2048 * t.val + j.val) := by
  have ht := t.isLt; have hN := cfg0_N; have hj := j.isLt; have h1 := trips1
  have ha : 2048 * t.val + j.val < 32768 := by omega
  rw [words_eq, V_positions, cast13 (a := 16) (b := 1) (c := 2048) (n := 32768) _ _ _ _ _ ⟨2048 * t.val + j.val, ha⟩ (by
    show 2048 * t.val + j.val = (t.val * 1 + 0) * 2048 + j.val; omega),
    positions_at (flat m c) (expert m c) (flat_at m c he) he, BitVec.toNat_ofNat]
  exact Nat.mod_eq_of_lt (lt_trans (row_lt ha (he _ ha)) (by decide))

end Rows

theorem good (he : ∀ c a, a < 32768 → expert m c a < 32) : Good m := by
  intro c t
  have ht := t.isLt; have hN := cfg0_N; have h1 := trips1
  refine ⟨fun j => ?_, fun j j' h => ?_⟩
  · have hj := j.isLt
    have h := row_lt (e := expert m c) (a := 2048 * t.val + j.val) (by omega) (he c _ (by omega))
    rw [← words_at m c (he c)] at h
    intro a
    match a with
    | ⟨0, _⟩ => show (words m c t j).toNat + 1 ≤ 49152; omega
    | ⟨1, _⟩ => show 0 + 1024 ≤ 1024; omega
  · have hj := j.isLt; have hj' := j'.isLt
    rw [words_at m c (he c), words_at m c (he c)] at h
    have := row_inj (by omega) (by omega) h
    exact Fin.ext (by omega)

/-! ## The array the call leaves -/

/-- Assignment `a` is token `a / 2`'s. -/
theorem accum_hit (c : Dev nD) (he : ∀ a, a < 32768 → expert m c a < 32) (n : ℕ) (hn : n ≤ 16) (a : ℕ) (ha : a < 2048 * n)
    (i : S49152x1024.Idx) (hi : (i 0).val = row (expert m c) a) :
    accum m c n i = m ((c : Thread nD τ).loc main_arg1) (ix2 (n0 := 16384) (n1 := 1024) ⟨a / 2, by omega⟩ (i 1)) := by
  have hN := cfg0_N; have h1 := trips1
  induction n with
  | zero => omega
  | succ n ih =>
    have hnN : n < cfg0.N := by omega
    rw [accum, dif_pos hnN]
    by_cases hl : a < 2048 * n
    · have hno : ¬ ∃ j, (words m c ⟨n, hnN⟩ j).toNat = (i 0).val := by
        rintro ⟨j, hj⟩
        have hjl : j.val < 2048 := j.isLt
        rw [words_at m c he, hi] at hj
        have h2 : 2048 * n + j.val = a := row_inj (e := expert m c) (by omega) (by omega) hj
        omega
      rw [landed_off _ _ _ _ hno]
      exact ih (by omega) hl
    · have hinj : ∀ j j', (words m c ⟨n, hnN⟩ j).toNat = (words m c ⟨n, hnN⟩ j').toNat → j = j' := fun j j' h => by
        have hj := j.isLt; have hj' := j'.isLt
        rw [words_at m c he, words_at m c he] at h
        have := row_inj (e := expert m c) (by show 2048 * n + j.val < 32768; omega) (by show 2048 * n + j'.val < 32768; omega) h
        exact Fin.ext (by omega)
      rw [landed_at _ _ _ hinj ⟨a - 2048 * n, by omega⟩ i (by
        rw [words_at m c he, hi]; congr 1; show a = 2048 * n + (a - 2048 * n); omega)]
      refine (tokens_eq m c ⟨n, hnN⟩ _ _).trans ?_
      refine congrArg (m ((c : Thread nD τ).loc main_arg1)) ?_
      congr 1
      exact Fin.ext (by show 1024 * n + (a - 2048 * n) / 2 = a / 2; omega)

theorem accum_miss (c : Dev nD) (he : ∀ a, a < 32768 → expert m c a < 32) (n : ℕ) (hn : n ≤ 16)
    (i : S49152x1024.Idx) (hi : ∀ a, a < 2048 * n → (i 0).val ≠ row (expert m c) a) :
    accum m c n i = m ((c : Thread nD τ).loc main_arg2) i := by
  have hN := cfg0_N; have h1 := trips1
  induction n with
  | zero => rw [accum, V_copy]
  | succ n ih =>
    have hnN : n < cfg0.N := by omega
    have hno : ¬ ∃ j, (words m c ⟨n, hnN⟩ j).toNat = (i 0).val := by
      rintro ⟨j, hj⟩
      have hjl : j.val < 2048 := j.isLt
      rw [words_at m c he] at hj
      exact hi (2048 * n + j.val) (by omega) hj.symm
    rw [accum, dif_pos hnN, landed_off _ _ _ _ hno]
    exact ih (by omega) fun a ha => hi a (by omega)

end Cert.KernelIdeal.Hand
-- ==== Proof.RVal.lean ====
/- What the reference computes: token `a / 2` at the row of assignment `a`, for every assignment, and the given array elsewhere. -/
module

public import proofs.«01_k».proof.Proof.Gen.ReferenceIdeal
public import proofs.«01_k».proof.Proof.Gen.ReferenceIdeal.Run
public import proofs.«01_k».proof.Proof.Pos
public import Idealize.ShloMosaic.Lib.StableHlo.Run

@[expose] public section

noncomputable section

namespace Cert.ReferenceIdeal.Hand

open Cert.ReferenceIdeal Cert.ReferenceIdeal.Gen Cert.Pos
open Idealize.ShloMosaic Idealize.ShloMosaic.TcCoe Idealize.ShloMosaic.ValueIdx Idealize.ShloMosaic.Routing
open Idealize.SL.Sem Idealize.ShloMosaic.StableHlo

/-- Which earlier assignments chose the same expert. -/
def earlier (v : IVec S32768 32) : IVec S32768x32768 1 :=
  andi (cmpi .eq (broadcastInDim S32768x32768 ![0, 1] bcast_S1x32768_S32768x32768_0_1 (broadcastInDim S1x32768 ![1] bcast_S32768_S1x32768_1 v))
      (broadcastInDim S32768x32768 ![0, 1] bcast_S32768x1_S32768x32768_0_1 (broadcastInDim S32768x1 ![0] bcast_S32768_S32768x1_0 v)))
    (cmpi .slt (broadcastInDim S32768x32768 ![0, 1] bcast_S1x32768_S32768x32768_0_1 (broadcastInDim S1x32768 ![1] bcast_S32768_S1x32768_1 (iotaInDim S32768 32 0)))
      (broadcastInDim S32768x32768 ![0, 1] bcast_S32768x1_S32768x32768_0_1 (broadcastInDim S32768x1 ![0] bcast_S32768_S32768x1_0 (iotaInDim S32768 32 0))))
/-- The rank of each assignment within its expert. -/
def rank (v : IVec S32768 32) : IVec S32768 32 :=
  Host.reduce IntOp.addi (extui 32 (earlier v) natLt_1_32) (constantI S_ 32 0#32) reducesTo_S32768x32768_S32768_d1 h_S_
/-- The assignments of each expert. -/
def counts (v : IVec S32768 32) : IVec S32 32 :=
  Host.reduce IntOp.addi (extui 32 (cmpi .eq (broadcastInDim S32768x32 ![0, 1] bcast_S32768x1_S32768x32_0_1 (broadcastInDim S32768x1 ![0] bcast_S32768_S32768x1_0 v))
    (broadcastInDim S32768x32 ![0, 1] bcast_S1x32_S32768x32_0_1 (broadcastInDim S1x32 ![1] bcast_S32_S1x32_1 (iotaInDim S32 32 0)))) natLt_1_32)
    (constantI S_ 32 0#32) reducesTo_S32768x32_S32_d0 h_S_
/-- The tiles of each expert. -/
def tilesOf (v : IVec S32768 32) : IVec S32 32 :=
  pyDiv bcast_S_S32 (subi (addi (counts v) (broadcastInDim S32 ![] bcast_S_S32 (constantI S_ 32 512#32))) (broadcastInDim S32 ![] bcast_S_S32 (constantI S_ 32 1#32)))
    (constantI S_ 32 512#32)
/-- The tiles before each assignment's expert. -/
def before (v : IVec S32768 32) : IVec S32768 32 :=
  Host.reduce IntOp.addi (select (cmpi .sgt (broadcastInDim S32768x32 ![0, 1] bcast_S32768x1_S32768x32_0_1 (broadcastInDim S32768x1 ![0] bcast_S32768_S32768x1_0 v))
      (broadcastInDim S32768x32 ![0, 1] bcast_S1x32_S32768x32_0_1 (broadcastInDim S1x32 ![1] bcast_S32_S1x32_1 (iotaInDim S32 32 0))))
    (broadcastInDim S32768x32 ![0, 1] bcast_S1x32_S32768x32_0_1 (broadcastInDim S1x32 ![1] bcast_S32_S1x32_1 (tilesOf v)))
    (broadcastInDim S32768x32 ![] bcast_S_S32768x32 (constantI S_ 32 0#32)))
    (constantI S_ 32 0#32) reducesTo_S32768x32_S32768_d1 h_S_
/-- The row of each assignment. -/
def rowOf (v : IVec S32768 32) : IVec S32768 32 :=
  addi (muli (before v) (broadcastInDim S32768 ![] bcast_S_S32768 (constantI S_ 32 512#32))) (rank v)
/-- The column of row words the scatter takes. -/
def rowCol (r : IVec S32768 32) : IVec S32768x1 32 :=
  broadcastInDim S32768x1 ![0] bcast_S32768_S32768x1_0 (select (cmpi .slt r (broadcastInDim S32768 ![] bcast_S_S32768 (constantI S_ 32 0#32)))
    (addi r (broadcastInDim S32768 ![] bcast_S_S32768 (constantI S_ 32 49152#32))) r)
/-- Each token's row, twice. -/
def twice {α : Type} (h : S16384x1024.Idx → α) : S32768x1024.Idx → α :=
  shapeCast S32768x1024 (broadcastInDim S16384x2x1024 ![0, 2] bcast_S16384x1024_S16384x2x1024_0_2 h) shapeCasts_S16384x2x1024_S32768x1024

section Reading
variable (v : IVec S32768 32) (e : ℕ → ℕ) (hv : ∀ a : Fin 32768, v (ix1 a) = BitVec.ofNat 32 (e a.val)) (he : ∀ a, a < 32768 → e a < 32)
include hv he

theorem earlier_at (a b : Fin 32768) : earlier v (ix2 a b) = 1#1 ↔ (b.val < a.val ∧ e b.val = e a.val) := by
  unfold earlier
  show IntOp.andi (IntOp.cmpi .eq _ _) (IntOp.cmpi .slt _ _) = 1#1 ↔ _
  rw [bcCols, bcRows, bcCols, bcRows, hv, hv, iota1_ap, iota1_ap,
    WordCmp.cmpi_eq_ofNat (w := 32) (by have := he _ b.isLt; omega) (by have := he _ a.isLt; omega),
    WordCmp.cmpi_slt_ofNat (w := 32) (by have := b.isLt; omega) (by have := a.isLt; omega), IntOp.andi_eq_one, StableHlo.Predicate.ofBool_eq_one_iff, StableHlo.Predicate.ofBool_eq_one_iff, decide_eq_true_iff, decide_eq_true_iff]
  exact and_comm

theorem rank_at (a : Fin 32768) : rank v (ix1 a) = BitVec.ofNat 32 (rk e a.val) := by
  unfold rank
  rw [reduce_count (n := 32768) (m := 32768) (by decide) (earlier v) natLt_1_32 _ _ a (fun b => b < a.val ∧ e b = e a.val) (fun b => earlier_at v e hv he a b)]
  exact congrArg (BitVec.ofNat 32) (count_and_lt (fun b => e b = e a.val) a.val 32768 a.isLt.le)

theorem counts_at (x : Fin 32) : counts v (ix1 x) = BitVec.ofNat 32 (cnt e x.val) := by
  unfold counts
  rw [reduce_count_down (n := 32768) (m := 32) (by decide) _ natLt_1_32 _ _ x (fun b => e b = x.val) (fun b => by
    show IntOp.cmpi .eq _ _ = 1#1 ↔ _
    rw [bcRows, bcCols, hv, iota1_ap, WordCmp.cmpi_eq_ofNat (w := 32) (by have := he _ b.isLt; omega) (by have := x.isLt; omega),
      StableHlo.Predicate.ofBool_eq_one_iff, decide_eq_true_iff])]
  rfl

theorem tilesOf_at (x : Fin 32) : tilesOf v (ix1 x) = BitVec.ofNat 32 (tiles e x.val) := by
  have hc := cnt_le e x.val
  unfold tilesOf
  rw [pyDiv_ap bcast_S_S32 _ _ (ix1 x) (a := cnt e x.val + 512 - 1) (b := 512) (by
      rw [subi_ap, addi_ap, counts_at v e hv he, bc0, bc0]
      show BitVec.ofNat 32 _ + BitVec.ofNat 32 512 - 1#32 = _
      rw [← BitVec.ofNat_add, StableHlo.Predicate.sub_one_ofNat _ (by omega) (by omega)]) rfl (by omega) (by decide) (by decide)]
  rfl

theorem before_at (a : Fin 32768) : before v (ix1 a) = BitVec.ofNat 32 ((List.range (e a.val)).map (tiles e)).sum := by
  have ha := he _ a.isLt
  unfold before
  rw [reduce_row (n := 32768) (m := 32) _ (fun x => if x < e a.val then tiles e x else 0) a (fun q => by
    have hq := q.isLt
    show Scalar.select (IntOp.cmpi .sgt _ _) _ _ = _
    rw [bcRows, bcCols, hv, iota1_ap, bcCols, tilesOf_at v e hv he, bc0,
      cmpi_sgt_small _ _ (by omega) (by omega)]
    by_cases h : q.val < e a.val
    · rw [if_pos h, decide_eq_true h]; rfl
    · rw [if_neg h, decide_eq_false h]; rfl), sum_below _ _ 32 (by omega)]

theorem rowOf_at (a : Fin 32768) : rowOf v (ix1 a) = BitVec.ofNat 32 (row e a.val) := by
  unfold rowOf
  rw [addi_ap, muli_ap, before_at v e hv he, rank_at v e hv he, bc0]
  show BitVec.ofNat 32 _ * BitVec.ofNat 32 512 + _ = _
  rw [← BitVec.ofNat_mul, ← BitVec.ofNat_add]
  congr 1
  unfold row st
  rw [sum_mul_right]

theorem rowCol_at (a : Fin 32768) : rowCol (rowOf v) (ix2 a 0) = BitVec.ofNat 32 (row e a.val) := by
  unfold rowCol
  rw [bcCol]
  show Scalar.select (IntOp.cmpi .slt _ (broadcastInDim S32768 ![] bcast_S_S32768 (constantI S_ 32 0#32) (ix1 a))) _ _ = _
  rw [bc0]
  show Scalar.select (IntOp.cmpi .slt _ 0#32) _ _ = _
  rw [wrap_of_lt, rowOf_at v e hv he]
  rw [rowOf_at v e hv he, BitVec.toNat_ofNat]
  exact lt_of_le_of_lt (Nat.mod_le _ _) (lt_trans (row_lt a.isLt (he _ a.isLt)) (by decide))

end Reading

theorem twice_at {α : Type} (h : S16384x1024.Idx → α) (a : Fin 32768) (k : Fin 1024) :
    twice h (ix2 a k) = h (ix2 (n0 := 16384) (n1 := 1024) ⟨a.val / 2, by have := a.isLt; omega⟩ k) := by
  have ha := a.isLt; have hk := k.isLt
  unfold twice
  rw [shapeCast_apply _ shapeCasts_S16384x2x1024_S32768x1024 (ix2 a k)
    (ix3 (n0 := 16384) (n1 := 2) (n2 := 1024) ⟨a.val / 2, by omega⟩ ⟨a.val % 2, by omega⟩ k) (by
      rw [Shape.rowMajor_val_two, Shape.rowMajor_val_three]
      show (a.val / 2 * 2 + a.val % 2) * 1024 + k.val = a.val * 1024 + k.val
      omega)]
  refine broadcastInDim_apply _ _ h _ _ fun b => ?_
  match b with
  | ⟨0, _⟩ => rfl
  | ⟨1, _⟩ => rfl

/-- Where an update lands: element `k` of assignment `a`'s token goes to column `k` of the row its word names. -/
theorem lands (idx : IVec S32768x1 32) (a : Fin 32768) (k : Fin 1024) (r : Fin 49152) (l : Fin 1024) (w : ℕ) (hw : w < 49152) (hidx : idx (ix2 a 0) = BitVec.ofNat 32 w) :
    scatter_S49152x1024_S32768x1_S32768x1024_1_0_0_1.resultIdx? (ix2 a k) idx = some (ix2 r l) ↔ w = r.val ∧ k = l := by
  have hwin0 : scatter_S49152x1024_S32768x1_S32768x1024_1_0_0_1.window (ix2 a k) 0 = 0 := rfl
  have hwin1 : scatter_S49152x1024_S32768x1_S32768x1024_1_0_0_1.window (ix2 a k) 1 = k.val := rfl
  have hs1 : scatter_S49152x1024_S32768x1_S32768x1024_1_0_0_1.start (ix2 a k) idx 1 = 0 := rfl
  have hs0 : scatter_S49152x1024_S32768x1_S32768x1024_1_0_0_1.start (ix2 a k) idx 0 = (w : Int) := by
    have : scatter_S49152x1024_S32768x1_S32768x1024_1_0_0_1.start (ix2 a k) idx 0 = (idx (ix2 a 0)).toInt := by
      unfold ScatterDims.start
      rw [dif_pos (by decide)]
      refine congrArg (fun z => (idx z).toInt) (funext fun b => ?_)
      match b with
      | ⟨0, _⟩ => rfl
      | ⟨1, _⟩ => rfl
    rw [this, hidx, StableHlo.Predicate.toInt_ofNat_small _ (by omega)]
  rw [resultIdx?_ix2, hs0, hs1, hwin0, hwin1, Fin.ext_iff]
  omega

variable {F : FTy → Type} [FloatOps F]
variable (m : (ℓ : Loc nD τ sig) → Buf (Elt F) ℓ)

/-- The experts, one assignment after another. -/
def flat (c : Dev nD) : IVec S32768 32 := shapeCast S32768 (m ((c : Thread nD τ).loc main_arg0)) shapeCasts_S16384x2_S32768

set_option maxRecDepth 8192 in
theorem result_eq (c : Dev nD) : Value.res_main_v47 m c
    = Host.scatter scatter_S49152x1024_S32768x1_S32768x1024_1_0_0_1 (fun _ b => b) (m ((c : Thread nD τ).loc main_arg2)) (rowCol (rowOf (flat m c))) (twice (m ((c : Thread nD τ).loc main_arg1))) := by
  unfold Value.res_main_v47; rfl

section Rows
variable (c : Dev nD) (e : ℕ → ℕ) (hv : ∀ a : Fin 32768, flat m c (ix1 a) = BitVec.ofNat 32 (e a.val)) (he : ∀ a, a < 32768 → e a < 32)
include hv he

theorem result_hit (a : ℕ) (ha : a < 32768) (r : Fin 49152) (l : Fin 1024) (hi : r.val = row e a) :
    Value.res_main_v47 m c (ix2 r l) = m ((c : Thread nD τ).loc main_arg1) (ix2 (n0 := 16384) (n1 := 1024) ⟨a / 2, by omega⟩ l) := by
  rw [result_eq]
  refine scatter_set_hit _ _ _ _ (ix2 r l) _ (fun k hk => ?_) (ix2 (n0 := 32768) (n1 := 1024) ⟨a, ha⟩ l) ?_
  · obtain ⟨b, j, rfl⟩ : ∃ (b : Fin 32768) (j : Fin 1024), k = ix2 b j := ⟨k 0, k 1, eq_ix2 k⟩
    obtain ⟨h1, rfl⟩ := (lands _ b j r l (row e b.val) (row_lt b.isLt (he _ b.isLt)) (rowCol_at _ e hv he b)).1 hk
    have hb : b.val = a := row_inj (e := e) b.isLt ha (by rw [h1, ← hi])
    rw [twice_at]
    subst hb; rfl
  · exact (lands _ ⟨a, ha⟩ l r l (row e a) (row_lt ha (he _ ha)) (rowCol_at _ e hv he ⟨a, ha⟩)).2 ⟨hi.symm, rfl⟩

theorem result_miss (r : Fin 49152) (l : Fin 1024) (hi : ∀ a, a < 32768 → r.val ≠ row e a) :
    Value.res_main_v47 m c (ix2 r l) = m ((c : Thread nD τ).loc main_arg2) (ix2 r l) := by
  rw [result_eq]
  refine scatter_set_miss _ _ _ _ (ix2 r l) (fun k hk => ?_)
  obtain ⟨b, j, rfl⟩ : ∃ (b : Fin 32768) (j : Fin 1024), k = ix2 b j := ⟨k 0, k 1, eq_ix2 k⟩
  have h := (lands _ b j r l (row e b.val) (row_lt b.isLt (he _ b.isLt)) (rowCol_at _ e hv he b)).1 hk
  exact hi b.val b.isLt h.1.symm

end Rows

end Cert.ReferenceIdeal.Hand
-- ==== Proof.Eq.lean ====
/- The equation: where the experts are in range, the array the dispatch leaves is the reference's. -/
module

public import proofs.«01_k».proof.Proof.KVal
public import proofs.«01_k».proof.Proof.RVal
public import proofs.«01_k».proof.Pre_ids_in_range
public import Idealize.ShloMosaic.Lib.ReduceAll

@[expose] public section

noncomputable section

namespace Cert.Hand

open Cert.Pos
open Idealize.ShloMosaic Idealize.ShloMosaic.TcCoe Idealize.ShloMosaic.ValueIdx Idealize.ShloMosaic.Routing

/-- The precondition's side conditions. -/
instance preFacts : Cert.Pre_ids_in_range.Facts where
  bcast_S_S16384x2 := by decide
  reducesTo_S16384x2_S_d0_1 := by decide
  h_S_ := by decide

/-- A word that is not negative and below 32, both read signed, is below 32. -/
theorem lt_of_range (x : BitVec 32) (h1 : IntOp.cmpi .sge x 0#32 = 1#1) (h2 : IntOp.cmpi .slt x 32#32 = 1#1) : x.toNat < 32 := by
  have h1' : (0#32).sle x = true := by
    cases h : (0#32).sle x
    · exact absurd (show IntOp.cmpi .sge x 0#32 = 0#1 by show BitVec.ofBool ((0#32).sle x) = _; rw [h]; rfl) (by rw [h1]; decide)
    · rfl
  have h2' : x.slt 32#32 = true := by
    cases h : x.slt 32#32
    · exact absurd (show IntOp.cmpi .slt x 32#32 = 0#1 by show BitVec.ofBool (x.slt 32#32) = _; rw [h]; rfl) (by rw [h2]; decide)
    · rfl
  rw [BitVec.sle_iff_toInt_le] at h1'
  rw [BitVec.slt_iff_toInt_lt] at h2'
  have e0 : (0#32).toInt = 0 := by decide
  have e1 : (32#32).toInt = 32 := by decide
  rw [e0] at h1'; rw [e1] at h2'
  have := BitVec.toInt_eq_toNat_cond (x := x)
  have := x.isLt
  split at * <;> omega

variable {F : FTy → Type} [FloatOps F]

/-- Under the precondition every expert is one of the 32. -/
theorem ids_lt (ids : IVec Cert.Pre_ids_in_range.S16384x2 32) (h2 : FVec F Cert.Pre_ids_in_range.S16384x1024 .f32)
    (xs : FVec F Cert.Pre_ids_in_range.S49152x1024 .f32)
    (h : Cert.Pre_ids_in_range.fn (F := F) ids h2 xs = fun _ => 1#1) (i : Cert.Pre_ids_in_range.S16384x2.Idx) : (ids i).toNat < 32 := by
  haveI : Subsingleton Cert.Pre_ids_in_range.S_.Idx := ⟨fun a b => funext fun k => k.elim0⟩
  have h0 := congrFun h ix0
  have hi := Host.reduce_andi_all _ _ _ _ _ h0 i
  obtain ⟨a, b⟩ := IntOp.andi_eq_one.1 hi
  refine lt_of_range _ ?_ ?_
  · have := a; exact this
  · have := b; exact this

section Same
open Cert.KernelIdeal Cert.KernelIdeal.Gen Cert.KernelIdeal.Hand
variable [∀ e, Nonempty (Elt F e)]
variable (m : (ℓ : Loc nD τ sig) → Buf (Elt F) ℓ)

/-- Under the precondition every assignment's expert is one of the 32. -/
theorem expert_lt (h : ∀ c : Dev nD, Cert.Pre_ids_in_range.fn (F := F) (m ((c.tc : Thread nD τ).loc main_arg0)) (m ((c.tc : Thread nD τ).loc main_arg1))
      (m ((c.tc : Thread nD τ).loc main_arg2)) = fun _ => 1#1) (c : Dev nD) (a : ℕ) (ha : a < 32768) : expert m c a < 32 := by
  unfold expert
  rw [dif_pos ha]
  unfold flat
  rw [cast21 (a := 16384) (b := 2) (n := 32768) _ _ ⟨a / 2, by omega⟩ ⟨a % 2, by omega⟩ ⟨a, ha⟩ (by show a = a / 2 * 2 + a % 2; omega)]
  exact ids_lt _ _ _ (h c) _

/-- The two arrays are equal. -/
theorem same (m' : (ℓ : Loc Cert.ReferenceIdeal.nD Cert.ReferenceIdeal.τ Cert.ReferenceIdeal.sig) → Buf (Elt F) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (he : ∀ a, a < 32768 → expert m c a < 32) :
    Cert.ReferenceIdeal.Value.res_main_v47 m' c = accum m c cfg0.N := by
  have hN := cfg0_N
  have hv : ∀ a : Fin 32768, Cert.ReferenceIdeal.Hand.flat m' c (ix1 a) = BitVec.ofNat 32 (expert m c a.val) := fun a => by
    rw [← flat_at m c he a]
    unfold Cert.ReferenceIdeal.Hand.flat
    rw [h0]; rfl
  funext i
  obtain ⟨r, l, rfl⟩ : ∃ (r : Fin 49152) (l : Fin 1024), i = ix2 r l := ⟨i 0, i 1, eq_ix2 i⟩
  by_cases hr : ∃ a, a < 32768 ∧ r.val = row (expert m c) a
  · obtain ⟨a, ha, hr⟩ := hr
    rw [Cert.ReferenceIdeal.Hand.result_hit m' c (expert m c) hv he a ha r l hr, h1]
    exact (accum_hit m c he cfg0.N (by omega) a (by omega) (ix2 r l) hr).symm
  · have hr' : ∀ a, a < 32768 → r.val ≠ row (expert m c) a := fun a ha q => hr ⟨a, ha, q⟩
    rw [Cert.ReferenceIdeal.Hand.result_miss m' c (expert m c) hv he r l hr', h2]
    exact (accum_miss m c he cfg0.N (by omega) (ix2 r l) (fun a ha => hr' a (by omega))).symm

end Same

end Cert.Hand
-- ==== Proof.BEq.lean ====
/- The same equation at the kernel's program as it runs on bits: it is a program of its own, with its own buffers. -/
module

public import proofs.«01_k».proof.Proof.BKVal
public import proofs.«01_k».proof.Proof.Eq

@[expose] public section

noncomputable section

namespace Cert.Hand.OnBits

open Cert.Pos Cert.Hand
open Idealize.ShloMosaic Idealize.ShloMosaic.TcCoe Idealize.ShloMosaic.ValueIdx Idealize.ShloMosaic.Routing

variable {F : FTy → Type} [FloatOps F]

open Cert.Kernel Cert.Kernel.Gen Cert.Kernel.Hand
variable [∀ e, Nonempty (Elt F e)]
variable (m : (ℓ : Loc nD τ sig) → Buf (Elt F) ℓ)

/-- Under the precondition every assignment's expert is one of the 32. -/
theorem expert_lt (h : ∀ c : Dev nD, Cert.Pre_ids_in_range.fn (F := F) (m ((c.tc : Thread nD τ).loc main_arg0)) (m ((c.tc : Thread nD τ).loc main_arg1))
      (m ((c.tc : Thread nD τ).loc main_arg2)) = fun _ => 1#1) (c : Dev nD) (a : ℕ) (ha : a < 32768) : expert m c a < 32 := by
  unfold expert
  rw [dif_pos ha]
  unfold flat
  rw [cast21 (a := 16384) (b := 2) (n := 32768) _ _ ⟨a / 2, by omega⟩ ⟨a % 2, by omega⟩ ⟨a, ha⟩ (by show a = a / 2 * 2 + a % 2; omega)]
  exact ids_lt _ _ _ (h c) _

/-- The two arrays are equal. -/
theorem same (m' : (ℓ : Loc Cert.ReferenceIdeal.nD Cert.ReferenceIdeal.τ Cert.ReferenceIdeal.sig) → Buf (Elt F) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (he : ∀ a, a < 32768 → expert m c a < 32) :
    Cert.ReferenceIdeal.Value.res_main_v47 m' c = accum m c cfg0.N := by
  have hN := cfg0_N
  have hv : ∀ a : Fin 32768, Cert.ReferenceIdeal.Hand.flat m' c (ix1 a) = BitVec.ofNat 32 (expert m c a.val) := fun a => by
    rw [← flat_at m c he a]
    unfold Cert.ReferenceIdeal.Hand.flat
    rw [h0]; rfl
  funext i
  obtain ⟨r, l, rfl⟩ : ∃ (r : Fin 49152) (l : Fin 1024), i = ix2 r l := ⟨i 0, i 1, eq_ix2 i⟩
  by_cases hr : ∃ a, a < 32768 ∧ r.val = row (expert m c) a
  · obtain ⟨a, ha, hr⟩ := hr
    rw [Cert.ReferenceIdeal.Hand.result_hit m' c (expert m c) hv he a ha r l hr, h1]
    exact (accum_hit m c he cfg0.N (by omega) a (by omega) (ix2 r l) hr).symm
  · have hr' : ∀ a, a < 32768 → r.val ≠ row (expert m c) a := fun a ha q => hr ⟨a, ha, q⟩
    rw [Cert.ReferenceIdeal.Hand.result_miss m' c (expert m c) hv he r l hr', h2]
    exact (accum_miss m c he cfg0.N (by omega) (ix2 r l) (fun a ha => hr' a (by omega))).symm

end Cert.Hand.OnBits

end
-- ==== Proof.XBody.lean ====
/- The experts call's body, over any value instance: at a tile in use it leaves the two products of its blocks, past them zeros. -/
module

public import proofs.«01_k».proof.Proof.Gen.Kernel2Ideal.Launch
public import proofs.«01_k».proof.Proof.Gen.Kernel2Ideal.Skeleton
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.VecWindow

@[expose] public section

set_option maxRecDepth 16384
set_option Elab.async false

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ) ℕ

abbrev tb0 : Memref sig .tc .smem S96 .i32 := Memref.whole main_v40
abbrev tb1 : Memref sig .tc .smem S1 .i32 := Memref.whole main_v44

/-- The number of tiles in use, as the body loads it from the table. -/
abbrev nvw (T1 : S1.Idx → Elt F .i32) : BitVec 32 :=
  View.readAt (Elt F) tb1.view (Rect.unit (s := S1) ![0] S1.size inb_S1_S1_0).toLoadRect T1 (Shape.Idx.first (numel1_S1.symm ▸ Nat.one_pos))

section Paths
variable (c : Dev nD) (i : grid0.Coords)
  (arg3 : Memref sig .tc .vmem S512x1024 .f32) (harg3 : arg3.IsWhole) (arg4 : Memref sig .tc .vmem S1x1x1024x256 .f32) (harg4 : arg4.IsWhole)
  (arg5 : Memref sig .tc .vmem S1x1x1024x256 .f32) (harg5 : arg5.IsWhole) (arg6 : Memref sig .tc .vmem S1x1x256x1024 .f32) (harg6 : arg6.IsWhole)
  (arg7 : Memref sig .tc .vmem S512x1024 .f32) (harg7 : arg7.IsWhole) (T0 : S96.Idx → Elt F .i32) (T1 : S1.Idx → Elt F .i32)
  (x0 : S512x1024.Idx → Elt F .f32) (x1 : S1x1x1024x256.Idx → Elt F .f32) (x2 : S1x1x1024x256.Idx → Elt F .f32) (x3 : S1x1x256x1024.Idx → Elt F .f32)

set_option maxHeartbeats 8000000 in
/-- At a tile in use. -/
theorem run_used (h1 : k0_cond1 i (nvw T1) = 1#1) (h2 : ¬k0_cond2 i (nvw T1) = 1#1) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (tb0.view.loc (c : Thread nD τ) ↦{fullShare.right} T0)
      ∗ (tb1.view.loc (c : Thread nD τ) ↦{fullShare.right} T1)
      ∗ (∃ d, owns (c : Thread nD τ) arg7 fullShare d)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tb0.view.loc (c : Thread nD τ) ↦{fullShare.right} T0)
          ∗ (tb1.view.loc (c : Thread nD τ) ↦{fullShare.right} T1)
          ∗ owns (c : Thread nD τ) arg7 fullShare (k0_pay1 x0 x1 x2 x3)) -∗ K ⟨⟩))
      ⊢ wp frame (wpE (defs₀ (F := F)) Variants.none c none) Set.univ
          (cc0_experts i tb0 (Memref.isWhole_whole _) tb1 (Memref.isWhole_whole _) arg3 harg3 arg4 harg4 arg5 harg5 arg6 harg6 arg7 harg7) K := by
  unfold owns
  rw [cc0_experts_eq_skeleton]; unfold cc0_experts_skel
  iintro ⟨H0, H1, H2, H3, HT0, HT1, ⟨%d4, %f4, -, HO4⟩, Hk⟩
  have hT0 : tb0.IsWhole := Memref.isWhole_whole _
  have hT1 : tb1.IsWhole := Memref.isWhole_whole _
  sl_exec! (disch := first | (guard_target = k0_cond1 _ _ = _; exact h1) | (guard_target = ¬(k0_cond2 _ _ = _); exact h2))
  sl_step
  iapply Hk
  isplitl [H0]; · iexact H0
  isplitl [H1]; · iexact H1
  isplitl [H2]; · iexact H2
  isplitl [H3]; · iexact H3
  isplitl [HT0]; · iexact HT0
  isplitl [HT1]; · iexact HT1
  iexists _; isplitr; swap
  · iexact HO4
  · ipureintro
    exact (View.read_writes_full (Val := Elt F) arg7.view _ _ _ _).trans (by
      rw [View.readAt_rep_full (Val := Elt F) arg3.view, View.readAt_rep_full (Val := Elt F) arg4.view, View.readAt_rep_full (Val := Elt F) arg5.view,
        View.readAt_rep_full (Val := Elt F) arg6.view])

set_option maxHeartbeats 8000000 in
/-- Past the tiles in use. -/
theorem run_past (h1 : ¬k0_cond1 i (nvw T1) = 1#1) (h2 : k0_cond2 i (nvw T1) = 1#1) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (tb0.view.loc (c : Thread nD τ) ↦{fullShare.right} T0)
      ∗ (tb1.view.loc (c : Thread nD τ) ↦{fullShare.right} T1)
      ∗ (∃ d, owns (c : Thread nD τ) arg7 fullShare d)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tb0.view.loc (c : Thread nD τ) ↦{fullShare.right} T0)
          ∗ (tb1.view.loc (c : Thread nD τ) ↦{fullShare.right} T1)
          ∗ owns (c : Thread nD τ) arg7 fullShare k0_pay2) -∗ K ⟨⟩))
      ⊢ wp frame (wpE (defs₀ (F := F)) Variants.none c none) Set.univ
          (cc0_experts i tb0 (Memref.isWhole_whole _) tb1 (Memref.isWhole_whole _) arg3 harg3 arg4 harg4 arg5 harg5 arg6 harg6 arg7 harg7) K := by
  unfold owns
  rw [cc0_experts_eq_skeleton]; unfold cc0_experts_skel
  iintro ⟨H0, H1, H2, H3, HT0, HT1, ⟨%d4, %f4, -, HO4⟩, Hk⟩
  have hT0 : tb0.IsWhole := Memref.isWhole_whole _
  have hT1 : tb1.IsWhole := Memref.isWhole_whole _
  sl_exec! (disch := first | (guard_target = ¬(k0_cond1 _ _ = _); exact h1) | (guard_target = k0_cond2 _ _ = _; exact h2))
  sl_step
  iapply Hk
  isplitl [H0]; · iexact H0
  isplitl [H1]; · iexact H1
  isplitl [H2]; · iexact H2
  isplitl [H3]; · iexact H3
  isplitl [HT0]; · iexact HT0
  isplitl [HT1]; · iexact HT1
  iexists _; isplitr; swap
  · iexact HO4
  · ipureintro
    exact View.read_writes_full (Val := Elt F) arg7.view _ _ _ _

end Paths

end Cert.Kernel2Ideal.Hand
-- ==== Proof.XPos.lean ====
/- The tables the experts program computes before its call: the expert of each tile and the number of tiles in use, word by word, as
   the natural numbers of `Pos.lean`. -/
module

public import proofs.«01_k».proof.Proof.Gen.Kernel2Ideal
public import proofs.«01_k».proof.Proof.Pos

@[expose] public section

noncomputable section

namespace Cert.Pos

open Idealize.ShloMosaic

variable (e : ℕ → ℕ)

/-- How many experts end at or before row `n`. -/
def ended (n : ℕ) : ℕ := Nat.count (fun x => st e (x + 1) ≤ n) 32
theorem ended_le (n : ℕ) : ended e n ≤ 32 := Nat.count_le _
/-- The expert of tile `i`, the last one past the tiles in use. -/
def tileExpert (i : ℕ) : ℕ := min (ended e (512 * i)) 31
/-- The tiles in use. -/
def used : ℕ := st e 32 / 512

theorem st_dvd (x : ℕ) : st e x % 512 = 0 := by
  induction x with
  | zero => rfl
  | succ x ih => have := st_succ e x; omega

/-- The experts end at multiples of the tile height, so a row and its tile have passed the same ones. -/
theorem ended_tile (r : ℕ) : ended e (512 * (r / 512)) = ended e r := by
  unfold ended
  congr 1
  funext x
  have := st_dvd e (x + 1)
  exact propext ⟨fun h => by omega, fun h => by omega⟩

theorem used_iff (r : ℕ) : r / 512 < used e ↔ r < st e 32 := by
  have := st_dvd e 32
  unfold used; omega

theorem ended_of_used {r : ℕ} (h : r < st e 32) : ended e r < 32 := by
  have hs : Nat.count (fun x => st e (x + 1) ≤ r) 32 = Nat.count (fun x => st e (x + 1) ≤ r) 31 := by
    rw [Nat.count_succ, if_neg (Nat.not_le.2 h)]; rfl
  have := Nat.count_le (p := fun x => st e (x + 1) ≤ r) (n := 31)
  unfold ended; omega

theorem tileExpert_of_used {r : ℕ} (h : r < st e 32) : tileExpert e (r / 512) = ended e r := by
  have := ended_of_used e h
  unfold tileExpert; rw [ended_tile]; omega

/-- Past the last expert's rows every expert has ended. -/
theorem ended_of_past {r : ℕ} (h : ¬r < st e 32) : ended e r = 32 := by
  unfold ended
  rw [Nat.count_eq_card_filter_range, Finset.filter_true_of_mem, Finset.card_range]
  intro x hx
  have := st_mono e (x := x + 1) (y := 32) (by have := Finset.mem_range.1 hx; omega)
  omega

/-- The smaller of a word up to 32 and 31. -/
theorem minsi_small : ∀ a : Fin 33, IntOp.minsi (BitVec.ofNat 32 a.val) 31#32 = BitVec.ofNat 32 (min a.val 31) := by decide

end Cert.Pos

namespace Cert.Kernel2Ideal.Hand

open Cert.Kernel2Ideal Cert.Kernel2Ideal.Gen Cert.Pos
open Idealize.ShloMosaic Idealize.ShloMosaic.TcCoe Idealize.ShloMosaic.ValueIdx Idealize.ShloMosaic.Routing
open Idealize.SL.Sem Idealize.ShloMosaic.StableHlo

/-- Each assignment's expert as a row of zeros and a one. -/
def hot (v : IVec S32768 32) : IVec S32768x32 32 :=
  extui 32 (cmpi .eq (broadcastInDim S32768x32 ![0, 1] bcast_S32768x1_S32768x32_0_1 (broadcastInDim S32768x1 ![0] bcast_S32768_S32768x1_0 v))
    (broadcastInDim S32768x32 ![0, 1] bcast_S1x32_S32768x32_0_1 (broadcastInDim S1x32 ![1] bcast_S32_S1x32_1 (iotaInDim S32 32 0)))) natLt_1_32
/-- Running sums down the assignments. -/
def run (h : IVec S32768x32 32) : IVec S32768x32 32 :=
  Host.reduceWindow IntOp.addi ![32768, 1] ![1, 1] ![32767, 0] ![0, 0] h (broadcastInDim S_ ![] bcast_S_S_ (constantI S_ 32 0#32))
    reduceWindows_S32768x32_S32768x32_w32768s1p32767_0_w1s1p0_0 h_S_
/-- The rows each expert takes. -/
def rows (h : IVec S32768x32 32) : IVec S32 32 :=
  muli (pyDiv bcast_S_S32 (subi (addi (shapeCast S32 (extractStridedSlice S1x32 ![32767, 0] (run h) slices_S32768x32_S1x32_32767_0) shapeCasts_S1x32_S32)
      (broadcastInDim S32 ![] bcast_S_S32 (constantI S_ 32 512#32))) (broadcastInDim S32 ![] bcast_S_S32 (constantI S_ 32 1#32)))
      (constantI S_ 32 512#32))
    (broadcastInDim S32 ![] bcast_S_S32 (constantI S_ 32 512#32))
/-- The row after each expert's last. -/
def ends (r : IVec S32 32) : IVec S32 32 :=
  Host.reduceWindow IntOp.addi ![32] ![1] ![31] ![0] r (broadcastInDim S_ ![] bcast_S_S_ (constantI S_ 32 0#32)) reduceWindows_S32_S32_w32s1p31_0 h_S_
/-- The expert of each tile. -/
def teOf (r : IVec S32 32) : IVec S96 32 :=
  minsi (Host.reduce IntOp.addi (extui 32 (cmpi .sge
      (broadcastInDim S96x32 ![0, 1] bcast_S96x1_S96x32_0_1 (broadcastInDim S96x1 ![0] bcast_S96_S96x1_0
        (muli (iotaInDim S96 32 0) (broadcastInDim S96 ![] bcast_S_S96 (constantI S_ 32 512#32)))))
      (broadcastInDim S96x32 ![0, 1] bcast_S1x32_S96x32_0_1 (broadcastInDim S1x32 ![1] bcast_S32_S1x32_1 r))) natLt_1_32)
      (constantI S_ 32 0#32) reducesTo_S96x32_S96_d1 h_S_)
    (broadcastInDim S96 ![] bcast_S_S96 (constantI S_ 32 31#32))
/-- The number of tiles in use. -/
def nvOf (r : IVec S32 32) : IVec S1 32 :=
  shapeCast S1 (pyDiv0 (shapeCast S_ (extractStridedSlice S1 ![31] r slices_S32_S1_31) shapeCasts_S1_S_) (constantI S_ 32 512#32)) shapeCasts_S_S1

section Reading
variable (v : IVec S32768 32) (e : ℕ → ℕ) (hv : ∀ a : Fin 32768, v (ix1 a) = BitVec.ofNat 32 (e a.val)) (he : ∀ a, a < 32768 → e a < 2 ^ 32)
include hv he

theorem hot_at (a : Fin 32768) (x : Fin 32) : hot v (ix2 a x) = BitVec.ofNat 32 (if e a.val = x.val then 1 else 0) := by
  have h : cmpi .eq (broadcastInDim S32768x32 ![0, 1] bcast_S32768x1_S32768x32_0_1 (broadcastInDim S32768x1 ![0] bcast_S32768_S32768x1_0 v))
      (broadcastInDim S32768x32 ![0, 1] bcast_S1x32_S32768x32_0_1 (broadcastInDim S1x32 ![1] bcast_S32_S1x32_1 (iotaInDim S32 32 0))) (ix2 a x)
      = BitVec.ofBool (decide (e a.val = x.val)) := by
    show IntOp.cmpi .eq _ _ = _
    rw [bcRows, bcCols, hv, iota1_ap, WordCmp.cmpi_eq_ofNat (w := 32) (he a.val a.isLt) (by have := x.isLt; omega)]
  unfold hot
  show BitVec.setWidth 32 _ = _
  rw [h, setWidth_ofBool]

theorem run_at (a : Fin 32768) (x : Fin 32) : run (hot v) (ix2 a x) = BitVec.ofNat 32 (Nat.count (fun b => e b = x.val) (a.val + 1)) := by
  unfold run
  rw [cumsum_rows (R := 32768) (Rm1 := 32767) (C := 32) rfl (hot v) (fun i c => if e i = c then 1 else 0) (hot_at v e hv he) _ (by rw [bc0]; rfl), sum_map_ite]

theorem rows_at (x : Fin 32) : rows (hot v) (ix1 x) = BitVec.ofNat 32 (tiles e x.val * 512) := by
  have hs : shapeCast S32 (extractStridedSlice S1x32 ![32767, 0] (run (hot v)) slices_S32768x32_S1x32_32767_0) shapeCasts_S1x32_S32 (ix1 x)
      = BitVec.ofNat 32 (cnt e x.val) := by
    rw [cast21 (a := 1) (b := 32) _ _ (0 : Fin 1) x x (by simp)]
    have : extractStridedSlice S1x32 ![32767, 0] (run (hot v)) slices_S32768x32_S1x32_32767_0 (ix2 (0 : Fin 1) x)
        = run (hot v) (ix2 (⟨32767, by decide⟩ : Fin 32768) x) := by
      unfold extractStridedSlice
      refine congrArg (run (hot v)) (funext fun b => Fin.ext ?_)
      match b with
      | ⟨0, _⟩ => rfl
      | ⟨1, _⟩ => show 0 + x.val = x.val; exact Nat.zero_add _
    rw [this, run_at v e hv he]; rfl
  have hc := cnt_le e x.val
  unfold rows
  rw [muli_ap, bc0, pyDiv_ap bcast_S_S32 _ _ (ix1 x) (a := cnt e x.val + 512 - 1) (b := 512) (by
      rw [subi_ap, addi_ap, hs, bc0, bc0]
      show BitVec.ofNat 32 _ + BitVec.ofNat 32 512 - 1#32 = _
      rw [← BitVec.ofNat_add, StableHlo.Predicate.sub_one_ofNat _ (by omega) (by omega)]) rfl (by omega) (by decide) (by decide)]
  show BitVec.ofNat 32 _ * BitVec.ofNat 32 512 = _
  rw [← BitVec.ofNat_mul]; rfl

theorem ends_at (x : Fin 32) : ends (rows (hot v)) (ix1 x) = BitVec.ofNat 32 (st e (x.val + 1)) := by
  unfold ends
  rw [cumsum1 (N := 32) (Nm1 := 31) rfl (rows (hot v)) (fun y => tiles e y * 512) (rows_at v e hv he) _ (by rw [bc0]; rfl)]
  rfl

theorem te_at (i : Fin 96) : teOf (ends (rows (hot v))) (ix1 i) = BitVec.ofNat 32 (tileExpert e i.val) := by
  have hi := i.isLt
  unfold teOf
  show IntOp.minsi _ (broadcastInDim S96 ![] bcast_S_S96 (constantI S_ 32 31#32) (ix1 i)) = _
  rw [bc0, reduce_count (n := 96) (m := 32) (by decide) _ natLt_1_32 _ _ i (fun x => st e (x + 1) ≤ 512 * i.val) (fun x => by
    have hx := st_le e (x := x.val + 1) (by have := x.isLt; omega)
    show IntOp.cmpi .sge _ _ = 1#1 ↔ _
    rw [bcRows, bcCols, ends_at v e hv he, muli_ap, iota1_ap, bc0]
    show IntOp.cmpi .sge (BitVec.ofNat 32 i.val * BitVec.ofNat 32 512) _ = 1#1 ↔ _
    rw [← BitVec.ofNat_mul, WordCmp.cmpi_sge_ofNat_eq_one_iff (w := 32) (by omega) (by omega), Nat.mul_comm])]
  exact minsi_small ⟨ended e (512 * i.val), Nat.lt_succ_of_le (ended_le e _)⟩

theorem nv_at : nvOf (ends (rows (hot v))) (ix1 0) = BitVec.ofNat 32 (used e) := by
  have h := st_le e (x := 32) le_rfl
  unfold nvOf
  rw [shapeCast_apply _ shapeCasts_S_S1 (ix1 0) ValueIdx.ix0 rfl, pyDiv0_ap _ _ (a := st e 32) (b := 512) ?_ rfl (by omega) (by decide) (by decide)]
  · rfl
  rw [shapeCast_apply _ shapeCasts_S1_S_ ValueIdx.ix0 (ix1 (n := 1) 0) rfl]
  have : extractStridedSlice S1 ![31] (ends (rows (hot v))) slices_S32_S1_31 (ix1 (0 : Fin 1)) = ends (rows (hot v)) (ix1 (⟨31, by decide⟩ : Fin 32)) := by
    unfold extractStridedSlice
    refine congrArg (ends (rows (hot v))) (funext fun b => Fin.ext ?_)
    match b with
    | ⟨0, _⟩ => rfl
  rw [this, ends_at v e hv he]

end Reading

end Cert.Kernel2Ideal.Hand
-- ==== Proof.XHost.lean ====
/- The experts program up to its call: what each of its buffers holds there, and the tables the call reads. -/
module

public import proofs.«01_k».proof.Proof.Gen.Kernel2Ideal.Launch
public import proofs.«01_k».proof.Proof.XPos
public import Idealize.ShloMosaic.Lib.StableHlo.Run
public import Idealize.ShloMosaic.Lib.Pipeline.FrameBody
public import Idealize.ShloMosaic.Lib.WordCmp

@[expose] public section

set_option maxRecDepth 16384

noncomputable section

namespace Cert.Kernel2Ideal.Hand

open Cert.Kernel2Ideal Cert.Kernel2Ideal.Gen Cert.Pos
open Idealize.ShloMosaic Idealize.ShloMosaic.TcCoe Idealize.ShloMosaic.ValueIdx Idealize.ShloMosaic.Routing
open Idealize.SL.Sem Idealize.ShloMosaic.StableHlo

variable {F : FTy → Type} [FloatOps F]
variable (m : (ℓ : Loc nD τ sig) → Buf (Elt F) ℓ)

/-- Core `c`'s buffers when the call is reached: after the host operations before it. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem fresh0 : (hostOps0 : List (HloOp τ sig (Elt F))).Forall fun op => op.fresh = ∅ := by simp only [List.Forall]; repeat' constructor
theorem fresh1 : (hostOps0_1 : List (HloOp τ sig (Elt F))).Forall fun op => op.fresh = ∅ := by simp only [List.Forall]; repeat' constructor
theorem fresh2 : (hostOps0_2 : List (HloOp τ sig (Elt F))).Forall fun op => op.fresh = ∅ := by simp only [List.Forall]; repeat' constructor
theorem fresh3 : (hostOps0_3 : List (HloOp τ sig (Elt F))).Forall fun op => op.fresh = ∅ := by simp only [List.Forall]; repeat' constructor
theorem fresh4 : (hostOps0_4 : List (HloOp τ sig (Elt F))).Forall fun op => op.fresh = ∅ := by simp only [List.Forall]; repeat' constructor
theorem fresh5 : (hostOps0_5 : List (HloOp τ sig (Elt F))).Forall fun op => op.fresh = ∅ := by simp only [List.Forall]; repeat' constructor
theorem fresh6 : (hostOps0_6 : List (HloOp τ sig (Elt F))).Forall fun op => op.fresh = ∅ := by simp only [List.Forall]; repeat' constructor
theorem fresh7 : (hostOps0_7 : List (HloOp τ sig (Elt F))).Forall fun op => op.fresh = ∅ := by simp only [List.Forall]; repeat' constructor
theorem fresh8 : (hostOps0_8 : List (HloOp τ sig (Elt F))).Forall fun op => op.fresh = ∅ := by simp only [List.Forall]; repeat' constructor

/-- A buffer no host operation writes is as launched. -/
theorem V_same (c : Dev nD) (b : Ref sig .tc)
    (h : (List.flatten [hostOps0, hostOps0_1, hostOps0_2, hostOps0_3, hostOps0_4, hostOps0_5, hostOps0_6, hostOps0_7, hostOps0_8] : List (HloOp τ sig (Elt F))).Forall
      fun op => (Proc.devRef .tc b : DevRef τ sig) ∉ op.writes) : V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) := V_same m c main_arg0 (by
  simp only [hostOps0, hostOps0_1, hostOps0_2, hostOps0_3, hostOps0_4, hostOps0_5, hostOps0_6, hostOps0_7, hostOps0_8, List.flatten_cons, List.flatten_nil, List.append_nil, List.cons_append,
      List.nil_append, List.Forall, nullary_writes, unary_writes, binary_writes, ternary_writes, reshape_writes, Finset.mem_singleton]
  repeat' apply And.intro
  all_goals exact StableHlo.devRef_ne_of_ne (by decide))
theorem V_main_arg1 (c : Dev nD) : V m c main_arg1 = m ((c : Thread nD τ).loc main_arg1) := V_same m c main_arg1 (by
  simp only [hostOps0, hostOps0_1, hostOps0_2, hostOps0_3, hostOps0_4, hostOps0_5, hostOps0_6, hostOps0_7, hostOps0_8, List.flatten_cons, List.flatten_nil, List.append_nil, List.cons_append,
      List.nil_append, List.Forall, nullary_writes, unary_writes, binary_writes, ternary_writes, reshape_writes, Finset.mem_singleton]
  repeat' apply And.intro
  all_goals exact StableHlo.devRef_ne_of_ne (by decide))
theorem V_main_arg2 (c : Dev nD) : V m c main_arg2 = m ((c : Thread nD τ).loc main_arg2) := V_same m c main_arg2 (by
  simp only [hostOps0, hostOps0_1, hostOps0_2, hostOps0_3, hostOps0_4, hostOps0_5, hostOps0_6, hostOps0_7, hostOps0_8, List.flatten_cons, List.flatten_nil, List.append_nil, List.cons_append,
      List.nil_append, List.Forall, nullary_writes, unary_writes, binary_writes, ternary_writes, reshape_writes, Finset.mem_singleton]
  repeat' apply And.intro
  all_goals exact StableHlo.devRef_ne_of_ne (by decide))
theorem V_main_arg3 (c : Dev nD) : V m c main_arg3 = m ((c : Thread nD τ).loc main_arg3) := V_same m c main_arg3 (by
  simp only [hostOps0, hostOps0_1, hostOps0_2, hostOps0_3, hostOps0_4, hostOps0_5, hostOps0_6, hostOps0_7, hostOps0_8, List.flatten_cons, List.flatten_nil, List.append_nil, List.cons_append,
      List.nil_append, List.Forall, nullary_writes, unary_writes, binary_writes, ternary_writes, reshape_writes, Finset.mem_singleton]
  repeat' apply And.intro
  all_goals exact StableHlo.devRef_ne_of_ne (by decide))
theorem V_main_arg4 (c : Dev nD) : V m c main_arg4 = m ((c : Thread nD τ).loc main_arg4) := V_same m c main_arg4 (by
  simp only [hostOps0, hostOps0_1, hostOps0_2, hostOps0_3, hostOps0_4, hostOps0_5, hostOps0_6, hostOps0_7, hostOps0_8, List.flatten_cons, List.flatten_nil, List.append_nil, List.cons_append,
      List.nil_append, List.Forall, nullary_writes, unary_writes, binary_writes, ternary_writes, reshape_writes, Finset.mem_singleton]
  repeat' apply And.intro
  all_goals exact StableHlo.devRef_ne_of_ne (by decide))

/-! ## The tables -/

/-- The experts of the assignments, in order. -/
def flat (c : Dev nD) : IVec S32768 32 := shapeCast S32768 (m ((c : Thread nD τ).loc main_arg0)) shapeCasts_S16384x2_S32768
/-- The expert of assignment `a`, a natural number. -/
def expert (c : Dev nD) (a : ℕ) : ℕ := if h : a < 32768 then (flat m c (ix1 ⟨a, h⟩)).toNat else 0

theorem flat_at (c : Dev nD) (a : Fin 32768) : flat m c (ix1 a) = BitVec.ofNat 32 (expert m c a.val) := by
  unfold expert; rw [dif_pos a.isLt, BitVec.ofNat_toNat, BitVec.setWidth_eq]
theorem expert_lt (c : Dev nD) (a : ℕ) (h : a < 32768) : expert m c a < 2 ^ 32 := by
  unfold expert; rw [dif_pos h]; exact BitVec.isLt _

set_option maxHeartbeats 8000000 in
theorem V_te (c : Dev nD) : V m c main_v40 = teOf (ends (rows (hot (flat m c)))) := by
  simp only [V, hostOps0, hostOps0_1, hostOps0_2, hostOps0_3, hostOps0_4, hostOps0_5, hostOps0_6, hostOps0_7, hostOps0_8, List.flatten_cons, List.flatten_nil,
    List.append_nil, List.cons_append, List.nil_append, TRef.binary, TRef.nullary, TRef.ternary, TRef.unary, TRef.toBuf, TRef.ofBuf, cast_eq]
  after_results_simp
  rfl

set_option maxHeartbeats 8000000 in
theorem V_nv (c : Dev nD) : V m c main_v44 = nvOf (ends (rows (hot (flat m c)))) := by
  simp only [V, hostOps0, hostOps0_1, hostOps0_2, hostOps0_3, hostOps0_4, hostOps0_5, hostOps0_6, hostOps0_7, hostOps0_8, List.flatten_cons, List.flatten_nil,
    List.append_nil, List.cons_append, List.nil_append, TRef.binary, TRef.nullary, TRef.ternary, TRef.unary, TRef.toBuf, TRef.ofBuf, cast_eq]
  after_results_simp
  rfl

/-- The expert of each tile, as the call reads it. -/
theorem te_word (c : Dev nD) (i : Fin 96) : V m c main_v40 (ix1 i) = BitVec.ofNat 32 (tileExpert (expert m c) i.val) := by
  rw [V_te, te_at (flat m c) (expert m c) (flat_at m c) (expert_lt m c)]
/-- The number of tiles in use, as the call reads it. -/
theorem nv_word (c : Dev nD) : V m c main_v44 (ix1 0) = BitVec.ofNat 32 (used (expert m c)) := by
  rw [V_nv, nv_at (flat m c) (expert m c) (flat_at m c) (expert_lt m c)]

end Cert.Kernel2Ideal.Hand
-- ==== Proof.XRun.lean ====
/- The experts program's run, over any value instance: the call at the tables the host operations leave, each block of the result at
   the two products of its tile's blocks, or at zeros past the tiles in use. -/
module

public import proofs.«01_k».proof.Proof.XBody
public import proofs.«01_k».proof.Proof.XHost

@[expose] public section

set_option maxRecDepth 16384

noncomputable section

namespace Cert.Kernel2Ideal.Hand

open Cert.Kernel2Ideal Cert.Kernel2Ideal.Gen Cert.Pos
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ (UR sig nD τ) ℕ

/-- The two tables as natural numbers: `te i` is tile `i`'s expert, `u` the number of tiles in use. -/
structure Tables (pf : pre0.Contents (Elt F)) (te : ℕ → ℕ) (u : ℕ) : Prop where
  te_at : ∀ i : Fin 96, pf 0 (ValueIdx.ix1 i) = BitVec.ofNat 32 (te i.val)
  te_le : ∀ i, te i ≤ 31
  u_at : pf 1 (ValueIdx.ix1 0) = BitVec.ofNat 32 u
  u_le : u ≤ 96

variable {pf : pre0.Contents (Elt F)} {te : ℕ → ℕ} {u : ℕ} (S : Tables pf te u)
variable (A : (c : Dev nD) → (b : Ref sig .tc) → Buf (Elt F) ((c : Thread nD τ).loc b))

/-! ## The tables -/

theorem one_idx (x : S1.Idx) : x = ValueIdx.ix1 0 := by
  funext a
  match a with
  | ⟨0, _⟩ => exact Subsingleton.elim (α := Fin 1) _ _

theorem coord_lt (i : grid0.Coords) : (i 0).val < 96 := (i 0).isLt

include S in
/-- The word the weight windows read of the first table at point `i`. -/
theorem te_read (i : grid0.Coords) :
    pf.at 0 (Rect.unit (s := S96) ![(Scalar.indexCast (BitVec.ofNat 32 (i 0).val)).toNat] S1.size (k0_off1_inb i)) numel1_S1
      = BitVec.ofNat 32 (te (i 0).val) := by
  have hi := coord_lt i
  refine Eq.trans (congrArg (pf 0) ?_) (S.te_at ⟨(i 0).val, hi⟩)
  funext a
  refine Fin.ext ?_
  match a with
  | ⟨0, _⟩ =>
    show (BitVec.ofNat 32 (i 0).val).toNat + 1 * 0 = (i 0).val
    rw [BitVec.toNat_ofNat, Nat.mod_eq_of_lt (by omega)]; omega

theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

include S in
theorem tmap1 (i : grid0.Coords) : cc0_transform_1 k0_off1_inb numel1_S1 pf i = ![0, te (i 0).val, 0, 0] := by
  have h := S.te_le (i 0).val
  unfold cc0_transform_1
  simp only [te_read S]
  rw [show (BitVec.ofNat 32 (te (i 0).val)).toNat = te (i 0).val from by rw [BitVec.toNat_ofNat, Nat.mod_eq_of_lt (by omega)]]; rfl
include S in
theorem tmap2 (i : grid0.Coords) : cc0_transform_2 k0_off1_inb numel1_S1 pf i = ![0, te (i 0).val, 0, 0] := by
  have h := S.te_le (i 0).val
  unfold cc0_transform_2
  simp only [te_read S]
  rw [show (BitVec.ofNat 32 (te (i 0).val)).toNat = te (i 0).val from by rw [BitVec.toNat_ofNat, Nat.mod_eq_of_lt (by omega)]]; rfl
include S in
theorem tmap3 (i : grid0.Coords) : cc0_transform_3 k0_off1_inb numel1_S1 pf i = ![0, te (i 0).val, 0, 0] := by
  have h := S.te_le (i 0).val
  unfold cc0_transform_3
  simp only [te_read S]
  rw [show (BitVec.ofNat 32 (te (i 0).val)).toNat = te (i 0).val from by rw [BitVec.toNat_ofNat, Nat.mod_eq_of_lt (by omega)]]; rfl

include S in
/-- The blocks the tables name are inside the weights. -/
theorem ok_pf : ok0 pf := by
  refine ⟨fun i => ⟨?_, .inl rfl⟩, fun i => ⟨?_, .inl rfl⟩, fun i => ⟨?_, .inl rfl⟩⟩
  · have h := S.te_le (i 0).val
    rw [tmap1 S]
    exact okcons (by decide) (okcons (by omega) (okcons (by decide) (okcons (by decide) fun a => a.elim0)))
  · have h := S.te_le (i 0).val
    rw [tmap2 S]
    exact okcons (by decide) (okcons (by omega) (okcons (by decide) (okcons (by decide) fun a => a.elim0)))
  · have h := S.te_le (i 0).val
    rw [tmap3 S]
    exact okcons (by decide) (okcons (by omega) (okcons (by decide) (okcons (by decide) fun a => a.elim0)))

def adm : (pcfg0 (F := F)).Adm := ⟨pf, ok_pf S⟩
abbrev cfgA : Pipeline.Cfg sig Λ₀ := cfg0 (F := F) (adm S)

/-! ## The tiles in use -/

theorem cond1_iff (i : grid0.Coords) (u : ℕ) (hu : u ≤ 96) : k0_cond1 i (BitVec.ofNat 32 u) = 1#1 ↔ (i 0).val < u := by
  have hi := coord_lt i
  have hc : Scalar.cmpi .slt (BitVec.ofNat 32 (i 0).val) (BitVec.ofNat 32 u) = BitVec.ofBool (decide ((i 0).val < u)) :=
    WordCmp.cmpi_slt_ofNat (w := 32) (by omega) (by omega)
  unfold k0_cond1
  dsimp only
  rw [hc]
  by_cases h : (i 0).val < u <;> simp [h] <;> decide
theorem cond2_iff (i : grid0.Coords) (u : ℕ) (hu : u ≤ 96) : k0_cond2 i (BitVec.ofNat 32 u) = 1#1 ↔ ¬(i 0).val < u := by
  have hi := coord_lt i
  have hc : Scalar.cmpi .sge (BitVec.ofNat 32 (i 0).val) (BitVec.ofNat 32 u) = BitVec.ofBool (decide (u ≤ (i 0).val)) :=
    WordCmp.cmpi_sge_ofNat (w := 32) (by omega) (by omega)
  unfold k0_cond2
  dsimp only
  rw [hc]
  by_cases h : u ≤ (i 0).val <;> simp [h] <;> decide

include S in
theorem nvw_eq : nvw (pf 1) = BitVec.ofNat 32 (u) := by
  exact Eq.trans (congrArg (pf 1) (one_idx _)) S.u_at

abbrev crd (t : Fin (cfgA S).N) : grid0.Coords := (cfgA S).grid.coords t

theorem idle4 (t : Fin (cfgA S).N) : (cfgA S).idle (4 : Fin 5) ((cfgA S).grid.coords t) = false := by
  have h0 : pf.atD 1 ![0] = BitVec.ofNat 32 (u) := by
    unfold Pipeline.Prefetch.Contents.atD
    rw [dif_pos (by decide)]
    exact Eq.trans (congrArg (pf 1) (one_idx _)) S.u_at
  show (!(k0_cond1 (crd S t) (pf.atD 1 ![0]) == 1#1) && !(k0_cond2 (crd S t) (pf.atD 1 ![0]) == 1#1)) = false
  rw [h0]
  by_cases h : ((crd S t) 0).val < u
  · rw [(cond1_iff _ _ S.u_le).2 h]; rfl
  · rw [(cond2_iff _ _ S.u_le).2 h, Bool.and_eq_false_iff]; exact Or.inr rfl

/-! ## The proof data -/

abbrev ms0 (t : Fin (cfgA S).N) : Memref sig .tc .vmem S512x1024 .f32 := spec0_0.stage ((cfgA S).slots t (0 : Fin 5))
abbrev hs0 (t : Fin (cfgA S).N) : (ms0 S t).IsWhole := hstage0_0 (((cfgA S).slots t (0 : Fin 5)).cast nbuf0_0)
abbrev ms1 (t : Fin (cfgA S).N) : Memref sig .tc .vmem S1x1x1024x256 .f32 := spec0_1.stage ((cfgA S).slots t (1 : Fin 5))
abbrev hs1 (t : Fin (cfgA S).N) : (ms1 S t).IsWhole := hstage0_1 (((cfgA S).slots t (1 : Fin 5)).cast nbuf0_1)
abbrev ms2 (t : Fin (cfgA S).N) : Memref sig .tc .vmem S1x1x1024x256 .f32 := spec0_2.stage ((cfgA S).slots t (2 : Fin 5))
abbrev hs2 (t : Fin (cfgA S).N) : (ms2 S t).IsWhole := hstage0_2 (((cfgA S).slots t (2 : Fin 5)).cast nbuf0_2)
abbrev ms3 (t : Fin (cfgA S).N) : Memref sig .tc .vmem S1x1x256x1024 .f32 := spec0_3.stage ((cfgA S).slots t (3 : Fin 5))
abbrev hs3 (t : Fin (cfgA S).N) : (ms3 S t).IsWhole := hstage0_3 (((cfgA S).slots t (3 : Fin 5)).cast nbuf0_3)
abbrev ms4 (t : Fin (cfgA S).N) : Memref sig .tc .vmem S512x1024 .f32 := spec0_4.stage ((cfgA S).slots t (4 : Fin 5))
abbrev hs4 (t : Fin (cfgA S).N) : (ms4 S t).IsWhole := hstage0_4 (((cfgA S).slots t (4 : Fin 5)).cast nbuf0_4)

/-- Window `w`'s block at point `t`. -/
def iblk (c : Dev nD) (w : Fin (cfgA S).W) (t : Fin (cfgA S).N) : (((cfgA S).win w).xblock (crd S t)).Idx → Elt F ((cfgA S).win w).elt :=
  (((cfgA S).win w).blk t).view.read (Elt F) (A c (Pipeline.arrRef spec0 w))

/-- What point `t` leaves in the result's block. -/
def left (c : Dev nD) (t : Fin (cfgA S).N) : S512x1024.Idx → Elt F .f32 :=
  if ((crd S t) 0).val < u then
    k0_pay1 (iblk S A c (0 : Fin 5) t) (iblk S A c (1 : Fin 5) t) (iblk S A c (2 : Fin 5) t) (iblk S A c (3 : Fin 5) t)
  else k0_pay2

def dats (_ : Fin 1) (c : Dev nD) : Dat τ (Elt F) Unit ℕ (UR sig nD τ) ℕ (cfgA S) c where
  A w := A c (Pipeline.arrRef spec0 w)
  after w t := match w with
    | ⟨0, _⟩ => iblk S A c (0 : Fin 5) t
    | ⟨1, _⟩ => iblk S A c (1 : Fin 5) t
    | ⟨2, _⟩ => iblk S A c (2 : Fin 5) t
    | ⟨3, _⟩ => iblk S A c (3 : Fin 5) t
    | ⟨4, _⟩ => left S A c t
  Φ t := iprop(Pipeline.ΦA spec0 c ∗ Pipeline.ΦT pre0 (adm S).1 c)
  q _ := fullShare
  owed _ := 0

theorem after0 (c : Dev nD) (t : Fin (cfgA S).N) : (dats S A 0 c).after (0 : Fin 5) t = iblk S A c (0 : Fin 5) t := rfl
theorem after1 (c : Dev nD) (t : Fin (cfgA S).N) : (dats S A 0 c).after (1 : Fin 5) t = iblk S A c (1 : Fin 5) t := rfl
theorem after2 (c : Dev nD) (t : Fin (cfgA S).N) : (dats S A 0 c).after (2 : Fin 5) t = iblk S A c (2 : Fin 5) t := rfl
theorem after3 (c : Dev nD) (t : Fin (cfgA S).N) : (dats S A 0 c).after (3 : Fin 5) t = iblk S A c (3 : Fin 5) t := rfl
theorem after4 (c : Dev nD) (t : Fin (cfgA S).N) : (dats S A 0 c).after (4 : Fin 5) t = left S A c t := rfl

theorem before0 (c : Dev nD) (t : Fin (cfgA S).N) (d) : (dats S A 0 c).before (0 : Fin 5) t d = iblk S A c (0 : Fin 5) t :=
  ((dats S A 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA S).N) (d) : (dats S A 0 c).before (1 : Fin 5) t d = iblk S A c (1 : Fin 5) t :=
  ((dats S A 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA S).N) (d) : (dats S A 0 c).before (2 : Fin 5) t d = iblk S A c (2 : Fin 5) t :=
  ((dats S A 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA S).N) (d) : (dats S A 0 c).before (3 : Fin 5) t d = iblk S A c (3 : Fin 5) t :=
  ((dats S A 0 c).before_in_eq_fetched (3 : Fin 5) rfl (fun _ => rfl) (fun _ _ _ => rfl) (fun t => by rw [after3]; unfold Dat.blockOf iblk; rfl) t d).trans
    (by unfold Dat.fetched Dat.blockOf iblk; rfl)

include S in
theorem tables_eq (c : Dev nD) : (Pipeline.ΦT pre0 (adm S).1 c : sProp 𝕄)
    = iprop((tb0.view.loc (c : Thread nD τ) ↦{fullShare.right} pf 0) ∗ (tb1.view.loc (c : Thread nD τ) ↦{fullShare.right} pf 1)) := by
  unfold Pipeline.ΦT Pipeline.prefHeld
  rw [show (Finset.univ : Finset (Fin 2)) = insert (0 : Fin 2) {(1 : Fin 2)} from by decide, bigSep_insert (by decide), bigSep_singleton]
  rfl

/-! ## The body obligation -/

abbrev bodyAt (t : Fin (cfgA S).N) : Prog (TpuEff nD τ sig (Elt F) Λ₀ .tc) PUnit :=
  cc0_experts (crd S t) tb0 (Memref.isWhole_whole _) tb1 (Memref.isWhole_whole _) (ms0 S t) (hs0 S t) (ms1 S t) (hs1 S t) (ms2 S t) (hs2 S t) (ms3 S t) (hs3 S t) (ms4 S t) (hs4 S t)

/-- The body at point `t`, whichever way its test goes. -/
theorem point_run (c : Dev nD) (t : Fin (cfgA S).N) (K : PUnit → sProp 𝕄) :
    iprop(((ms0 S t).view.loc (c : Thread nD τ) ↦[(ms0 S t).view.set]{fullShare} (ms0 S t).view.rep (iblk S A c (0 : Fin 5) t))
      ∗ ((ms1 S t).view.loc (c : Thread nD τ) ↦[(ms1 S t).view.set]{fullShare} (ms1 S t).view.rep (iblk S A c (1 : Fin 5) t))
      ∗ ((ms2 S t).view.loc (c : Thread nD τ) ↦[(ms2 S t).view.set]{fullShare} (ms2 S t).view.rep (iblk S A c (2 : Fin 5) t))
      ∗ ((ms3 S t).view.loc (c : Thread nD τ) ↦[(ms3 S t).view.set]{fullShare} (ms3 S t).view.rep (iblk S A c (3 : Fin 5) t))
      ∗ (tb0.view.loc (c : Thread nD τ) ↦{fullShare.right} pf 0)
      ∗ (tb1.view.loc (c : Thread nD τ) ↦{fullShare.right} pf 1)
      ∗ (∃ d, owns (c : Thread nD τ) (ms4 S t) fullShare d)
      ∗ (iprop(((ms0 S t).view.loc (c : Thread nD τ) ↦[(ms0 S t).view.set]{fullShare} (ms0 S t).view.rep (iblk S A c (0 : Fin 5) t))
          ∗ ((ms1 S t).view.loc (c : Thread nD τ) ↦[(ms1 S t).view.set]{fullShare} (ms1 S t).view.rep (iblk S A c (1 : Fin 5) t))
          ∗ ((ms2 S t).view.loc (c : Thread nD τ) ↦[(ms2 S t).view.set]{fullShare} (ms2 S t).view.rep (iblk S A c (2 : Fin 5) t))
          ∗ ((ms3 S t).view.loc (c : Thread nD τ) ↦[(ms3 S t).view.set]{fullShare} (ms3 S t).view.rep (iblk S A c (3 : Fin 5) t))
          ∗ (tb0.view.loc (c : Thread nD τ) ↦{fullShare.right} pf 0)
          ∗ (tb1.view.loc (c : Thread nD τ) ↦{fullShare.right} pf 1)
          ∗ owns (c : Thread nD τ) (ms4 S t) fullShare (left S A c t)) -∗ K ⟨⟩))
      ⊢ wp frame (wpE (defs₀ (F := F)) Variants.none c none) Set.univ (bodyAt S t) K := by
  unfold left
  by_cases h : ((crd S t) 0).val < u
  · rw [if_pos h]
    refine run_used c (crd S t) (ms0 S t) (hs0 S t) (ms1 S t) (hs1 S t) (ms2 S t) (hs2 S t) (ms3 S t) (hs3 S t) (ms4 S t) (hs4 S t) (pf 0) (pf 1)
      (iblk S A c (0 : Fin 5) t) (iblk S A c (1 : Fin 5) t) (iblk S A c (2 : Fin 5) t) (iblk S A c (3 : Fin 5) t) ?_ ?_ K
    · rw [nvw_eq S]; exact (cond1_iff _ _ S.u_le).2 h
    · rw [nvw_eq S, cond2_iff _ _ S.u_le]; exact not_not.2 h
  · rw [if_neg h]
    refine run_past c (crd S t) (ms0 S t) (hs0 S t) (ms1 S t) (hs1 S t) (ms2 S t) (hs2 S t) (ms3 S t) (hs3 S t) (ms4 S t) (hs4 S t) (pf 0) (pf 1)
      (iblk S A c (0 : Fin 5) t) (iblk S A c (1 : Fin 5) t) (iblk S A c (2 : Fin 5) t) (iblk S A c (3 : Fin 5) t) ?_ ?_ K
    · rw [nvw_eq S, cond1_iff _ _ S.u_le]; exact h
    · rw [nvw_eq S]; exact (cond2_iff _ _ S.u_le).2 h

set_option maxHeartbeats 4000000 in
theorem sound_body (c : Dev nD) (t : Fin (cfgA S).N) :
    iprop((dats S A 0 c).Φ t.castSucc ∗ (dats S A 0 c).owesAt () t.castSucc
        ∗ (∃ d, owns (c : Thread nD τ) (ms0 S t) fullShare ((dats S A 0 c).before (0 : Fin 5) t d))
        ∗ (∃ d, owns (c : Thread nD τ) (ms1 S t) fullShare ((dats S A 0 c).before (1 : Fin 5) t d))
        ∗ (∃ d, owns (c : Thread nD τ) (ms2 S t) fullShare ((dats S A 0 c).before (2 : Fin 5) t d))
        ∗ (∃ d, owns (c : Thread nD τ) (ms3 S t) fullShare ((dats S A 0 c).before (3 : Fin 5) t d))
        ∗ (∃ d, owns (c : Thread nD τ) (ms4 S t) fullShare ((dats S A 0 c).before (4 : Fin 5) t d)))
      ⊢ wp frame (wpE (defs₀ (F := F)) Variants.none c none) Set.univ (bodyAt S t) fun _ =>
          iprop((dats S A 0 c).Φ t.succ ∗ (dats S A 0 c).owesAt () t.succ
            ∗ bigSep Finset.univ fun w : Fin (cfgA S).W =>
                match (cfgA S).idle w ((cfgA S).grid.coords t) with
                | true =>
                  match ((cfgA S).win w).flush t with
                  | false => iprop(∃ d, owns (c : Thread nD τ) (((cfgA S).win w).stage ((cfgA S).slots t w)) fullShare ((dats S A 0 c).before w t d))
                  | true => owns (c : Thread nD τ) (((cfgA S).win w).stage ((cfgA S).slots t w)) fullShare ((dats S A 0 c).after w t)
                | false => owns (c : Thread nD τ) (((cfgA S).win w).stage ((cfgA S).slots t w)) fullShare ((dats S A 0 c).after w t)) := by
  rw [bigSep_W0]
  have i4 := idle4 S t
  rewrite [i4]
  simp only [before0, before1, before2, before3, after0, after1, after2, after3, after4]
  rewrite [show (dats S A 0 c).Φ t.succ = iprop(Pipeline.ΦA spec0 c ∗ Pipeline.ΦT pre0 (adm S).1 c) from rfl,
    show (dats S A 0 c).Φ t.castSucc = iprop(Pipeline.ΦA spec0 c ∗ Pipeline.ΦT pre0 (adm S).1 c) from rfl,
    show (dats S A 0 c).owesAt () t.succ = (dats S A 0 c).owesAt () t.castSucc from rfl, tables_eq S]
  iintro ⟨⟨HA, HT0, HT1⟩, Ho, ⟨%d0, H0⟩, ⟨%d1, H1⟩, ⟨%d2, H2⟩, ⟨%d3, H3⟩, ⟨%d4, H4⟩⟩
  iapply (point_run S A c t _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  iintro ⟨H0, H1, H2, H3, HT0, HT1, H4⟩
  isplitl [HA HT0 HT1]
  · isplitl [HA]; · iexact HA
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

theorem body_obligation (c : Dev nD) : BodyObligation (dats S A 0 c) (defs₀ (F := F)) Variants.none () Set.univ := fun t => by
  rw [bigSep_W0]
  exact sound_body S A c t

/-! ## What a finished run holds -/

theorem post_mem (r : PUnit × MemSt nD τ sig (Elt F)) (h : Pipeline.FramePost (Pipeline.pin pcfgs fun _ => adm S) (dats S A) 0 A r) (c : Dev nD) :
    (r.2.mem ((c.tc : Thread nD τ).loc main_arg0) = A c main_arg0
      ∧ r.2.mem ((c.tc : Thread nD τ).loc main_arg1) = A c main_arg1
      ∧ r.2.mem ((c.tc : Thread nD τ).loc main_arg2) = A c main_arg2
      ∧ r.2.mem ((c.tc : Thread nD τ).loc main_arg3) = A c main_arg3
      ∧ r.2.mem ((c.tc : Thread nD τ).loc main_arg4) = A c main_arg4)
      ∧ r.2.mem ((c.tc : Thread nD τ).loc main_v45) = (dats S A 0 c).arrAt (4 : Fin 5) (cfgA S).N :=
  ⟨⟨(h c).2 main_arg0 (show main_arg0 ∈ Pipeline.restRefs sig spec0 from Pipeline.mem_restRefs_of main_arg0 (by decide) (by decide)),
    ((h c).1 (0 : Fin 5)).trans ((dats S A 0 c).arrAt_in (0 : Fin 5) rfl _),
    ((h c).1 (1 : Fin 5)).trans ((dats S A 0 c).arrAt_in (1 : Fin 5) rfl _),
    ((h c).1 (2 : Fin 5)).trans ((dats S A 0 c).arrAt_in (2 : Fin 5) rfl _),
    ((h c).1 (3 : Fin 5)).trans ((dats S A 0 c).arrAt_in (3 : Fin 5) rfl _)⟩, (h c).1 (4 : Fin 5)⟩

end Cert.Kernel2Ideal.Hand
-- ==== Proof.XLaunch.lean ====
/- The experts program's launch, over any value instance. -/
module

public import proofs.«01_k».proof.Proof.XRun
public import proofs.«01_k».proof.Proof.XHost

@[expose] public section

set_option maxRecDepth 16384

noncomputable section

namespace Cert.Kernel2Ideal.Hand

open Cert.Kernel2Ideal Cert.Kernel2Ideal.Gen Cert.Pos
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- What the two tables hold when the call is reached. -/
def pfm : pre0.Contents (Elt F) := fun
  | ⟨0, _⟩ => V m 0 main_v40
  | ⟨1, _⟩ => V m 0 main_v44
  | ⟨_ + 2, h⟩ => absurd h (by simp)

/-- The experts of the launched ids. -/
abbrev ex : ℕ → ℕ := expert m 0

theorem tabs : Tables (pfm m) (tileExpert (ex m)) (used (ex m)) where
  te_at i := te_word m 0 i
  te_le i := Nat.min_le_right _ _
  u_at := nv_word m 0
  u_le := by
    have := st_le (ex m) (x := 32) le_rfl
    unfold used; omega

/-- The call's proof data at the launched memory. -/
abbrev datm := dats (tabs m) (V m)

/-! ## The launch -/

set_option maxHeartbeats 800000 in
theorem hmainX : Pipeline.HMainP (Ix := Unit) (Name := ℕ) (U := UR sig nD τ) (Lvl := ℕ) pcfgs 0 defs₀ Variants.none m (main (F := F)) (V m) :=
  Pipeline.hmainP_prefixes pcfgs 0 defs₀ Variants.none m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨fresh0, fresh1, fresh2, fresh3, fresh4, fresh5, fresh6, fresh7, fresh8⟩)
    main_chain

theorem tables_V (c : Dev nD) : ∀ k : Fin 2, V m c (pre0.ref k) = pfm m k := by
  obtain rfl : c = 0 := Subsingleton.elim _ _
  intro k
  match k with
  | ⟨0, _⟩ => rfl
  | ⟨1, _⟩ => rfl

set_option backward.isDefEq.respectTransparency.types false in
set_option maxHeartbeats 4000000 in
theorem run_post : θ_run defs (onTc (τ := τ) (main (F := F))) (s₀ m ρ)
    (fun r => Pipeline.FramePost (Pipeline.pin pcfgs fun _ => adm (tabs m)) (datm m) 0 (V m) r ∧ r.2.sem = fun _ => 0) :=
  Pipeline.θ_run_frameP (Q' := _) pcfgs (fun _ => adm (tabs m)) (datm m) (0 : Fin 1) launch0 defs₀ Variants.none m ρ main
    (hbody := fun c => (body_obligation (tabs m) (V m) c).loose) (hshare := fun c => (datm m 0 c).share_full fun _ => rfl)
    (howed := fun _ _ => rfl) (V := V m) (hmain := hmainX m) (hA := fun _ _ => rfl) (hpf := tables_V m)
    (hΦ := fun _ _ => rfl) (hQ' := fun _ h => h)

/-- Every run ends with the arguments as launched, the counters at zero, and the result at what the points leave block by block. -/
theorem run_main : θ_run defs (onTc (τ := τ) (main (F := F))) (s₀ m ρ) (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) ∧ ∀ c : Dev nD, r.2.mem ((c.tc : Thread nD τ).loc main_v45) = (datm m 0 c).arrAt (4 : Fin 5) (cfgA (tabs m)).N) :=
  (θ_run defs _ _).mono (fun r h => by
    have p := fun c => post_mem (tabs m) (V m) r h.1 c
    exact ⟨⟨fun c => ⟨(p c).1.1.trans (V_main_arg0 m c), (p c).1.2.1.trans (V_main_arg1 m c), (p c).1.2.2.1.trans (V_main_arg2 m c),
      (p c).1.2.2.2.1.trans (V_main_arg3 m c), (p c).1.2.2.2.2.trans (V_main_arg4 m c)⟩, h.2⟩, fun c => (p c).2⟩) (run_post m ρ)

end Cert.Kernel2Ideal.Hand
-- ==== Proof.XVal.lean ====
/- What the experts program's call leaves, over the extended reals: at each row of a tile in use the two products through the weights
   of the tile's expert, and zero at the rows of the other tiles. -/
module

public import proofs.«01_k».proof.Proof.XRun
public import Idealize.ShloMosaic.Lib.Pipeline.ValueKit.Geometry
public import Idealize.ShloMosaic.Lib.IdealHost
public import Idealize.ShloMosaic.Lib.Pointwise.Contract

@[expose] public section

set_option maxRecDepth 16384

noncomputable section

namespace Cert.Kernel2Ideal.Hand

open Cert.Kernel2Ideal hiding ix0
open Cert.Kernel2Ideal.Gen Cert.Pos
open Idealize.ShloMosaic hiding ix0 ix1 ix2 ix3 ix4
open Idealize.ShloMosaic.TcCoe Idealize.ShloMosaic.ValueIdx
open Idealize.SL.Sem
open Idealize.ShloMosaic.Pipeline (Dat)

/-! ## A block's products -/

theorem cast_in (w : S1x1x1024x256.Idx → EReal) (k : Fin 1024) (f : Fin 256) :
    shapeCast S1024x256 w shapeCasts_S1x1x1024x256_S1024x256 (ix2 k f) = w (ix4 (n0 := 1) (n1 := 1) (n2 := 1024) (n3 := 256) 0 0 k f) := by
  have hk := k.isLt; have hf := f.isLt
  rw [shapeCast_apply _ shapeCasts_S1x1x1024x256_S1024x256 (ix2 k f) (ix4 (n0 := 1) (n1 := 1) (n2 := 1024) (n3 := 256) 0 0 k f) (by
    rw [Shape.rowMajor_val_four, Shape.rowMajor_val_two]
    show ((0 * 1 + 0) * 1024 + k.val) * 256 + f.val = k.val * 256 + f.val
    omega)]
theorem cast_out (w : S1x1x256x1024.Idx → EReal) (f : Fin 256) (l : Fin 1024) :
    shapeCast S256x1024 w shapeCasts_S1x1x256x1024_S256x1024 (ix2 f l) = w (ix4 (n0 := 1) (n1 := 1) (n2 := 256) (n3 := 1024) 0 0 f l) := by
  have hk := l.isLt; have hf := f.isLt
  rw [shapeCast_apply _ shapeCasts_S1x1x256x1024_S256x1024 (ix2 f l) (ix4 (n0 := 1) (n1 := 1) (n2 := 256) (n3 := 1024) 0 0 f l) (by
    rw [Shape.rowMajor_val_four, Shape.rowMajor_val_two]
    show ((0 * 1 + 0) * 256 + f.val) * 1024 + l.val = f.val * 1024 + l.val
    omega)]

theorem dot_in (x : FVec Ideal S512x1024 .bf16) (w : FVec Ideal S1024x256 .bf16) (a : Fin 512) (f : Fin 256) :
    matmul (F := Ideal) dot_S512x1024_S1024x256_S512x256_1_0_0_1_n_n none x w (constant S512x256 .f32 0x00000000#32) (ix2 a f)
      = ∑ k : Fin 1024, x (ix2 a k) * w (ix2 k f) := by
  refine Eq.trans (Ideal.matmul_apply _ _ _ _ _ _) ?_
  show Ideal.ofBits .f32 0x00000000#32 + _ = _
  rw [Ideal.ofBits_zero_f32, zero_add]
  refine (DotDims.sum_contr₁ _ (a := (1 : Fin 2)) rfl (K := 1024) rfl _).trans (Finset.sum_congr rfl fun k _ => ?_)
  refine congrArg₂ (· * ·) (congrArg x (funext fun p => ?_)) (congrArg w (funext fun p => ?_))
  · match p with
    | ⟨0, _⟩ => rfl
    | ⟨1, _⟩ => rfl
  · match p with
    | ⟨0, _⟩ => rfl
    | ⟨1, _⟩ => rfl
theorem dot_out (x : FVec Ideal S512x256 .bf16) (w : FVec Ideal S256x1024 .bf16) (a : Fin 512) (l : Fin 1024) :
    matmul (F := Ideal) dot_S512x256_S256x1024_S512x1024_1_0_0_1_n_n none x w (constant S512x1024 .f32 0x00000000#32) (ix2 a l)
      = ∑ f : Fin 256, x (ix2 a f) * w (ix2 f l) := by
  refine Eq.trans (Ideal.matmul_apply _ _ _ _ _ _) ?_
  show Ideal.ofBits .f32 0x00000000#32 + _ = _
  rw [Ideal.ofBits_zero_f32, zero_add]
  refine (DotDims.sum_contr₁ _ (a := (1 : Fin 2)) rfl (K := 256) rfl _).trans (Finset.sum_congr rfl fun k _ => ?_)
  refine congrArg₂ (· * ·) (congrArg x (funext fun p => ?_)) (congrArg w (funext fun p => ?_))
  · match p with
    | ⟨0, _⟩ => rfl
    | ⟨1, _⟩ => rfl
  · match p with
    | ⟨0, _⟩ => rfl
    | ⟨1, _⟩ => rfl

/-- A block's rows through one expert's block of a matrix. -/
def thin (x : Vec Ideal S512x1024 .f32) (w : Vec Ideal S1x1x1024x256 .f32) (a : Fin 512) (f : Fin 256) : EReal :=
  ∑ k : Fin 1024, (x (ix2 a k) : EReal) * w (ix4 (n0 := 1) (n1 := 1) (n2 := 1024) (n3 := 256) 0 0 k f)

theorem pay1_at (x : Vec Ideal S512x1024 .f32) (wg wu : Vec Ideal S1x1x1024x256 .f32) (wd : Vec Ideal S1x1x256x1024 .f32) (a : Fin 512) (l : Fin 1024) :
    k0_pay1 x wg wu wd (ix2 a l) = ∑ f : Fin 256, (thin x wg a f * Ideal.logistic (thin x wg a f) * thin x wu a f)
      * (wd (ix4 (n0 := 1) (n1 := 1) (n2 := 256) (n3 := 1024) 0 0 f l) : EReal) := by
  unfold k0_pay1
  refine (dot_out _ _ a l).trans (Finset.sum_congr rfl fun f _ => ?_)
  have hin : ∀ w : Vec Ideal S1x1x1024x256 .f32, matmul (F := Ideal) dot_S512x1024_S1024x256_S512x256_1_0_0_1_n_n none (truncf .bf16 x bitsLt_bf16_f32)
      (truncf .bf16 (shapeCast S1024x256 w shapeCasts_S1x1x1024x256_S1024x256) bitsLt_bf16_f32) (constant S512x256 .f32 0x00000000#32) (ix2 a f) = thin x w a f := by
    intro w
    refine (dot_in _ _ a f).trans (Finset.sum_congr rfl fun k _ => ?_)
    exact congrArg ((x (ix2 a k) : EReal) * ·) (cast_in w k f)
  refine congrArg₂ (· * ·) ?_ (cast_out wd f l)
  exact congrArg₂ (· * ·) (congrArg₂ (· * ·) (hin wg) (congrArg Ideal.logistic (hin wg))) (hin wu)

theorem pay2_at (y : S512x1024.Idx) : (k0_pay2 (F := Ideal) y : EReal) = 0 := Ideal.ofBits_zero_f32

/-! ## The blocks -/

/-- Row `r` through matrix `q`, at column `f`. -/
def wide (x : FVec Ideal S49152x1024 .f32) (w : FVec Ideal S4x32x1024x256 .f32) (r : Fin 49152) (q : Fin 32) (f : Fin 256) : EReal :=
  ∑ k : Fin 1024, x (ix2 r k) * w (ix4 (n0 := 4) (n1 := 32) (n2 := 1024) (n3 := 256) 0 q k f)
/-- The value of the experts at row `r`, through expert `q`. -/
def through (x : FVec Ideal S49152x1024 .f32) (wg wu : FVec Ideal S4x32x1024x256 .f32) (wd : FVec Ideal S4x32x256x1024 .f32) (r : Fin 49152) (q : Fin 32) (l : Fin 1024) : EReal :=
  ∑ f : Fin 256, (wide x wg r q f * Ideal.logistic (wide x wg r q f) * wide x wu r q f) * wd (ix4 (n0 := 4) (n1 := 32) (n2 := 256) (n3 := 1024) 0 q f l)

variable {pf : pre0.Contents (Elt Ideal)} {te : ℕ → ℕ} {u : ℕ} (S : Tables pf te u)
variable (A : (c : Dev nD) → (b : Ref sig .tc) → Buf (Elt Ideal) ((c : Thread nD τ).loc b))

theorem grid_N : grid0.N = 96 := by decide
theorem grid_coord : ∀ t : Fin grid0.N, (grid0.coords t 0).val = t.val := by decide +kernel
theorem map0_at : ∀ t : Fin grid0.N, cc0_transform_0 (grid0.coords t) = ![t.val, 0] := by decide +kernel
theorem map4_at : ∀ t : Fin grid0.N, cc0_transform_4 (grid0.coords t) = ![t.val, 0] := by decide +kernel

theorem index0 (t : Fin (cfgA S).N) : ((cfgA S).win (0 : Fin 5)).index t = ![t.val, 0] := map0_at t
theorem index4 (t : Fin (cfgA S).N) : ((cfgA S).win (4 : Fin 5)).index t = ![t.val, 0] := map4_at t
theorem index1 (t : Fin (cfgA S).N) : ((cfgA S).win (1 : Fin 5)).index t = ![0, te t.val, 0, 0] :=
  (tmap1 S (grid0.coords t)).trans (by rw [grid_coord t])
theorem index2 (t : Fin (cfgA S).N) : ((cfgA S).win (2 : Fin 5)).index t = ![0, te t.val, 0, 0] :=
  (tmap2 S (grid0.coords t)).trans (by rw [grid_coord t])
theorem index3 (t : Fin (cfgA S).N) : ((cfgA S).win (3 : Fin 5)).index t = ![0, te t.val, 0, 0] :=
  (tmap3 S (grid0.coords t)).trans (by rw [grid_coord t])

include S in
theorem te_lt (i : ℕ) : te i < 32 := by have := S.te_le i; omega

theorem rows_eq (c : Dev nD) (t : Fin (cfgA S).N) (a : Fin 512) (k : Fin 1024) (r : Fin 49152) (hr : r.val = 512 * t.val + a.val) :
    iblk S A c (0 : Fin 5) t (ix2 (n0 := 512) (n1 := 1024) a k) = A c main_arg1 (ix2 (n0 := 49152) (n1 := 1024) r k) := by
  unfold iblk
  show A c main_arg1 _ = A c main_arg1 _
  refine congrArg (A c main_arg1) (funext fun b => Fin.ext ?_)
  match b with
  | ⟨0, _⟩ =>
    show ((cfgA S).win (0 : Fin 5)).index t 0 * 512 + 1 * a.val = r.val
    rw [index0 S]; show t.val * 512 + 1 * a.val = r.val; omega
  | ⟨1, _⟩ =>
    show ((cfgA S).win (0 : Fin 5)).index t 1 * 1024 + 1 * k.val = k.val
    rw [index0 S]; show 0 * 1024 + 1 * k.val = k.val; omega

theorem gate_eq (c : Dev nD) (t : Fin (cfgA S).N) (k : Fin 1024) (f : Fin 256) (q : Fin 32) (hq : q.val = te t.val) :
    iblk S A c (1 : Fin 5) t (ix4 (n0 := 1) (n1 := 1) (n2 := 1024) (n3 := 256) 0 0 k f) = A c main_arg2 (ix4 (n0 := 4) (n1 := 32) (n2 := 1024) (n3 := 256) 0 q k f) := by
  unfold iblk
  show A c main_arg2 _ = A c main_arg2 _
  refine congrArg (A c main_arg2) (funext fun b => Fin.ext ?_)
  match b with
  | ⟨0, _⟩ => show ((cfgA S).win (1 : Fin 5)).index t 0 * 1 + 1 * 0 = 0; rw [index1 S]; rfl
  | ⟨1, _⟩ => show ((cfgA S).win (1 : Fin 5)).index t 1 * 1 + 1 * 0 = q.val; rw [index1 S]; show te t.val * 1 + 1 * 0 = q.val; omega
  | ⟨2, _⟩ => show ((cfgA S).win (1 : Fin 5)).index t 2 * 1024 + 1 * k.val = k.val; rw [index1 S]; show 0 * 1024 + 1 * k.val = k.val; omega
  | ⟨3, _⟩ => show ((cfgA S).win (1 : Fin 5)).index t 3 * 256 + 1 * f.val = f.val; rw [index1 S]; show 0 * 256 + 1 * f.val = f.val; omega

theorem up_eq (c : Dev nD) (t : Fin (cfgA S).N) (k : Fin 1024) (f : Fin 256) (q : Fin 32) (hq : q.val = te t.val) :
    iblk S A c (2 : Fin 5) t (ix4 (n0 := 1) (n1 := 1) (n2 := 1024) (n3 := 256) 0 0 k f) = A c main_arg3 (ix4 (n0 := 4) (n1 := 32) (n2 := 1024) (n3 := 256) 0 q k f) := by
  unfold iblk
  show A c main_arg3 _ = A c main_arg3 _
  refine congrArg (A c main_arg3) (funext fun b => Fin.ext ?_)
  match b with
  | ⟨0, _⟩ => show ((cfgA S).win (2 : Fin 5)).index t 0 * 1 + 1 * 0 = 0; rw [index2 S]; rfl
  | ⟨1, _⟩ => show ((cfgA S).win (2 : Fin 5)).index t 1 * 1 + 1 * 0 = q.val; rw [index2 S]; show te t.val * 1 + 1 * 0 = q.val; omega
  | ⟨2, _⟩ => show ((cfgA S).win (2 : Fin 5)).index t 2 * 1024 + 1 * k.val = k.val; rw [index2 S]; show 0 * 1024 + 1 * k.val = k.val; omega
  | ⟨3, _⟩ => show ((cfgA S).win (2 : Fin 5)).index t 3 * 256 + 1 * f.val = f.val; rw [index2 S]; show 0 * 256 + 1 * f.val = f.val; omega

theorem down_eq (c : Dev nD) (t : Fin (cfgA S).N) (f : Fin 256) (l : Fin 1024) (q : Fin 32) (hq : q.val = te t.val) :
    iblk S A c (3 : Fin 5) t (ix4 (n0 := 1) (n1 := 1) (n2 := 256) (n3 := 1024) 0 0 f l) = A c main_arg4 (ix4 (n0 := 4) (n1 := 32) (n2 := 256) (n3 := 1024) 0 q f l) := by
  unfold iblk
  show A c main_arg4 _ = A c main_arg4 _
  refine congrArg (A c main_arg4) (funext fun b => Fin.ext ?_)
  match b with
  | ⟨0, _⟩ => show ((cfgA S).win (3 : Fin 5)).index t 0 * 1 + 1 * 0 = 0; rw [index3 S]; rfl
  | ⟨1, _⟩ => show ((cfgA S).win (3 : Fin 5)).index t 1 * 1 + 1 * 0 = q.val; rw [index3 S]; show te t.val * 1 + 1 * 0 = q.val; omega
  | ⟨2, _⟩ => show ((cfgA S).win (3 : Fin 5)).index t 2 * 256 + 1 * f.val = f.val; rw [index3 S]; show 0 * 256 + 1 * f.val = f.val; omega
  | ⟨3, _⟩ => show ((cfgA S).win (3 : Fin 5)).index t 3 * 1024 + 1 * l.val = l.val; rw [index3 S]; show 0 * 1024 + 1 * l.val = l.val; omega

/-- The element of row `r` and column `l` in the array the call leaves. -/
def elem (c : Dev nD) (r : Fin 49152) (l : Fin 1024) : EReal :=
  if r.val / 512 < u then through (A c main_arg1) (A c main_arg2) (A c main_arg3) (A c main_arg4) r ⟨te (r.val / 512), te_lt S _⟩ l else 0

theorem left_at (c : Dev nD) (t : Fin (cfgA S).N) (a : Fin 512) (l : Fin 1024) (r : Fin 49152) (hr : r.val = 512 * t.val + a.val) :
    @Eq EReal (left S A c t (ix2 a l)) (elem S A c r l) := by
  have ha := a.isLt
  have hd : r.val / 512 = t.val := by omega
  have hc : ((crd S t) 0).val = t.val := grid_coord t
  unfold left elem
  simp only [hc, hd]
  by_cases h : t.val < u
  · rw [if_pos h, if_pos h]
    refine (pay1_at _ _ _ _ a l).trans (Finset.sum_congr rfl fun f _ => ?_)
    have hg : thin (iblk S A c (0 : Fin 5) t) (iblk S A c (1 : Fin 5) t) a f
        = wide (A c main_arg1) (A c main_arg2) r ⟨te t.val, te_lt S _⟩ f :=
      Finset.sum_congr rfl fun k _ => congrArg₂ (fun p q : EReal => p * q) (rows_eq S A c t a k r hr) (gate_eq S A c t k f ⟨te t.val, te_lt S _⟩ rfl)
    have hu : thin (iblk S A c (0 : Fin 5) t) (iblk S A c (2 : Fin 5) t) a f
        = wide (A c main_arg1) (A c main_arg3) r ⟨te t.val, te_lt S _⟩ f :=
      Finset.sum_congr rfl fun k _ => congrArg₂ (fun p q : EReal => p * q) (rows_eq S A c t a k r hr) (up_eq S A c t k f ⟨te t.val, te_lt S _⟩ rfl)
    exact congrArg₂ (fun p q : EReal => p * q) (congrArg₂ (fun p q : EReal => p * Ideal.logistic p * q) hg hu) (down_eq S A c t f l ⟨te t.val, te_lt S _⟩ rfl)
  · rw [if_neg h, if_neg h]
    exact pay2_at _

theorem flush4 (t : Fin (cfgA S).N) : ((cfgA S).win (4 : Fin 5)).flush t = true := by
  unfold Pipeline.Window.flush
  rw [show ((cfgA S).win (4 : Fin 5)).isOut = true from rfl, Bool.true_and, Bool.or_eq_true]
  by_cases h : t.val + 1 = (cfgA S).grid.N
  · exact Or.inl (decide_eq_true h)
  · refine Or.inr (decide_eq_true ⟨by have := t.isLt; exact Nat.lt_of_le_of_ne this h, fun e => ?_⟩)
    have := congrFun ((index4 S _).symm.trans (e.trans (index4 S t))) (0 : Fin 2)
    exact absurd (show t.val + 1 = t.val from this) (by omega)

/-- The array the call leaves. -/
theorem array_at (c : Dev nD) (r : Fin 49152) (l : Fin 1024) :
    @Eq EReal ((dats S A 0 c).arrAt (4 : Fin 5) (cfgA S).N (ix2 (n0 := 49152) (n1 := 1024) r l)) (elem S A c r l) := by
  have h : (dats S A 0 c).arrAt (4 : Fin 5) (cfgA S).N = (fun i : S49152x1024.Idx => elem S A c (i 0) (i 1)) := by
    refine (dats S A 0 c).arrAt_eq_of_emb (4 : Fin 5) _ (fun t hf y => ?_) (fun i => ?_)
    · have ht : t.val < 96 := lt_of_lt_of_eq t.isLt grid_N
      have h0 : (y 0).val < 512 := (y 0).isLt
      have h1 : (y 1).val < 1024 := (y 1).isLt
      refine Eq.trans (b := left S A c t (ix2 (n0 := 512) (n1 := 1024) ⟨(y 0).val, h0⟩ ⟨(y 1).val, h1⟩)) ?_ ?_
      · show left S A c t _ = _
        refine congrArg (left S A c t) (funext fun b => Fin.ext ?_)
        match b with
        | ⟨0, _⟩ => rfl
        | ⟨1, _⟩ => rfl
      · refine (left_at S A c t ⟨(y 0).val, h0⟩ ⟨(y 1).val, h1⟩ ⟨512 * t.val + (y 0).val, by omega⟩ rfl).trans ?_
        show elem S A c _ _ = elem S A c _ _
        refine congrArg₂ (elem S A c) (Fin.ext ?_) (Fin.ext ?_)
        · show 512 * t.val + (y 0).val = ((cfgA S).win (4 : Fin 5)).index t 0 * 512 + 1 * (y 0).val
          rw [index4 S]; show 512 * t.val + (y 0).val = t.val * 512 + 1 * (y 0).val; omega
        · show (y 1).val = ((cfgA S).win (4 : Fin 5)).index t 1 * 1024 + 1 * (y 1).val
          rw [index4 S]; show (y 1).val = 0 * 1024 + 1 * (y 1).val; omega
    · have h0 : (i 0).val < 49152 := (i 0).isLt
      have h1 : (i 1).val < 1024 := (i 1).isLt
      refine ⟨⟨(i 0).val / 512, by show _ < grid0.N; rw [grid_N]; omega⟩, flush4 S _, ?_⟩
      refine (((cfgA S).win (4 : Fin 5)).emb_mem_blk_iff _ i rfl).2 fun b => ?_
      rw [index4 S]
      match b with
      | ⟨0, _⟩ => show (i 0).val / 512 * 512 ≤ (i 0).val ∧ (i 0).val < (i 0).val / 512 * 512 + 512; omega
      | ⟨1, _⟩ => show 0 * 1024 ≤ (i 1).val ∧ (i 1).val < 0 * 1024 + 1024; omega
  exact congrFun h _

end Cert.Kernel2Ideal.Hand
-- ==== Proof.XRVal.lean ====
/- What the experts reference computes: at each row of the array, the two products through the weights of the expert the row belongs
   to, and zero at the rows past the last expert's. -/
module

public import proofs.«01_k».proof.Proof.Gen.Reference2Ideal
public import proofs.«01_k».proof.Proof.Gen.Reference2Ideal.Run
public import proofs.«01_k».proof.Proof.XPos
public import Idealize.ShloMosaic.Lib.StableHlo.Run
public import Idealize.ShloMosaic.Lib.IdealHost
public import Idealize.ShloMosaic.Lib.Pointwise.Contract

@[expose] public section

noncomputable section

namespace Cert.Reference2Ideal.Hand

open Cert.Reference2Ideal Cert.Reference2Ideal.Gen Cert.Pos
open Idealize.ShloMosaic hiding ix0 ix1 ix2 ix3 ix4
open Idealize.ShloMosaic.TcCoe Idealize.ShloMosaic.ValueIdx Idealize.ShloMosaic.Routing
open Idealize.SL.Sem Idealize.ShloMosaic.StableHlo

/-- The assignments of each expert. -/
def counts (v : IVec S32768 32) : IVec S32 32 :=
  Host.reduce IntOp.addi (extui 32 (cmpi .eq (broadcastInDim S32768x32 ![0, 1] bcast_S32768x1_S32768x32_0_1 (broadcastInDim S32768x1 ![0] bcast_S32768_S32768x1_0 v))
    (broadcastInDim S32768x32 ![0, 1] bcast_S1x32_S32768x32_0_1 (broadcastInDim S1x32 ![1] bcast_S32_S1x32_1 (iotaInDim S32 32 0)))) natLt_1_32)
    (constantI S_ 32 0#32) reducesTo_S32768x32_S32_d0 h_S_
/-- The tiles of each expert. -/
def tilesOf (v : IVec S32768 32) : IVec S32 32 :=
  pyDiv bcast_S_S32 (subi (addi (counts v) (broadcastInDim S32 ![] bcast_S_S32 (constantI S_ 32 512#32))) (broadcastInDim S32 ![] bcast_S_S32 (constantI S_ 32 1#32)))
    (constantI S_ 32 512#32)
/-- The row after each expert's last. -/
def endsOf (v : IVec S32768 32) : IVec S32 32 :=
  muli (Host.reduce IntOp.addi (select (cmpi .sle (broadcastInDim S32x32 ![0, 1] bcast_S1x32_S32x32_0_1 (broadcastInDim S1x32 ![1] bcast_S32_S1x32_1 (iotaInDim S32 32 0)))
      (broadcastInDim S32x32 ![0, 1] bcast_S32x1_S32x32_0_1 (broadcastInDim S32x1 ![0] bcast_S32_S32x1_0 (iotaInDim S32 32 0))))
    (broadcastInDim S32x32 ![0, 1] bcast_S1x32_S32x32_0_1 (broadcastInDim S1x32 ![1] bcast_S32_S1x32_1 (tilesOf v)))
    (broadcastInDim S32x32 ![] bcast_S_S32x32 (id (constantI S_ 32 0#32)))) (constantI S_ 32 0#32) reducesTo_S32x32_S32_d1 h_S_)
    (broadcastInDim S32 ![] bcast_S_S32 (constantI S_ 32 512#32))
/-- The expert of each row. -/
def expertOf (v : IVec S32768 32) : IVec S49152 32 :=
  Host.reduce IntOp.addi (extui 32 (cmpi .sle (broadcastInDim S49152x32 ![0, 1] bcast_S1x32_S49152x32_0_1 (broadcastInDim S1x32 ![1] bcast_S32_S1x32_1 (endsOf v)))
    (broadcastInDim S49152x32 ![0, 1] bcast_S49152x1_S49152x32_0_1 (broadcastInDim S49152x1 ![0] bcast_S49152_S49152x1_0 (iotaInDim S49152 32 0)))) natLt_1_32)
    (constantI S_ 32 0#32) reducesTo_S49152x32_S49152_d1 h_S_
/-- Which expert each row belongs to, a bit per expert. -/
def mine (v : IVec S32768 32) : IVec S49152x32 1 :=
  cmpi .eq (broadcastInDim S49152x32 ![0, 1] bcast_S49152x1_S49152x32_0_1 (broadcastInDim S49152x1 ![0] bcast_S49152_S49152x1_0 (expertOf v)))
    (broadcastInDim S49152x32 ![0, 1] bcast_S1x32_S49152x32_0_1 (broadcastInDim S1x32 ![1] bcast_S32_S1x32_1 (iotaInDim S32 32 0)))

section Reading
variable (v : IVec S32768 32) (e : ℕ → ℕ) (hv : ∀ a : Fin 32768, v (ix1 a) = BitVec.ofNat 32 (e a.val)) (he : ∀ a, a < 32768 → e a < 2 ^ 32)
include hv he

theorem counts_at (x : Fin 32) : counts v (ix1 x) = BitVec.ofNat 32 (cnt e x.val) := by
  unfold counts
  rw [reduce_count_down (n := 32768) (m := 32) (by decide) _ natLt_1_32 _ _ x (fun b => e b = x.val) (fun b => by
    show IntOp.cmpi .eq _ _ = 1#1 ↔ _
    rw [bcRows, bcCols, hv, iota1_ap, WordCmp.cmpi_eq_ofNat (w := 32) (he _ b.isLt) (by have := x.isLt; omega),
      StableHlo.Predicate.ofBool_eq_one_iff, decide_eq_true_iff])]
  rfl

theorem tilesOf_at (x : Fin 32) : tilesOf v (ix1 x) = BitVec.ofNat 32 (tiles e x.val) := by
  have hc := cnt_le e x.val
  unfold tilesOf
  rw [pyDiv_ap bcast_S_S32 _ _ (ix1 x) (a := cnt e x.val + 512 - 1) (b := 512) (by
      rw [subi_ap, addi_ap, counts_at v e hv he, bc0, bc0]
      show BitVec.ofNat 32 _ + BitVec.ofNat 32 512 - 1#32 = _
      rw [← BitVec.ofNat_add, StableHlo.Predicate.sub_one_ofNat _ (by omega) (by omega)]) rfl (by omega) (by decide) (by decide)]
  rfl

theorem endsOf_at (x : Fin 32) : endsOf v (ix1 x) = BitVec.ofNat 32 (st e (x.val + 1)) := by
  have hx := x.isLt
  unfold endsOf
  rw [muli_ap, reduce_row (n := 32) (m := 32) _ (fun q => if q < x.val + 1 then tiles e q else 0) x (fun q => by
    have hq := q.isLt
    show Scalar.select (IntOp.cmpi .sle _ _) _ _ = _
    rw [bcCols, bcRows, iota1_ap, iota1_ap, bcCols, tilesOf_at v e hv he, bc0, WordCmp.cmpi_sle_ofNat (w := 32) (by omega) (by omega)]
    by_cases h : q.val < x.val + 1
    · rw [if_pos h, decide_eq_true (by omega)]; rfl
    · rw [if_neg h, decide_eq_false (by omega)]; rfl), sum_below _ _ 32 (by omega), bc0]
  show BitVec.ofNat 32 _ * BitVec.ofNat 32 512 = _
  rw [← BitVec.ofNat_mul]
  congr 1
  unfold st
  rw [sum_mul_right]

theorem expertOf_at (r : Fin 49152) : expertOf v (ix1 r) = BitVec.ofNat 32 (ended e r.val) := by
  have hr := r.isLt
  unfold expertOf
  rw [reduce_count (n := 49152) (m := 32) (by decide) _ natLt_1_32 _ _ r (fun x => st e (x + 1) ≤ r.val) (fun x => by
    have hx := x.isLt
    have := st_le e (show x.val + 1 ≤ 32 by omega)
    show IntOp.cmpi .sle _ _ = 1#1 ↔ _
    rw [bcCols, bcRows, endsOf_at v e hv he, iota1_ap, WordCmp.cmpi_sle_ofNat (w := 32) (by omega) (by omega),
      StableHlo.Predicate.ofBool_eq_one_iff, decide_eq_true_iff])]
  rfl

theorem mine_at (r : Fin 49152) (x : Fin 32) : mine v (ix2 r x) = BitVec.ofBool (decide (ended e r.val = x.val)) := by
  have hx := x.isLt
  have := ended_le e r.val
  unfold mine
  show IntOp.cmpi .eq _ _ = _
  rw [bcRows, bcCols, expertOf_at v e hv he, iota1_ap, WordCmp.cmpi_eq_ofNat (w := 32) (by omega) (by omega)]

end Reading

/-! ## The products -/

/-- The weights of layer 0, expert by expert. -/
def lay (w : FVec Ideal S4x32x1024x256 .f32) : FVec Ideal S32x1024x256 .f32 :=
  shapeCast _ (extractStridedSlice S1x32x1024x256 ![0, 0, 0, 0] w slices_S4x32x1024x256_S1x32x1024x256_0_0_0_0) shapeCasts_S1x32x1024x256_S32x1024x256
def layD (w : FVec Ideal S4x32x256x1024 .f32) : FVec Ideal S32x256x1024 .f32 :=
  shapeCast _ (extractStridedSlice S1x32x256x1024 ![0, 0, 0, 0] w slices_S4x32x256x1024_S1x32x256x1024_0_0_0_0) shapeCasts_S1x32x256x1024_S32x256x1024
/-- Every row through every expert's matrix. -/
def into (x : FVec Ideal S49152x1024 .f32) (w : FVec Ideal S4x32x1024x256 .f32) : FVec Ideal S49152x32x256 .f32 :=
  Host.dotGeneral dot_S49152x1024_S32x1024x256_S49152x32x256_1_1_0_02_n_n none x (lay w)
/-- The gated activations, as the reference divides them. -/
def act (g : FVec Ideal S49152x32x256 .f32) : FVec Ideal S49152x32x256 .f32 :=
  mulf g (Host.divf (broadcastInDim S49152x32x256 ![] bcast_S_S49152x32x256 (constant S_ .f32 0x3F800000#32))
    (addf (broadcastInDim S49152x32x256 ![] bcast_S_S49152x32x256 (constant S_ .f32 0x3F800000#32)) (Host.exp (Host.negf g))))
/-- One at a row's own expert, zero at the others. -/
def pick (v : IVec S32768 32) : FVec Ideal S49152x32x256 .f32 :=
  broadcastInDim S49152x32x256 ![0, 1, 2] bcast_S49152x32x1_S49152x32x256_0_1_2 (broadcastInDim S49152x32x1 ![0, 1] bcast_S49152x32_S49152x32x1_0_1 (uitofp .f32 (mine v)))

theorem lay_at (w : FVec Ideal S4x32x1024x256 .f32) (x : Fin 32) (k : Fin 1024) (f : Fin 256) :
    lay w (ix3 x k f) = w (ix4 (n0 := 4) (n1 := 32) (n2 := 1024) (n3 := 256) 0 x k f) := by
  have hx := x.isLt; have hk := k.isLt; have hf := f.isLt
  unfold lay
  rw [shapeCast_apply _ shapeCasts_S1x32x1024x256_S32x1024x256 (ix3 x k f) (ix4 (n0 := 1) (n1 := 32) (n2 := 1024) (n3 := 256) 0 x k f) (by
      rw [Shape.rowMajor_val_four, Shape.rowMajor_val_three]
      show ((0 * 32 + x.val) * 1024 + k.val) * 256 + f.val = (x.val * 1024 + k.val) * 256 + f.val
      omega)]
  refine congrArg w (funext fun a => Fin.ext ?_)
  match a with
  | ⟨0, _⟩ => rfl
  | ⟨1, _⟩ => exact Nat.zero_add _
  | ⟨2, _⟩ => exact Nat.zero_add _
  | ⟨3, _⟩ => exact Nat.zero_add _

theorem layD_at (w : FVec Ideal S4x32x256x1024 .f32) (x : Fin 32) (f : Fin 256) (l : Fin 1024) :
    layD w (ix3 x f l) = w (ix4 (n0 := 4) (n1 := 32) (n2 := 256) (n3 := 1024) 0 x f l) := by
  have hx := x.isLt; have hk := f.isLt; have hf := l.isLt
  unfold layD
  rw [shapeCast_apply _ shapeCasts_S1x32x256x1024_S32x256x1024 (ix3 x f l) (ix4 (n0 := 1) (n1 := 32) (n2 := 256) (n3 := 1024) 0 x f l) (by
      rw [Shape.rowMajor_val_four, Shape.rowMajor_val_three]
      show ((0 * 32 + x.val) * 256 + f.val) * 1024 + l.val = (x.val * 256 + f.val) * 1024 + l.val
      omega)]
  refine congrArg w (funext fun a => Fin.ext ?_)
  match a with
  | ⟨0, _⟩ => rfl
  | ⟨1, _⟩ => exact Nat.zero_add _
  | ⟨2, _⟩ => exact Nat.zero_add _
  | ⟨3, _⟩ => exact Nat.zero_add _

theorem into_at (x : FVec Ideal S49152x1024 .f32) (w : FVec Ideal S4x32x1024x256 .f32) (r : Fin 49152) (q : Fin 32) (f : Fin 256) :
    into x w (ix3 r q f) = ∑ k : Fin 1024, x (ix2 r k) * w (ix4 (n0 := 4) (n1 := 32) (n2 := 1024) (n3 := 256) 0 q k f) := by
  unfold into
  rw [show ∀ (a : FVec Ideal S49152x1024 .f32) (b : FVec Ideal S32x1024x256 .f32), Host.dotGeneral dot_S49152x1024_S32x1024x256_S49152x32x256_1_1_0_02_n_n none a b (ix3 r q f)
      = ∑ k : Fin 1024, a (ix2 r k) * b (ix3 q k f) from fun a b => ?_]
  · exact Finset.sum_congr rfl fun k _ => by rw [lay_at]
  · refine Eq.trans (Ideal.dotGeneral_apply _ _ _ _ _ _) (((DotDims.sum_contr₁ _ (a := (1 : Fin 2)) rfl (K := 1024) rfl _)).trans (Finset.sum_congr rfl fun k _ => ?_))
    refine congrArg₂ (· * ·) (congrArg a (funext fun p => ?_)) (congrArg b (funext fun p => ?_))
    · match p with
      | ⟨0, _⟩ => rfl
      | ⟨1, _⟩ => rfl
    · match p with
      | ⟨0, _⟩ => rfl
      | ⟨1, _⟩ => rfl
      | ⟨2, _⟩ => rfl

theorem out_at (a : FVec Ideal S49152x32x256 .f32) (w : FVec Ideal S4x32x256x1024 .f32) (r : Fin 49152) (l : Fin 1024) :
    Host.dotGeneral dot_S49152x32x256_S32x256x1024_S49152x1024_12_01_0_2_n_n none a (layD w) (ix2 r l)
      = ∑ q : Fin 32, ∑ f : Fin 256, a (ix3 r q f) * w (ix4 (n0 := 4) (n1 := 32) (n2 := 256) (n3 := 1024) 0 q f l) := by
  refine Eq.trans (Ideal.dotGeneral_apply _ _ _ _ _ _) (((DotDims.sum_contr₂ _ (a := (1 : Fin 3)) (b := (2 : Fin 3)) rfl (K₁ := 32) (K₂ := 256) rfl rfl _)).trans
    (Finset.sum_congr rfl fun q _ => Finset.sum_congr rfl fun f _ => ?_))
  refine congrArg₂ (· * ·) (congrArg a (funext fun p => ?_)) (Eq.trans (congrArg (layD w) (funext fun p => ?_)) (layD_at w q f l))
  · match p with
    | ⟨0, _⟩ => rfl
    | ⟨1, _⟩ => rfl
    | ⟨2, _⟩ => rfl
  · match p with
    | ⟨0, _⟩ => rfl
    | ⟨1, _⟩ => rfl
    | ⟨2, _⟩ => rfl

theorem act_at (g : FVec Ideal S49152x32x256 .f32) (i : S49152x32x256.Idx) : act g i = g i * Ideal.logistic (g i) := by
  show g i * Ideal.div (Ideal.ofBits .f32 0x3F800000#32) (Ideal.ofBits .f32 0x3F800000#32 + Ideal.exp (-(g i))) = _
  rw [Ideal.ofBits_one_f32]; rfl

theorem pick_at (v : IVec S32768 32) (r : Fin 49152) (q : Fin 32) (f : Fin 256) :
    pick v (ix3 r q f) = (((mine v (ix2 r q)).toNat : ℝ) : EReal) := by
  unfold pick
  rw [broadcastInDim_apply _ _ _ (ix3 r q f) (ix3 (n0 := 49152) (n1 := 32) (n2 := 1) r q 0) (fun b => by
      match b with
      | ⟨0, _⟩ => rfl
      | ⟨1, _⟩ => rfl
      | ⟨2, _⟩ => rfl),
    broadcastInDim_apply _ _ _ (ix3 (n0 := 49152) (n1 := 32) (n2 := 1) r q 0) (ix2 r q) (fun b => by
      match b with
      | ⟨0, _⟩ => rfl
      | ⟨1, _⟩ => rfl)]
  rfl

variable (m : (ℓ : Loc nD τ sig) → Buf (Elt Ideal) ℓ)

/-- The experts, one assignment after another. -/
def flat (c : Dev nD) : IVec S32768 32 := shapeCast S32768 (m ((c : Thread nD τ).loc main_arg0)) shapeCasts_S16384x2_S32768

set_option maxRecDepth 8192 in
theorem result_eq (c : Dev nD) : Value.res_main_v51 m c
    = Host.dotGeneral (F := Ideal) dot_S49152x32x256_S32x256x1024_S49152x1024_12_01_0_2_n_n none
      (mulf (mulf (act (into (m ((c : Thread nD τ).loc main_arg1)) (m ((c : Thread nD τ).loc main_arg2)))) (into (m ((c : Thread nD τ).loc main_arg1)) (m ((c : Thread nD τ).loc main_arg3))))
        (pick (flat m c))) (layD (m ((c : Thread nD τ).loc main_arg4))) := by
  unfold Value.res_main_v51; rfl

/-- The value of the experts at row `r`, through expert `q`. -/
def through (x : FVec Ideal S49152x1024 .f32) (wg wu : FVec Ideal S4x32x1024x256 .f32) (wd : FVec Ideal S4x32x256x1024 .f32) (r : Fin 49152) (q : Fin 32) (l : Fin 1024) : EReal :=
  ∑ f : Fin 256,
    ((∑ k : Fin 1024, x (ix2 r k) * wg (ix4 (n0 := 4) (n1 := 32) (n2 := 1024) (n3 := 256) 0 q k f))
      * Ideal.logistic (∑ k : Fin 1024, x (ix2 r k) * wg (ix4 (n0 := 4) (n1 := 32) (n2 := 1024) (n3 := 256) 0 q k f))
      * (∑ k : Fin 1024, x (ix2 r k) * wu (ix4 (n0 := 4) (n1 := 32) (n2 := 1024) (n3 := 256) 0 q k f)))
      * wd (ix4 (n0 := 4) (n1 := 32) (n2 := 256) (n3 := 1024) 0 q f l)

section Rows
variable (c : Dev nD) (e : ℕ → ℕ) (hv : ∀ a : Fin 32768, flat m c (ix1 a) = BitVec.ofNat 32 (e a.val)) (he : ∀ a, a < 32768 → e a < 2 ^ 32)
include hv he

theorem result_at (r : Fin 49152) (l : Fin 1024) : @Eq EReal (Value.res_main_v51 m c (ix2 r l))
    (∑ q : Fin 32, if ended e r.val = q.val then
        through (m ((c : Thread nD τ).loc main_arg1)) (m ((c : Thread nD τ).loc main_arg2)) (m ((c : Thread nD τ).loc main_arg3)) (m ((c : Thread nD τ).loc main_arg4)) r q l else 0) := by
  rw [result_eq, out_at]
  refine Finset.sum_congr rfl fun q _ => ?_
  have hp : ∀ f : Fin 256, pick (flat m c) (ix3 r q f) = if ended e r.val = q.val then (1 : EReal) else 0 := by
    intro f
    rw [pick_at, mine_at _ e hv he]
    by_cases h : ended e r.val = q.val
    · rw [if_pos h, decide_eq_true h]; simp
    · rw [if_neg h, decide_eq_false h]; simp
  by_cases h : ended e r.val = q.val
  · rw [if_pos h]
    refine Finset.sum_congr rfl fun f _ => ?_
    refine congrArg (· * _) ?_
    show act (into _ _) (ix3 r q f) * into _ _ (ix3 r q f) * pick (flat m c) (ix3 r q f) = _
    rw [hp f, if_pos h, mul_one, act_at, into_at, into_at]
  · rw [if_neg h]
    refine Finset.sum_eq_zero fun f _ => ?_
    show act (into _ _) (ix3 r q f) * into _ _ (ix3 r q f) * pick (flat m c) (ix3 r q f) * _ = _
    rw [hp f, if_neg h, mul_zero, zero_mul]

/-- A row of an expert goes through that expert. -/
theorem result_row (r : Fin 49152) (l : Fin 1024) (q : Fin 32) (hq : ended e r.val = q.val) : @Eq EReal (Value.res_main_v51 m c (ix2 r l))
    (through (m ((c : Thread nD τ).loc main_arg1)) (m ((c : Thread nD τ).loc main_arg2)) (m ((c : Thread nD τ).loc main_arg3)) (m ((c : Thread nD τ).loc main_arg4)) r q l) := by
  rw [result_at m c e hv he, Finset.sum_eq_single q]
  · rw [if_pos hq]
  · intro b _ hb
    rw [if_neg fun h => hb (Fin.ext (h.symm.trans hq))]
  · intro h; exact absurd (Finset.mem_univ q) h

/-- A row past the last expert's holds zeros. -/
theorem result_past (r : Fin 49152) (l : Fin 1024) (hq : ended e r.val = 32) : @Eq EReal (Value.res_main_v51 m c (ix2 r l)) 0 := by
  rw [result_at m c e hv he]
  refine Finset.sum_eq_zero fun b _ => ?_
  rw [if_neg fun h => by have := b.isLt; omega]

end Rows

end Cert.Reference2Ideal.Hand
-- ==== Proof.XEq.lean ====
/- The experts program's array is the reference's, and its run is the same for the two printed texts of the program. -/
module

public import proofs.«01_k».proof.Proof.XLaunch
public import proofs.«01_k».proof.Proof.XVal
public import proofs.«01_k».proof.Proof.XRVal

@[expose] public section

noncomputable section

namespace Cert.Hand.Experts

open Idealize.ShloMosaic hiding ix0 ix1 ix2 ix3 ix4
open Idealize.ShloMosaic.TcCoe Idealize.ShloMosaic.ValueIdx Idealize.SL.Sem
open Cert.Kernel2Ideal hiding ix0
open Cert.Kernel2Ideal.Gen Cert.Kernel2Ideal.Hand Cert.Pos

section Same
variable (m : (ℓ : Loc nD τ sig) → Buf (Elt Ideal) ℓ)

/-- The two arrays are equal. -/
theorem same (m' : (ℓ : Loc Cert.Reference2Ideal.nD Cert.Reference2Ideal.τ Cert.Reference2Ideal.sig) → Buf (Elt Ideal) ℓ) (c : Dev nD)
    (h0 : m' ((c.tc : Thread Cert.Reference2Ideal.nD Cert.Reference2Ideal.τ).loc Cert.Reference2Ideal.main_arg0) = m ((c.tc : Thread nD τ).loc main_arg0))
    (h1 : m' ((c.tc : Thread Cert.Reference2Ideal.nD Cert.Reference2Ideal.τ).loc Cert.Reference2Ideal.main_arg1) = m ((c.tc : Thread nD τ).loc main_arg1))
    (h2 : m' ((c.tc : Thread Cert.Reference2Ideal.nD Cert.Reference2Ideal.τ).loc Cert.Reference2Ideal.main_arg2) = m ((c.tc : Thread nD τ).loc main_arg2))
    (h3 : m' ((c.tc : Thread Cert.Reference2Ideal.nD Cert.Reference2Ideal.τ).loc Cert.Reference2Ideal.main_arg3) = m ((c.tc : Thread nD τ).loc main_arg3))
    (h4 : m' ((c.tc : Thread Cert.Reference2Ideal.nD Cert.Reference2Ideal.τ).loc Cert.Reference2Ideal.main_arg4) = m ((c.tc : Thread nD τ).loc main_arg4)) :
    Cert.Reference2Ideal.Value.res_main_v51 m' c = (datm m 0 c).arrAt (4 : Fin 5) (cfgA (tabs m)).N := by
  have hc : c = 0 := Subsingleton.elim _ _
  have hv : ∀ a : Fin 32768, Cert.Reference2Ideal.Hand.flat m' c (ix1 a) = BitVec.ofNat 32 (expert m c a.val) := fun a => by
    rw [← flat_at m c a]
    unfold Cert.Reference2Ideal.Hand.flat
    rw [h0]; rfl
  have he : ∀ a, a < 32768 → expert m c a < 2 ^ 32 := fun a ha => expert_lt m c a ha
  funext i
  obtain ⟨r, l, rfl⟩ : ∃ (r : Fin 49152) (l : Fin 1024), i = ix2 r l := ⟨i 0, i 1, ValueIdx.eq_ix2 i⟩
  refine Eq.trans ?_ (array_at (tabs m) (V m) c r l).symm
  unfold elem
  by_cases hr : r.val < st (expert m c) 32
  · have hu : r.val / 512 < used (ex m) := by subst hc; exact (used_iff _ _).2 hr
    rw [if_pos hu]
    have ht : tileExpert (ex m) (r.val / 512) = ended (expert m c) r.val := by subst hc; exact tileExpert_of_used _ hr
    refine (Cert.Reference2Ideal.Hand.result_row m' c (expert m c) hv he r l ⟨tileExpert (ex m) (r.val / 512), te_lt (tabs m) _⟩ ht.symm).trans ?_
    rw [h1, h2, h3, h4, V_main_arg1 m c, V_main_arg2 m c, V_main_arg3 m c, V_main_arg4 m c]
    rfl
  · have hu : ¬ r.val / 512 < used (ex m) := by subst hc; exact fun h => hr ((used_iff _ _).1 h)
    rw [if_neg hu]
    exact Cert.Reference2Ideal.Hand.result_past m' c (expert m c) hv he r l (ended_of_past _ hr)

end Same

end Cert.Hand.Experts
-- ==== Proof.BXPos.lean ====
/- The tables the experts program computes before its call: the expert of each tile and the number of tiles in use, word by word, as
   the natural numbers of `Pos.lean`. -/
module

public import proofs.«01_k».proof.Proof.Gen.Kernel2
public import proofs.«01_k».proof.Proof.XPos

@[expose] public section

noncomputable section

namespace Cert.Kernel2.Hand

open Cert.Kernel2 Cert.Kernel2.Gen Cert.Pos
open Idealize.ShloMosaic Idealize.ShloMosaic.TcCoe Idealize.ShloMosaic.ValueIdx Idealize.ShloMosaic.Routing
open Idealize.SL.Sem Idealize.ShloMosaic.StableHlo

/-- Each assignment's expert as a row of zeros and a one. -/
def hot (v : IVec S32768 32) : IVec S32768x32 32 :=
  extui 32 (cmpi .eq (broadcastInDim S32768x32 ![0, 1] bcast_S32768x1_S32768x32_0_1 (broadcastInDim S32768x1 ![0] bcast_S32768_S32768x1_0 v))
    (broadcastInDim S32768x32 ![0, 1] bcast_S1x32_S32768x32_0_1 (broadcastInDim S1x32 ![1] bcast_S32_S1x32_1 (iotaInDim S32 32 0)))) natLt_1_32
/-- Running sums down the assignments. -/
def run (h : IVec S32768x32 32) : IVec S32768x32 32 :=
  Host.reduceWindow IntOp.addi ![32768, 1] ![1, 1] ![32767, 0] ![0, 0] h (broadcastInDim S_ ![] bcast_S_S_ (constantI S_ 32 0#32))
    reduceWindows_S32768x32_S32768x32_w32768s1p32767_0_w1s1p0_0 h_S_
/-- The rows each expert takes. -/
def rows (h : IVec S32768x32 32) : IVec S32 32 :=
  muli (pyDiv bcast_S_S32 (subi (addi (shapeCast S32 (extractStridedSlice S1x32 ![32767, 0] (run h) slices_S32768x32_S1x32_32767_0) shapeCasts_S1x32_S32)
      (broadcastInDim S32 ![] bcast_S_S32 (constantI S_ 32 512#32))) (broadcastInDim S32 ![] bcast_S_S32 (constantI S_ 32 1#32)))
      (constantI S_ 32 512#32))
    (broadcastInDim S32 ![] bcast_S_S32 (constantI S_ 32 512#32))
/-- The row after each expert's last. -/
def ends (r : IVec S32 32) : IVec S32 32 :=
  Host.reduceWindow IntOp.addi ![32] ![1] ![31] ![0] r (broadcastInDim S_ ![] bcast_S_S_ (constantI S_ 32 0#32)) reduceWindows_S32_S32_w32s1p31_0 h_S_
/-- The expert of each tile. -/
def teOf (r : IVec S32 32) : IVec S96 32 :=
  minsi (Host.reduce IntOp.addi (extui 32 (cmpi .sge
      (broadcastInDim S96x32 ![0, 1] bcast_S96x1_S96x32_0_1 (broadcastInDim S96x1 ![0] bcast_S96_S96x1_0
        (muli (iotaInDim S96 32 0) (broadcastInDim S96 ![] bcast_S_S96 (constantI S_ 32 512#32)))))
      (broadcastInDim S96x32 ![0, 1] bcast_S1x32_S96x32_0_1 (broadcastInDim S1x32 ![1] bcast_S32_S1x32_1 r))) natLt_1_32)
      (constantI S_ 32 0#32) reducesTo_S96x32_S96_d1 h_S_)
    (broadcastInDim S96 ![] bcast_S_S96 (constantI S_ 32 31#32))
/-- The number of tiles in use. -/
def nvOf (r : IVec S32 32) : IVec S1 32 :=
  shapeCast S1 (pyDiv0 (shapeCast S_ (extractStridedSlice S1 ![31] r slices_S32_S1_31) shapeCasts_S1_S_) (constantI S_ 32 512#32)) shapeCasts_S_S1

section Reading
variable (v : IVec S32768 32) (e : ℕ → ℕ) (hv : ∀ a : Fin 32768, v (ix1 a) = BitVec.ofNat 32 (e a.val)) (he : ∀ a, a < 32768 → e a < 2 ^ 32)
include hv he

theorem hot_at (a : Fin 32768) (x : Fin 32) : hot v (ix2 a x) = BitVec.ofNat 32 (if e a.val = x.val then 1 else 0) := by
  have h : cmpi .eq (broadcastInDim S32768x32 ![0, 1] bcast_S32768x1_S32768x32_0_1 (broadcastInDim S32768x1 ![0] bcast_S32768_S32768x1_0 v))
      (broadcastInDim S32768x32 ![0, 1] bcast_S1x32_S32768x32_0_1 (broadcastInDim S1x32 ![1] bcast_S32_S1x32_1 (iotaInDim S32 32 0))) (ix2 a x)
      = BitVec.ofBool (decide (e a.val = x.val)) := by
    show IntOp.cmpi .eq _ _ = _
    rw [bcRows, bcCols, hv, iota1_ap, WordCmp.cmpi_eq_ofNat (w := 32) (he a.val a.isLt) (by have := x.isLt; omega)]
  unfold hot
  show BitVec.setWidth 32 _ = _
  rw [h, setWidth_ofBool]

theorem run_at (a : Fin 32768) (x : Fin 32) : run (hot v) (ix2 a x) = BitVec.ofNat 32 (Nat.count (fun b => e b = x.val) (a.val + 1)) := by
  unfold run
  rw [cumsum_rows (R := 32768) (Rm1 := 32767) (C := 32) rfl (hot v) (fun i c => if e i = c then 1 else 0) (hot_at v e hv he) _ (by rw [bc0]; rfl), sum_map_ite]

theorem rows_at (x : Fin 32) : rows (hot v) (ix1 x) = BitVec.ofNat 32 (tiles e x.val * 512) := by
  have hs : shapeCast S32 (extractStridedSlice S1x32 ![32767, 0] (run (hot v)) slices_S32768x32_S1x32_32767_0) shapeCasts_S1x32_S32 (ix1 x)
      = BitVec.ofNat 32 (cnt e x.val) := by
    rw [cast21 (a := 1) (b := 32) _ _ (0 : Fin 1) x x (by simp)]
    have : extractStridedSlice S1x32 ![32767, 0] (run (hot v)) slices_S32768x32_S1x32_32767_0 (ix2 (0 : Fin 1) x)
        = run (hot v) (ix2 (⟨32767, by decide⟩ : Fin 32768) x) := by
      unfold extractStridedSlice
      refine congrArg (run (hot v)) (funext fun b => Fin.ext ?_)
      match b with
      | ⟨0, _⟩ => rfl
      | ⟨1, _⟩ => show 0 + x.val = x.val; exact Nat.zero_add _
    rw [this, run_at v e hv he]; rfl
  have hc := cnt_le e x.val
  unfold rows
  rw [muli_ap, bc0, pyDiv_ap bcast_S_S32 _ _ (ix1 x) (a := cnt e x.val + 512 - 1) (b := 512) (by
      rw [subi_ap, addi_ap, hs, bc0, bc0]
      show BitVec.ofNat 32 _ + BitVec.ofNat 32 512 - 1#32 = _
      rw [← BitVec.ofNat_add, StableHlo.Predicate.sub_one_ofNat _ (by omega) (by omega)]) rfl (by omega) (by decide) (by decide)]
  show BitVec.ofNat 32 _ * BitVec.ofNat 32 512 = _
  rw [← BitVec.ofNat_mul]; rfl

theorem ends_at (x : Fin 32) : ends (rows (hot v)) (ix1 x) = BitVec.ofNat 32 (st e (x.val + 1)) := by
  unfold ends
  rw [cumsum1 (N := 32) (Nm1 := 31) rfl (rows (hot v)) (fun y => tiles e y * 512) (rows_at v e hv he) _ (by rw [bc0]; rfl)]
  rfl

theorem te_at (i : Fin 96) : teOf (ends (rows (hot v))) (ix1 i) = BitVec.ofNat 32 (tileExpert e i.val) := by
  have hi := i.isLt
  unfold teOf
  show IntOp.minsi _ (broadcastInDim S96 ![] bcast_S_S96 (constantI S_ 32 31#32) (ix1 i)) = _
  rw [bc0, reduce_count (n := 96) (m := 32) (by decide) _ natLt_1_32 _ _ i (fun x => st e (x + 1) ≤ 512 * i.val) (fun x => by
    have hx := st_le e (x := x.val + 1) (by have := x.isLt; omega)
    show IntOp.cmpi .sge _ _ = 1#1 ↔ _
    rw [bcRows, bcCols, ends_at v e hv he, muli_ap, iota1_ap, bc0]
    show IntOp.cmpi .sge (BitVec.ofNat 32 i.val * BitVec.ofNat 32 512) _ = 1#1 ↔ _
    rw [← BitVec.ofNat_mul, WordCmp.cmpi_sge_ofNat_eq_one_iff (w := 32) (by omega) (by omega), Nat.mul_comm])]
  exact minsi_small ⟨ended e (512 * i.val), Nat.lt_succ_of_le (ended_le e _)⟩

theorem nv_at : nvOf (ends (rows (hot v))) (ix1 0) = BitVec.ofNat 32 (used e) := by
  have h := st_le e (x := 32) le_rfl
  unfold nvOf
  rw [shapeCast_apply _ shapeCasts_S_S1 (ix1 0) ValueIdx.ix0 rfl, pyDiv0_ap _ _ (a := st e 32) (b := 512) ?_ rfl (by omega) (by decide) (by decide)]
  · rfl
  rw [shapeCast_apply _ shapeCasts_S1_S_ ValueIdx.ix0 (ix1 (n := 1) 0) rfl]
  have : extractStridedSlice S1 ![31] (ends (rows (hot v))) slices_S32_S1_31 (ix1 (0 : Fin 1)) = ends (rows (hot v)) (ix1 (⟨31, by decide⟩ : Fin 32)) := by
    unfold extractStridedSlice
    refine congrArg (ends (rows (hot v))) (funext fun b => Fin.ext ?_)
    match b with
    | ⟨0, _⟩ => rfl
  rw [this, ends_at v e hv he]

end Reading

end Cert.Kernel2.Hand
-- ==== Proof.CBody.lean ====
/- The combine call's body: each point's 1024 row copies run through a two-slot ring, a batch on one DMA semaphore cell a slot, over
   any value instance. -/
module

public import proofs.«01_k».proof.Proof.Gen.Kernel3Ideal.Frame
public import proofs.«01_k».proof.Proof.Gen.Kernel3Ideal.Skeleton
public import proofs.«01_k».proof.Proof.Gen.Kernel3Ideal.Loops
public import Idealize.ShloMosaic.Lib.Pipeline.FrameValue
public import Idealize.ShloMosaic.Lib.Pipeline.ValueKit.Geometry
public import Idealize.ShloMosaic.Lib.ValueIdxCore
public import Idealize.ShloMosaic.Lib.Batch
public import Idealize.ShloMosaic.Lib.VecWindow

@[expose] public section

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

theorem trips1 : k0_t1_loop.trips = 512 := by decide
theorem trips2 : k0_t2_loop.trips = 512 := by decide
theorem trips3 : k0_t3_loop.trips = 512 := by decide

/-! ## Names -/

/-- The ring and the rows' array. -/
abbrev BL (c : Dev nD) : Loc nD τ sig := (Memref.whole cc0_scratch0).view.loc (c : Thread nD τ)
abbrev YL (c : Dev nD) : Loc nD τ sig := (Memref.whole main_arg3).view.loc (c : Thread nD τ)

/-- One row of a slot, a slot, and one row of the array. -/
def rowSet (b s r : ℕ) : Finset S2x2x512x1024.Idx := Finset.univ.filter fun i => (i 0).val = b ∧ (i 1).val = s ∧ (i 2).val = r
def slotSet (b : ℕ) : Finset S2x2x512x1024.Idx := Finset.univ.filter fun i => (i 0).val = b
def yRow (n : ℕ) : Finset S49152x1024.Idx := Finset.univ.filter fun i => (i 0).val = n

/-- A row of the ring, as the copies name it: a slice of a squeezed slice. -/
def bRow (oB : Fin 4 → ℕ) (hB : ∀ a, oB a + S1x1x512x1024.size a ≤ S2x2x512x1024.size a) (oR : Fin 2 → ℕ)
    (hR : ∀ a, oR a + S1x1024.size a ≤ S512x1024.size a) : Memref sig .tc .vmem S1x1024 .f32 :=
  (((Memref.whole cc0_scratch0).slice (Rect.unit (s := S2x2x512x1024) oB S1x1x512x1024.size hB) (fun _ => rfl)).squeeze S512x1024
    squeezes_S1x1x512x1024_S512x1024).slice (Rect.unit (s := S512x1024) oR S1x1024.size hR) (fun _ => rfl)
/-- A row of the array. -/
def yMem (oY : Fin 2 → ℕ) (hY : ∀ a, oY a + S1x1024.size a ≤ S49152x1024.size a) : Memref sig .tc .hbm S1x1024 .f32 :=
  (Memref.whole main_arg3).slice (Rect.unit (s := S49152x1024) oY S1x1024.size hY) (fun _ => rfl)
/-- A slot's cell. -/
def cell (oS : Fin 1 → ℕ) (hS : ∀ a, oS a + S1.size a ≤ S2.size a) : DmaSem sig :=
  ((cc0_scratch1.slice (Rect.unit (s := S2) oS S1.size hS)).squeeze S_ squeezes_S1_S_).sem

def semOf (b : ℕ) : SemLoc sig := if b = 0 then .dma 10 else .dma 11
def hs (b : ℕ) : PosShare TreeShare := if b = 0 then fullShare.left else fullShare.right

theorem cell_eq (oS : Fin 1 → ℕ) (hS) (b : ℕ) (hb : b < 2) (e : oS = ![b]) : SemLoc.dma (cell oS hS) = semOf b := by
  subst e
  have h0 : SemLoc.dma (sig := sig) (cell ![0] (by decide)) = semOf 0 := by decide +kernel
  have h1 : SemLoc.dma (sig := sig) (cell ![1] (by decide)) = semOf 1 := by decide +kernel
  match b, hb with
  | 0, _ => exact h0
  | 1, _ => exact h1

/-! ## The pieces' elements -/

theorem squeeze_idx (h : S512x1024.numel = S1x1x512x1024.numel) (x : S512x1024.Idx) :
    Shape.reshapeEquiv h x = (ValueIdx.ix4 (n0 := 1) (n1 := 1) (n2 := 512) (n3 := 1024) 0 0 (x 0) (x 1) : S1x1x512x1024.Idx) := by
  refine Shape.reshapeEquiv_eq_of_rowMajor h ?_
  rw [Shape.rowMajor_val_four, Shape.rowMajor_val_two]
  show ((0 * 1 + 0) * 512 + (x 0).val) * 1024 + (x 1).val = (x 0).val * 1024 + (x 1).val
  omega

theorem bRow_emb (oB hB oR hR) (x : S1x1024.Idx) (a : Fin 4) :
    ((bRow oB hB oR hR).view.emb x a).val = oB a + (![0, 0, oR 0 + (x 0).val, oR 1 + (x 1).val] : Fin 4 → ℕ) a := by
  show (((Rect.unit (s := S2x2x512x1024) oB S1x1x512x1024.size hB).emb (Shape.reshapeEquiv _ ((Rect.unit (s := S512x1024) oR S1x1024.size hR).emb x))) a).val = _
  rw [squeeze_idx]
  refine (ValueKit.rect_emb_unit_val (s := S2x2x512x1024) oB S1x1x512x1024.size hB _ a).trans ?_
  have e0 := ValueKit.rect_emb_unit_val (s := S512x1024) oR S1x1024.size hR x 0
  have e1 := ValueKit.rect_emb_unit_val (s := S512x1024) oR S1x1024.size hR x 1
  congr 1
  fin_cases a
  · rfl
  · rfl
  · exact e0
  · exact e1

theorem mem_rowSet (b s r : ℕ) (i : S2x2x512x1024.Idx) : i ∈ rowSet b s r ↔ (i 0).val = b ∧ (i 1).val = s ∧ (i 2).val = r := by
  unfold rowSet; rw [Finset.mem_filter]; exact ⟨fun h => h.2, fun h => ⟨Finset.mem_univ _, h⟩⟩
theorem mem_slotSet (b : ℕ) (i : S2x2x512x1024.Idx) : i ∈ slotSet b ↔ (i 0).val = b := by
  unfold slotSet; rw [Finset.mem_filter]; exact ⟨fun h => h.2, fun h => ⟨Finset.mem_univ _, h⟩⟩
theorem mem_yRow (n : ℕ) (i : S49152x1024.Idx) : i ∈ yRow n ↔ (i 0).val = n := by
  unfold yRow; rw [Finset.mem_filter]; exact ⟨fun h => h.2, fun h => ⟨Finset.mem_univ _, h⟩⟩

theorem bRow_set (oB hB oR hR) (b s r : ℕ) (eB : oB = ![b, s, 0, 0]) (eR : oR = ![r, 0]) : (bRow oB hB oR hR).view.set = rowSet b s r := by
  refine Finset.ext fun (i : S2x2x512x1024.Idx) => ?_
  refine Iff.trans ?_ (mem_rowSet b s r i).symm
  constructor
  · intro h
    obtain ⟨x, -, e⟩ := Finset.mem_map.mp h
    have q := fun a => (congrArg (fun i : S2x2x512x1024.Idx => (i a).val) e).symm.trans (bRow_emb oB hB oR hR x a)
    have h0 : (x 0).val < 1 := (x 0).isLt
    subst eB eR
    refine ⟨(q 0).trans rfl, (q 1).trans rfl, (q 2).trans ?_⟩
    show 0 + (r + (x 0).val) = r; omega
  · rintro ⟨h0, h1, h2⟩
    refine Finset.mem_map.mpr ⟨ValueIdx.ix2 (n0 := 1) (n1 := 1024) 0 (i 3), Finset.mem_univ _, funext fun a => Fin.ext ?_⟩
    refine (bRow_emb oB hB oR hR _ a).trans ?_
    subst eB eR
    fin_cases a
    · exact h0.symm
    · exact h1.symm
    · exact (show 0 + (r + 0) = r by omega).trans h2.symm
    · show 0 + (0 + (i 3).val) = (i 3).val; omega

theorem yMem_set (oY hY) (n : ℕ) (eY : oY = ![n, 0]) : (yMem oY hY).view.set = yRow n := by
  subst eY
  refine Finset.ext fun (i : S49152x1024.Idx) => ?_
  refine Iff.trans ?_ (mem_yRow n i).symm
  refine ValueKit.mem_set_slice_whole_iff main_arg3 _ i ?_
  rw [Rect.mem_set_unit]
  constructor
  · intro h
    have h0 : n ≤ (i 0).val ∧ (i 0).val < n + 1 := h 0
    omega
  · intro h a
    fin_cases a
    · show n ≤ (i 0).val ∧ (i 0).val < n + 1
      omega
    · show 0 ≤ (i 1).val ∧ (i 1).val < 0 + 1024
      have h1 : (i 1).val < 1024 := (i 1).isLt
      omega

/-! ## The copies of a point -/

/-- One row's credit on a cell. -/
def NN : ℕ := sig.dmaCredit .tc (Kind.table .tc .vmem) (Memref.whole cc0_scratch0).view.buf S1x1024 .f32
theorem NN_pos : 0 < NN := View.dmaCredit_pos (bRow ![0, 0, 0, 0] inb_S2x2x512x1024_S1x1x512x1024_0_0_0_0 ![0, 0] inb_S512x1024_S1x1024_0_0).view (by decide)

/-- What a point's copies leave in its slot: row `2r + s` of those its positions name, at `(s, r)`. -/
def gath (w : Fin 1024 → BitVec 32) (hw : ∀ t, (w t).toNat < 49152) (ys : S49152x1024.Idx → Elt F .f32) : S2x2x512x1024.Idx → Elt F .f32 := fun i =>
  ys (ValueIdx.ix2 (n0 := 49152) (n1 := 1024)
    ⟨(w ⟨2 * (i 2).val + (i 1).val, by
      have h2 : (i 2).val < 512 := (i 2).isLt
      have h1 : (i 1).val < 2 := (i 1).isLt
      omega⟩).toNat, hw _⟩ (i 3))

section Copies

variable (c : Dev nD) (ys : S49152x1024.Idx → Elt F .f32)
  (b : ℕ) (w : Fin 1024 → BitVec 32) (hw : ∀ t, (w t).toNat < 49152) (hinj : ∀ j j', (w j).toNat = (w j').toNat → j = j')
  (f : S2x2x512x1024.Idx → Elt F .f32)

abbrev bOwn (t : Fin 1024) (g : S2x2x512x1024.Idx → Elt F .f32) : sProp 𝕄 := BL c ↦[rowSet b (t.val % 2) (t.val / 2)]{fullShare} g
abbrev yOwn (t : Fin 1024) : sProp 𝕄 := YL c ↦[yRow (w t).toNat]{hs b} ys

/-- What copy `t` delivers: its row of the slot, and its share of the array's row. -/
def deliv (t : Fin 1024) : sProp 𝕄 := iprop(bOwn c b t (gath w hw ys) ∗ yOwn c ys b w t)

instance deliv_storable (t : Fin 1024) : BI.Storable (upEmb : UEmb _ 𝕄) (deliv c ys b w hw t) := by
  unfold deliv; infer_instance

abbrev batch (sm : SemLoc sig) (j u : ℕ) : sProp 𝕄 :=
  Transfers.Batch (countersEmb (U := Pipeline.UD sig nD τ)) (c : Thread nD τ) sm () NN (deliv c ys b w hw) j u

theorem copy_lands (t : Fin 1024) (oB hB oR hR oY hY) (eB : oB = ![b, t.val % 2, 0, 0]) (eR : oR = ![t.val / 2, 0]) (eY : oY = ![(w t).toNat, 0]) :
    ∀ i ∈ (bRow oB hB oR hR).view.set,
      (bRow oB hB oR hR).view.write (Elt F) f (ReadAs.same.apply ((yMem oY hY).view.read (Elt F) ys)) Finset.univ i = gath w hw ys i := by
  intro i hi
  obtain ⟨x, -, e⟩ := Finset.mem_map.mp hi
  subst e
  refine (View.write_emb_of_mem _ _ (Finset.mem_univ x)).trans ?_
  refine (cast_eq _ _).trans ((cast_eq _ _).trans ?_)
  unfold gath
  have q := bRow_emb oB hB oR hR x
  have h0 : (x 0).val < 1 := (x 0).isLt
  subst eB eR eY
  congr 1
  funext a; apply Fin.ext
  refine (ValueKit.view_emb_slice_whole_unit_val main_arg3 _ S1x1024.size hY x a).trans ?_
  fin_cases a
  · show (w t).toNat + (x 0).val = (w _).toNat
    have e : ∀ u : Fin 1024, u = t → (w t).toNat + (x 0).val = (w u).toNat := fun u hu => by subst hu; omega
    refine e _ (Fin.ext ?_)
    refine (congrArg₂ (fun p q => 2 * p + q) (q 2) (q 1)).trans ?_
    show 2 * (0 + (t.val / 2 + (x 0).val)) + (t.val % 2 + 0) = t.val
    omega
  · show 0 + (x 1).val = _
    refine Eq.symm ((q 3).trans ?_)
    show 0 + (0 + (x 1).val) = 0 + (x 1).val
    omega

/-- One copy. -/
theorem issue_one (t : Fin 1024) (sm : SemLoc sig) (oB hB oR hR oY hY oS hS) (eB : oB = ![b, t.val % 2, 0, 0]) (eR : oR = ![t.val / 2, 0])
    (eY : oY = ![(w t).toNat, 0]) (eS : SemLoc.dma (cell oS hS) = sm)
    (K : PUnit → Prog (TpuEff nD τ sig (Elt F) Λ₀ .tc) PUnit) (Q : PUnit → sProp 𝕄) :
    iprop(yOwn c ys b w t ∗ bOwn c b t f ∗ batch c ys b w hw sm t.val 0)
      ⊢ iprop((batch c ys b w hw sm (t.val + 1) 0 -∗ wp frame (wpE (defs₀ (F := F)) Variants.none (c : Thread nD τ) none) Set.univ (K ⟨⟩) Q)
        -∗ wp frame (wpE (defs₀ (F := F)) Variants.none (c : Thread nD τ) none) Set.univ
            (Prog.op (.enqueueDma (yMem oY hY) (.here (bRow oB hB oR hR)) (.dma (cell oS hS)) (View.wordExact_bits rfl) (View.wordExact_bits rfl) ⟨Or.inl rfl, trivial⟩) K) Q) := by
  subst eS
  have key := Transfers.wp_dmaBatch (countersEmb (U := Pipeline.UD sig nD τ)) Variants.none (c : Thread nD τ) none (defs := defs₀ (F := F))
    (src := yMem oY hY) (via := ReadAs.same) (dst := bRow oB hB oR hR) (sm := .dma (cell oS hS)) (hsrc := View.wordExact_bits rfl) (hdst := View.wordExact_bits rfl)
    (hsem := ⟨Or.inl rfl, trivial⟩) (k := K) (Q := Q) (q := hs b) (fs := ys) (fd := f)
    () NN rfl subset_rfl
    (D := deliv c ys b w hw) (j := t.val) (u := 0) t.isLt (Nat.zero_le _) (by
      rw [yMem_set oY hY _ eY]
      unfold deliv
      have e : ((bRow oB hB oR hR).view.loc (c : Thread nD τ) ↦[(bRow oB hB oR hR).view.set]{fullShare}
          (bRow oB hB oR hR).view.write (Elt F) f (ReadAs.same.apply ((yMem oY hY).view.read (Elt F) ys)) Finset.univ : sProp 𝕄)
          = bOwn c b t (gath w hw ys) := by
        refine (pointsTo_congr (copy_lands ys b w hw f t oB hB oR hR oY hY eB eR eY)).trans ?_
        rw [bRow_set oB hB oR hR _ _ _ eB eR]; rfl
      exact BI.sep_mono (Entails.of_eq e) (show yOwn c ys b w t ⊢ yOwn c ys b w t from Entails.of_eq rfl))
  rw [yMem_set oY hY _ eY, bRow_set oB hB oR hR _ _ _ eB eR] at key
  exact key

/-! ## The issue loops -/

abbrev wd (M : Memref sig .tc .smem S1x1x1024 .i32) (f1 : Buf (Elt F) (M.view.loc (c : Thread nD τ))) (j : Fin 1024) : BitVec 32 :=
  M.view.read (Elt F) f1 (ValueIdx.ix3 0 0 j)

theorem word_at (M : Memref sig .tc .smem S1x1x1024 .i32) (f1 : Buf (Elt F) (M.view.loc (c : Thread nD τ))) (j : Fin 1024) (off : Fin 3 → ℕ) (hoff)
    (e : off = ![0, 0, j.val]) (hx) :
    View.readAt (Elt F) M.view (Rect.unit (s := S1x1x1024) off S1x1x1.size hoff).toLoadRect f1 (Shape.Idx.first hx) = wd c M f1 j := by
  subst e
  show M.view.read (Elt F) f1 _ = M.view.read (Elt F) f1 _
  congr 1; funext a; apply Fin.ext
  refine (ValueKit.rect_emb_unit_val (s := S1x1x1024) _ S1x1x1.size hoff (Shape.Idx.first hx) a).trans ?_
  fin_cases a <;> rfl

theorem ret_bind' {E : Type → Type} {α β : Type} (a : α) (k : α → Prog E β) : (Prog.ret a).bind k = k a := rfl

variable (M : Memref sig .tc .smem S1x1x1024 .i32) (f1 : Buf (Elt F) (M.view.loc (c : Thread nD τ)))

/-- Before trip `k`: the positions' block, `2k` copies issued, and the rows of the copies to come. -/
def issueAt (sm : SemLoc sig) (k : ℕ) (_ : Unit) : sProp 𝕄 :=
  iprop((M.view.loc (c : Thread nD τ) ↦[M.view.set]{fullShare} f1) ∗ batch c ys b w hw sm (2 * k) 0
    ∗ bigSep (Ring.rangeSet 1024 (2 * k) 1024) (yOwn c ys b w)
    ∗ bigSep (Ring.rangeSet 1024 (2 * k) 1024) (fun t => bOwn c b t f))

end Copies

section Loops

variable (c : Dev nD) (ys : S49152x1024.Idx → Elt F .f32)
  (b : ℕ) (w : Fin 1024 → BitVec 32) (hw : ∀ t, (w t).toNat < 49152)
  (f : S2x2x512x1024.Idx → Elt F .f32)
  (i : grid0.Coords) (arg1 : Memref sig .tc .smem S1x1x1024 .i32) (harg1 : arg1.IsWhole) (arg2 : Memref sig .tc .smem S1x1x1024 .i32) (harg2 : arg2.IsWhole)
  (arg3 : Memref sig .tc .vmem S512x1024 .f32) (harg3 : arg3.IsWhole) (arg4 : Memref sig .tc .vmem S512x128 .f32) (harg4 : arg4.IsWhole)
  (h5 : (Memref.whole main_arg3).IsWhole) (arg6 : Memref sig .tc .vmem S512x1024 .f32) (harg6 : arg6.IsWhole) (h7 : (Memref.whole cc0_scratch0).IsWhole)

theorem chk_of (v : BitVec 32) (h : v.toNat < 49152) : ∀ a, (![v.toNat, 0] : Fin 2 → ℕ) a + S1x1024.size a ≤ S49152x1024.size a := fun a => by
  match a with
  | ⟨0, _⟩ => show v.toNat + 1 ≤ 49152; omega
  | ⟨1, _⟩ => show 0 + 1024 ≤ 1024; omega

theorem off8_eq : ∀ i : grid0.Coords, k0_off8 i = ![((i 0).val + 1) % 2] := by decide +kernel
theorem off13_eq : ∀ i : grid0.Coords, k0_off13 i = ![((i 0).val + 1) % 2] := by decide +kernel
theorem off17_eq : ∀ i : grid0.Coords, k0_off17 i = ![(i 0).val % 2] := by decide +kernel
theorem off9_eq : ∀ i : grid0.Coords, k0_off9 i = ![((i 0).val + 1) % 2, 0, 0, 0] := by decide +kernel
theorem off14_eq : ∀ i : grid0.Coords, k0_off14 i = ![((i 0).val + 1) % 2, 1, 0, 0] := by decide +kernel
theorem off20_eq : ∀ i : grid0.Coords, k0_off20 i = ![(i 0).val % 2, 0, 0, 0] := by decide +kernel
theorem off21_eq : ∀ i : grid0.Coords, k0_off21 i = ![(i 0).val % 2, 1, 0, 0] := by decide +kernel

theorem issue1_step (h1 : k0_cond1 i = 1#1) (f1 : Buf (Elt F) (arg1.view.loc (c : Thread nD τ))) (hwd : ∀ j, wd c arg1 f1 j = w j)
    (k : Fin k0_t1_loop.trips) (acc : Unit) :
    issueAt c ys 0 w hw f arg1 f1 (semOf 0) k acc ⊢ wp frame (wpE (defs₀ (F := F)) Variants.none (c : Thread nD τ) none) Set.univ
      (k0_t1_body i arg1 harg1 arg2 harg2 arg3 harg3 arg4 harg4 (Memref.whole main_arg3) h5 arg6 harg6 (Memref.whole cc0_scratch0) h7 cc0_scratch1 h1 k acc)
      (issueAt c ys 0 w hw f arg1 f1 (semOf 0) (k.val + 1)) := by
  have hk : k.val < 512 := by have := k.isLt; have := trips1; omega
  have hk0 : 2 * k.val < 1024 := by omega
  have hk1 : 2 * k.val + 1 < 1024 := by omega
  unfold issueAt
  rw [Ring.bigSep_rangeSet_head (Φ := yOwn c ys 0 w) (lo := 2 * k.val) (by omega) (by omega),
    Ring.bigSep_rangeSet_head (Φ := yOwn c ys 0 w) (lo := 2 * k.val + 1) (by omega) (by omega),
    Ring.bigSep_rangeSet_head (Φ := fun t => bOwn c 0 t f) (lo := 2 * k.val) (by omega) (by omega),
    Ring.bigSep_rangeSet_head (Φ := fun t => bOwn c 0 t f) (lo := 2 * k.val + 1) (by omega) (by omega),
    show 2 * (k.val + 1) = 2 * k.val + 1 + 1 by omega]
  iintro ⟨H1, HB, ⟨HY0, HY1, HYs⟩, HD0, HD1, HDs⟩
  dsimp only [k0_t1_body]
  sl_exec
  have e0 : issue1_step.sl.r c i arg1 h1 f1 k = w ⟨2 * k.val, hk0⟩ := by
    rw [← hwd]; exact word_at c arg1 f1 ⟨2 * k.val, hk0⟩ _ _ (k0_off1_eq k) _
  generalize hr0 : issue1_step.sl.r c i arg1 h1 f1 k = r0 at e0
  subst e0
  iapply (wp_assume Variants.none (c : Thread nD τ) none Set.univ (show k0_chk1 i (w ⟨2 * k.val, hk0⟩) from fun _ => chk_of _ (hw _)))
  iapply (issue_one c ys 0 w hw f ⟨2 * k.val, hk0⟩ (semOf 0) ![0, 0, 0, 0] inb_S2x2x512x1024_S1x1x512x1024_0_0_0_0 (k0_off2 k) (k0_off2_inb i k h1)
    (k0_off3 (w ⟨2 * k.val, hk0⟩)) (chk_of _ (hw _)) ![0] inb_S2_S1_0
    (by rw [show (⟨2 * k.val, hk0⟩ : Fin 1024).val % 2 = 0 by show 2 * k.val % 2 = 0; omega])
    (by rw [k0_off2_eq]; show ![k.val, 0] = ![2 * k.val / 2, 0]; rw [show 2 * k.val / 2 = k.val by omega]) rfl (cell_eq _ _ 0 (by omega) rfl)) $$ [HY0 HD0 HB]
  · isplitl [HY0]; · iexact HY0
    isplitl [HD0]; · iexact HD0
    iexact HB
  iintro HB
  simp only [ret_bind']
  sl_exec
  have e1 : issue1_step.sl.r_1 c i arg1 h1 f1 k = w ⟨2 * k.val + 1, hk1⟩ := by
    rw [← hwd]; exact word_at c arg1 f1 ⟨2 * k.val + 1, hk1⟩ _ _ (k0_off4_eq k) _
  generalize hr1 : issue1_step.sl.r_1 c i arg1 h1 f1 k = r1 at e1
  subst e1
  iapply (wp_assume Variants.none (c : Thread nD τ) none Set.univ (show k0_chk2 i (w ⟨2 * k.val + 1, hk1⟩) from fun _ => chk_of _ (hw _)))
  iapply (issue_one c ys 0 w hw f ⟨2 * k.val + 1, hk1⟩ (semOf 0) ![0, 1, 0, 0] inb_S2x2x512x1024_S1x1x512x1024_0_1_0_0 (k0_off5 k) (k0_off5_inb i k h1)
    (k0_off6 (w ⟨2 * k.val + 1, hk1⟩)) (chk_of _ (hw _)) ![0] inb_S2_S1_0
    (by rw [show (⟨2 * k.val + 1, hk1⟩ : Fin 1024).val % 2 = 1 by show (2 * k.val + 1) % 2 = 1; omega])
    (by rw [k0_off5_eq]; show ![k.val, 0] = ![(2 * k.val + 1) / 2, 0]; rw [show (2 * k.val + 1) / 2 = k.val by omega]) rfl (cell_eq _ _ 0 (by omega) rfl)) $$ [HY1 HD1 HB]
  · isplitl [HY1]; · iexact HY1
    isplitl [HD1]; · iexact HD1
    iexact HB
  iintro HB
  simp only [ret_bind']
  sl_step
  isplitl [H1]; · iexact H1
  isplitl [HB]; · iexact HB
  isplitl [HYs]; · iexact HYs
  iexact HDs

theorem issue2_step (h2 : k0_cond2 i = 1#1) (hb : b < 2) (eb : b = ((i 0).val + 1) % 2) (f1 : Buf (Elt F) (arg2.view.loc (c : Thread nD τ))) (hwd : ∀ j, wd c arg2 f1 j = w j)
    (k : Fin k0_t2_loop.trips) (acc : Unit) :
    issueAt c ys b w hw f arg2 f1 (semOf b) k acc ⊢ wp frame (wpE (defs₀ (F := F)) Variants.none (c : Thread nD τ) none) Set.univ
      (k0_t2_body i arg1 harg1 arg2 harg2 arg3 harg3 arg4 harg4 (Memref.whole main_arg3) h5 arg6 harg6 (Memref.whole cc0_scratch0) h7 cc0_scratch1 h2 k acc)
      (issueAt c ys b w hw f arg2 f1 (semOf b) (k.val + 1)) := by
  have hk : k.val < 512 := by have := k.isLt; have := trips2; omega
  have hk0 : 2 * k.val < 1024 := by omega
  have hk1 : 2 * k.val + 1 < 1024 := by omega
  unfold issueAt
  rw [Ring.bigSep_rangeSet_head (Φ := yOwn c ys b w) (lo := 2 * k.val) (by omega) (by omega),
    Ring.bigSep_rangeSet_head (Φ := yOwn c ys b w) (lo := 2 * k.val + 1) (by omega) (by omega),
    Ring.bigSep_rangeSet_head (Φ := fun t => bOwn c b t f) (lo := 2 * k.val) (by omega) (by omega),
    Ring.bigSep_rangeSet_head (Φ := fun t => bOwn c b t f) (lo := 2 * k.val + 1) (by omega) (by omega),
    show 2 * (k.val + 1) = 2 * k.val + 1 + 1 by omega]
  iintro ⟨H1, HB, ⟨HY0, HY1, HYs⟩, HD0, HD1, HDs⟩
  dsimp only [k0_t2_body]
  sl_exec
  have e0 : issue2_step.sl.r c i arg2 h2 f1 k = w ⟨2 * k.val, hk0⟩ := by
    rw [← hwd]; exact word_at c arg2 f1 ⟨2 * k.val, hk0⟩ _ _ (k0_off7_eq k) _
  generalize hr0 : issue2_step.sl.r c i arg2 h2 f1 k = r0 at e0
  subst e0
  iapply (wp_assume Variants.none (c : Thread nD τ) none Set.univ (show k0_chk3 i (w ⟨2 * k.val, hk0⟩) from fun _ => chk_of _ (hw _)))
  iapply (issue_one c ys b w hw f ⟨2 * k.val, hk0⟩ (semOf b) (k0_off9 i) (k0_off9_inb i h2) (k0_off10 k) (k0_off10_inb i k h2)
    (k0_off11 (w ⟨2 * k.val, hk0⟩)) (chk_of _ (hw _)) (k0_off8 i) (k0_off8_inb i h2)
    (by rw [off9_eq, ← eb, show (⟨2 * k.val, hk0⟩ : Fin 1024).val % 2 = 0 by show 2 * k.val % 2 = 0; omega])
    (by rw [k0_off10_eq]; show ![k.val, 0] = ![2 * k.val / 2, 0]; rw [show 2 * k.val / 2 = k.val by omega]) rfl (cell_eq _ _ b hb ((off8_eq i).trans (by rw [eb])))) $$ [HY0 HD0 HB]
  · isplitl [HY0]; · iexact HY0
    isplitl [HD0]; · iexact HD0
    iexact HB
  iintro HB
  simp only [ret_bind']
  sl_exec
  have e1 : issue2_step.sl.r_1 c i arg2 h2 f1 k = w ⟨2 * k.val + 1, hk1⟩ := by
    rw [← hwd]; exact word_at c arg2 f1 ⟨2 * k.val + 1, hk1⟩ _ _ (k0_off12_eq k) _
  generalize hr1 : issue2_step.sl.r_1 c i arg2 h2 f1 k = r1 at e1
  subst e1
  iapply (wp_assume Variants.none (c : Thread nD τ) none Set.univ (show k0_chk4 i (w ⟨2 * k.val + 1, hk1⟩) from fun _ => chk_of _ (hw _)))
  iapply (issue_one c ys b w hw f ⟨2 * k.val + 1, hk1⟩ (semOf b) (k0_off14 i) (k0_off14_inb i h2) (k0_off15 k) (k0_off15_inb i k h2)
    (k0_off16 (w ⟨2 * k.val + 1, hk1⟩)) (chk_of _ (hw _)) (k0_off13 i) (k0_off13_inb i h2)
    (by rw [off14_eq, ← eb, show (⟨2 * k.val + 1, hk1⟩ : Fin 1024).val % 2 = 1 by show (2 * k.val + 1) % 2 = 1; omega])
    (by rw [k0_off15_eq]; show ![k.val, 0] = ![(2 * k.val + 1) / 2, 0]; rw [show (2 * k.val + 1) / 2 = k.val by omega]) rfl (cell_eq _ _ b hb ((off13_eq i).trans (by rw [eb])))) $$ [HY1 HD1 HB]
  · isplitl [HY1]; · iexact HY1
    isplitl [HD1]; · iexact HD1
    iexact HB
  iintro HB
  simp only [ret_bind']
  sl_step
  isplitl [H1]; · iexact H1
  isplitl [HB]; · iexact HB
  isplitl [HYs]; · iexact HYs
  iexact HDs

/-- Before trip `k` of the drain: the batch with `2k` rows' credit consumed, or, after the last, every delivery. -/
def drainAt (sm : SemLoc sig) (k : ℕ) (_ : Unit) : sProp 𝕄 :=
  iprop((∃ W, owes (c : Thread nD τ) 0 W)
    ∗ (if k < k0_t3_loop.trips then batch c ys b w hw sm 1024 (2 * k * NN)
       else iprop(semVal ((c : Thread nD τ), sm) 0 ∗ bigSep Finset.univ (deliv c ys b w hw))))

theorem credit_lt (a n : ℕ) (h : a + 1 < n) : a * NN + NN < NN * n := by
  have : (a + 1) * NN < n * NN := (Nat.mul_lt_mul_right NN_pos).mpr h
  rw [Nat.mul_comm NN n]; rw [Nat.succ_mul] at this; exact this

theorem drain_step (k : Fin k0_t3_loop.trips) (acc : Unit) :
    drainAt c ys b w hw (.dma (cell (k0_off17 i) (k0_off17_inb i))) k acc ⊢ wp frame (wpE (defs₀ (F := F)) Variants.none (c : Thread nD τ) none) Set.univ
      (k0_t3_body i arg1 harg1 arg2 harg2 arg3 harg3 arg4 harg4 (Memref.whole main_arg3) h5 arg6 harg6 (Memref.whole cc0_scratch0) h7 cc0_scratch1 k acc)
      (drainAt c ys b w hw (.dma (cell (k0_off17 i) (k0_off17_inb i))) (k.val + 1)) := by
  have hk : k.val < k0_t3_loop.trips := k.isLt
  have ht3 := trips3
  unfold drainAt
  simp only [if_pos hk]
  rcases Nat.lt_or_ge (k.val + 1) k0_t3_loop.trips with hc | hc
  · simp only [if_pos hc]
    iintro ⟨⟨%W, HO⟩, HB⟩
    dsimp only [k0_t3_body]
    iapply (Transfers.wp_waitBatch (countersEmb (U := Pipeline.UD sig nD τ)) Variants.none (c : Thread nD τ) none () (N := NN) rfl
      (D := deliv c ys b w hw) (u := 2 * k.val * NN) (credit_lt _ _ (by omega))) $$ [HB HO]
    · isplitl [HB]; · iexact HB
      iexact HO
    iintro ⟨HB, HO⟩
    simp only [ret_bind']
    iapply (Transfers.wp_waitBatch (countersEmb (U := Pipeline.UD sig nD τ)) Variants.none (c : Thread nD τ) none () (N := NN) rfl
      (D := deliv c ys b w hw) (u := 2 * k.val * NN + NN) (by rw [← Nat.succ_mul]; exact credit_lt _ _ (by omega))) $$ [HB HO]
    · isplitl [HB]; · iexact HB
      iexact HO
    iintro ⟨HB, HO⟩
    simp only [ret_bind']
    sl_step
    isplitl [HO]; · iexists _; iexact HO
    rw [show 2 * (k.val + 1) * NN = 2 * k.val * NN + NN + NN from by
      show (2 * k.val + 1 + 1) * NN = _
      rw [Nat.succ_mul, Nat.succ_mul]]
    iexact HB
  · simp only [if_neg (Nat.not_lt.mpr hc)]
    iintro ⟨⟨%W, HO⟩, HB⟩
    dsimp only [k0_t3_body]
    iapply (Transfers.wp_waitBatch (countersEmb (U := Pipeline.UD sig nD τ)) Variants.none (c : Thread nD τ) none () (N := NN) rfl
      (D := deliv c ys b w hw) (u := 2 * k.val * NN) (credit_lt _ _ (by omega))) $$ [HB HO]
    · isplitl [HB]; · iexact HB
      iexact HO
    iintro ⟨HB, HO⟩
    simp only [ret_bind']
    iapply (Transfers.wp_waitBatchLast (countersEmb (U := Pipeline.UD sig nD τ)) Variants.none (c : Thread nD τ) none () (N := NN) rfl NN_pos
      (D := deliv c ys b w hw) (u := 2 * k.val * NN + NN) (by
        rw [← Nat.succ_mul, ← Nat.succ_mul, Nat.mul_comm]; congr 1; omega)) $$ [HB HO]
    · isplitl [HB]; · iexact HB
      iexact HO
    iintro ⟨HD, HS, HO⟩
    simp only [ret_bind']
    sl_step
    isplitl [HO]; · iexists _; iexact HO
    isplitl [HS]; · iexact HS
    iexact HD

/-! ## A slot and its rows -/

section Sets
variable (hinj : ∀ j j', (w j).toNat = (w j').toNat → j = j')

theorem rowSet_disjoint (t t' : Fin 1024) (hne : t ≠ t') :
    Disjoint (rowSet b (t.val % 2) (t.val / 2)) (rowSet b (t'.val % 2) (t'.val / 2)) := by
  rw [Finset.disjoint_left]
  intro i hi hi'
  rw [mem_rowSet] at hi hi'
  exact hne (Fin.ext (by omega))

theorem rowSet_cover : Finset.univ.biUnion (fun t : Fin 1024 => rowSet b (t.val % 2) (t.val / 2)) = slotSet b := by
  ext i
  refine Finset.mem_biUnion.trans ?_
  rw [mem_slotSet]
  constructor
  · rintro ⟨t, -, h⟩; rw [mem_rowSet] at h; exact h.1
  · intro h
    have h2 : (i 2).val < 512 := (i 2).isLt
    have h1 : (i 1).val < 2 := (i 1).isLt
    exact ⟨⟨2 * (i 2).val + (i 1).val, by omega⟩, Finset.mem_univ _, (mem_rowSet _ _ _ i).mpr ⟨h, by show _ = (2 * (i 2).val + (i 1).val) % 2; omega,
      by show _ = (2 * (i 2).val + (i 1).val) / 2; omega⟩⟩

theorem slot_eq (g : S2x2x512x1024.Idx → Elt F .f32) :
    (BL c ↦[slotSet b]{fullShare} g : sProp 𝕄) = bigSep Finset.univ (fun t => bOwn c b t g) :=
  Ring.pointsTo_sub_blocks (ℓ := BL c) (fun t : Fin 1024 => rowSet b (t.val % 2) (t.val / 2)) (rowSet_disjoint b) (slotSet b) (rowSet_cover b) g

/-- The rows the positions name. -/
def named : Finset S49152x1024.Idx := Finset.univ.biUnion fun t : Fin 1024 => yRow (w t).toNat

include hinj in
theorem yRow_disjoint (t t' : Fin 1024) (hne : t ≠ t') : Disjoint (yRow (w t).toNat) (yRow (w t').toNat) := by
  rw [Finset.disjoint_left]
  intro i hi hi'
  rw [mem_yRow] at hi hi'
  exact hne (hinj _ _ (hi.symm.trans hi'))

include hinj in
theorem named_eq : (YL c ↦[named w]{hs b} ys : sProp 𝕄) = bigSep Finset.univ (yOwn c ys b w) :=
  Ring.pointsTo_sub_blocks (ℓ := YL c) (fun t : Fin 1024 => yRow (w t).toNat) (yRow_disjoint w hinj) (named w) rfl ys

theorem named_split : (YL c ↦{hs b} ys : sProp 𝕄)
    ⊣⊢ iprop((YL c ↦[named w]{hs b} ys) ∗ YL c ↦[Finset.univ \ named w]{hs b} ys) :=
  pointsTo_split_subset (Finset.subset_univ (named w))

/-- A slot at rest, its copies all in flight, and its rows landed. -/
def Free : sProp 𝕄 := iprop(∃ f, (BL c ↦[slotSet b]{fullShare} f) ∗ semVal ((c : Thread nD τ), semOf b) 0 ∗ (YL c ↦{hs b} ys))
def Fly : sProp 𝕄 := iprop(batch c ys b w hw (semOf b) 1024 0 ∗ (YL c ↦[Finset.univ \ named w]{hs b} ys))
def Landed : sProp 𝕄 :=
  iprop((BL c ↦[slotSet b]{fullShare} gath w hw ys) ∗ semVal ((c : Thread nD τ), semOf b) 0 ∗ (YL c ↦{hs b} ys))

theorem Free_of_Landed : Landed c ys b w hw ⊢ Free c ys b := by
  unfold Free Landed
  iintro H
  iexists _; iexact H

include hinj in
theorem issue1_run (h1 : k0_cond1 i = 1#1) (f1 : Buf (Elt F) (arg1.view.loc (c : Thread nD τ))) (hwd : ∀ j, wd c arg1 f1 j = w j)
    {A : Type} (K : Unit → Prog (TpuEff nD τ sig (Elt F) Λ₀ .tc) A) (Q : A → sProp 𝕄) :
    iprop((arg1.view.loc (c : Thread nD τ) ↦[arg1.view.set]{fullShare} f1) ∗ Free c ys 0)
      ⊢ iprop((∀ acc, ((arg1.view.loc (c : Thread nD τ) ↦[arg1.view.set]{fullShare} f1) ∗ Fly c ys 0 w hw)
          -∗ wp frame (wpE (defs₀ (F := F)) Variants.none (c : Thread nD τ) none) Set.univ (K acc) Q)
        -∗ wp frame (wpE (defs₀ (F := F)) Variants.none (c : Thread nD τ) none) Set.univ
          (Scf.Loop.for k0_t1_loop (k0_t1_ok i h1) ⟨⟩
            (k0_t1_body i arg1 harg1 arg2 harg2 arg3 harg3 arg4 harg4 (Memref.whole main_arg3) h5 arg6 harg6 (Memref.whole cc0_scratch0) h7 cc0_scratch1 h1) >>= K) Q) := by
  unfold Free Fly
  iintro ⟨H1, ⟨%f, HD, HC, HY⟩⟩ HK
  imod (Transfers.batch_alloc' (Lvl := ℕ) (countersEmb (U := Pipeline.UD sig nD τ)) (c : Thread nD τ) () NN
    (deliv c ys 0 w hw) (sm := semOf 0) (E := Set.univ)) $$ HC with HB
  ihave HY := (named_split c ys 0 w).1 $$ HY
  icases HY with ⟨HN, HX⟩
  ihave HN := (Entails.of_eq (named_eq c ys 0 w hinj)) $$ HN
  ihave HD := (Entails.of_eq (slot_eq c 0 f)) $$ HD
  iapply (Scf.wp_for_bind frame (wpE (defs₀ (F := F)) Variants.none (c : Thread nD τ) none) Set.univ _ _ _ (k0_t1_ok i h1) ⟨⟩ _
    (issueAt c ys 0 w hw f arg1 f1 (semOf 0))
    (issue1_step c ys w hw f i arg1 harg1 arg2 harg2 arg3 harg3 arg4 harg4 h5 arg6 harg6 h7 h1 f1 hwd)) $$ [H1 HB HN HD]
  · unfold issueAt
    rw [show 2 * 0 = 0 from rfl, Ring.rangeSet_univ]
    isplitl [H1]; · iexact H1
    isplitl [HB]; · iexact HB
    isplitl [HN]; · iexact HN
    iexact HD
  iintro %acc HI
  ihave HI := (show issueAt c ys 0 w hw f arg1 f1 (semOf 0) k0_t1_loop.trips acc
      ⊢ iprop((arg1.view.loc (c : Thread nD τ) ↦[arg1.view.set]{fullShare} f1) ∗ batch c ys 0 w hw (semOf 0) 1024 0) from by
    unfold issueAt
    rw [Ring.bigSep_rangeSet_empty (by rw [trips1]), Ring.bigSep_rangeSet_empty (by rw [trips1])]
    rw [show 2 * k0_t1_loop.trips = 1024 by rw [trips1]]
    iintro ⟨H1, HB, -⟩
    isplitl [H1] <;> iassumption) $$ HI
  icases HI with ⟨H1, HB⟩
  iapply HK
  isplitl [H1]; · iexact H1
  isplitl [HB]; · iexact HB
  iexact HX

include hinj in
theorem issue2_run (h2 : k0_cond2 i = 1#1) (hb : b < 2) (eb : b = ((i 0).val + 1) % 2) (f1 : Buf (Elt F) (arg2.view.loc (c : Thread nD τ))) (hwd : ∀ j, wd c arg2 f1 j = w j)
    {A : Type} (K : Unit → Prog (TpuEff nD τ sig (Elt F) Λ₀ .tc) A) (Q : A → sProp 𝕄) :
    iprop((arg2.view.loc (c : Thread nD τ) ↦[arg2.view.set]{fullShare} f1) ∗ Free c ys b)
      ⊢ iprop((∀ acc, ((arg2.view.loc (c : Thread nD τ) ↦[arg2.view.set]{fullShare} f1) ∗ Fly c ys b w hw)
          -∗ wp frame (wpE (defs₀ (F := F)) Variants.none (c : Thread nD τ) none) Set.univ (K acc) Q)
        -∗ wp frame (wpE (defs₀ (F := F)) Variants.none (c : Thread nD τ) none) Set.univ
          (Scf.Loop.for k0_t2_loop (k0_t2_ok i h2) ⟨⟩
            (k0_t2_body i arg1 harg1 arg2 harg2 arg3 harg3 arg4 harg4 (Memref.whole main_arg3) h5 arg6 harg6 (Memref.whole cc0_scratch0) h7 cc0_scratch1 h2) >>= K) Q) := by
  unfold Free Fly
  iintro ⟨H1, ⟨%f, HD, HC, HY⟩⟩ HK
  imod (Transfers.batch_alloc' (Lvl := ℕ) (countersEmb (U := Pipeline.UD sig nD τ)) (c : Thread nD τ) () NN
    (deliv c ys b w hw) (sm := semOf b) (E := Set.univ)) $$ HC with HB
  ihave HY := (named_split c ys b w).1 $$ HY
  icases HY with ⟨HN, HX⟩
  ihave HN := (Entails.of_eq (named_eq c ys b w hinj)) $$ HN
  ihave HD := (Entails.of_eq (slot_eq c b f)) $$ HD
  iapply (Scf.wp_for_bind frame (wpE (defs₀ (F := F)) Variants.none (c : Thread nD τ) none) Set.univ _ _ _ (k0_t2_ok i h2) ⟨⟩ _
    (issueAt c ys b w hw f arg2 f1 (semOf b))
    (issue2_step c ys b w hw f i arg1 harg1 arg2 harg2 arg3 harg3 arg4 harg4 h5 arg6 harg6 h7 h2 hb eb f1 hwd)) $$ [H1 HB HN HD]
  · unfold issueAt
    rw [show 2 * 0 = 0 from rfl, Ring.rangeSet_univ]
    isplitl [H1]; · iexact H1
    isplitl [HB]; · iexact HB
    isplitl [HN]; · iexact HN
    iexact HD
  iintro %acc HI
  ihave HI := (show issueAt c ys b w hw f arg2 f1 (semOf b) k0_t2_loop.trips acc
      ⊢ iprop((arg2.view.loc (c : Thread nD τ) ↦[arg2.view.set]{fullShare} f1) ∗ batch c ys b w hw (semOf b) 1024 0) from by
    unfold issueAt
    rw [Ring.bigSep_rangeSet_empty (by rw [trips2]), Ring.bigSep_rangeSet_empty (by rw [trips2])]
    rw [show 2 * k0_t2_loop.trips = 1024 by rw [trips2]]
    iintro ⟨H1, HB, -⟩
    isplitl [H1] <;> iassumption) $$ HI
  icases HI with ⟨H1, HB⟩
  iapply HK
  isplitl [H1]; · iexact H1
  isplitl [HB]; · iexact HB
  iexact HX

theorem delivs_eq : bigSep Finset.univ (deliv c ys b w hw)
    = iprop(bigSep Finset.univ (fun t => bOwn c b t (gath w hw ys)) ∗ bigSep Finset.univ (yOwn c ys b w)) := by
  unfold deliv
  rw [bigSep_sep']

include hinj in
theorem drain_run (hb : b < 2) (eb : b = (i 0).val % 2) {A : Type}
    (K : Unit → Prog (TpuEff nD τ sig (Elt F) Λ₀ .tc) A) (Q : A → sProp 𝕄) :
    iprop(Fly c ys b w hw ∗ (∃ W, owes (c : Thread nD τ) 0 W))
      ⊢ iprop((∀ acc, (Landed c ys b w hw ∗ (∃ W, owes (c : Thread nD τ) 0 W))
          -∗ wp frame (wpE (defs₀ (F := F)) Variants.none (c : Thread nD τ) none) Set.univ (K acc) Q)
        -∗ wp frame (wpE (defs₀ (F := F)) Variants.none (c : Thread nD τ) none) Set.univ
          (Scf.Loop.for k0_t3_loop k0_t3_ok ⟨⟩
            (k0_t3_body i arg1 harg1 arg2 harg2 arg3 harg3 arg4 harg4 (Memref.whole main_arg3) h5 arg6 harg6 (Memref.whole cc0_scratch0) h7 cc0_scratch1) >>= K) Q) := by
  unfold Fly Landed
  rw [← cell_eq (k0_off17 i) (k0_off17_inb i) b hb ((off17_eq i).trans (by rw [eb]))]
  iintro ⟨⟨HB, HX⟩, HO⟩ HK
  iapply (Scf.wp_for_bind frame (wpE (defs₀ (F := F)) Variants.none (c : Thread nD τ) none) Set.univ _ _ _ k0_t3_ok ⟨⟩ _
    (drainAt c ys b w hw (.dma (cell (k0_off17 i) (k0_off17_inb i))))
    (drain_step c ys b w hw i arg1 harg1 arg2 harg2 arg3 harg3 arg4 harg4 h5 arg6 harg6 h7)) $$ [HB HO]
  · unfold drainAt
    rw [if_pos (by rw [trips3]; omega)]
    isplitl [HO]; · iexact HO
    rw [show 2 * 0 * NN = 0 from Nat.zero_mul _]
    iexact HB
  iintro %acc HI
  ihave HI := (show drainAt c ys b w hw (.dma (cell (k0_off17 i) (k0_off17_inb i))) k0_t3_loop.trips acc
      ⊢ iprop((∃ W, owes (c : Thread nD τ) 0 W) ∗ semVal ((c : Thread nD τ), .dma (cell (k0_off17 i) (k0_off17_inb i))) 0
        ∗ bigSep Finset.univ (deliv c ys b w hw)) from by
    unfold drainAt
    rw [if_neg (Nat.lt_irrefl _)]) $$ HI
  icases HI with ⟨HO, HC, HD⟩
  ihave HD := (Entails.of_eq (delivs_eq c ys b w hw)) $$ HD
  icases HD with ⟨HD, HN⟩
  ihave HN := (Entails.of_eq (named_eq c ys b w hinj).symm) $$ HN
  ihave HD := (Entails.of_eq (slot_eq c b _).symm) $$ HD
  iapply HK
  isplitr [HO]; swap
  · iexact HO
  isplitl [HD]; · iexact HD
  isplitl [HC]; · iexact HC
  iapply (named_split c ys b w).2
  isplitl [HN] <;> iassumption

/-! ## The body -/

section Run
variable (b' : ℕ) (w' : Fin 1024 → BitVec 32) (hw' : ∀ t, (w' t).toNat < 49152) (hinj' : ∀ j j', (w' j).toNat = (w' j').toNat → j = j')
  (f1 : Buf (Elt F) (arg1.view.loc (c : Thread nD τ))) (f2 : Buf (Elt F) (arg2.view.loc (c : Thread nD τ)))
  (x : S512x1024.Idx → Elt F .f32) (wt : S512x128.Idx → Elt F .f32)

/-- Half `s` of the slot, as it is loaded. -/
def ring (s : Fin 2) : FVec F S1x1x512x1024 .f32 := fun j => gath w hw ys (ValueIdx.ix4 (n0 := 2) (n1 := 2) (n2 := 512) (n3 := 1024) 0 s (j 2) (j 3))

/-- A point's result. -/
def outv : FVec F S512x1024 .f32 :=
  k0_pay1 (k0_pay2 wt x (ring ys w hw 0))
    (k0_pay3 (ring ys w hw 1)) (k0_pay4 wt)

theorem load_sub (off : Fin 4 → ℕ) (hoff) (s : ℕ) (e : off = ![b, s, 0, 0]) :
    (Memref.whole cc0_scratch0).view.setOn (Rect.unit (s := S2x2x512x1024) off S1x1x512x1024.size hoff).toLoadRect.set ⊆ slotSet b := by
  subst e
  intro j hj
  obtain ⟨y, hy, e⟩ := Finset.mem_map.mp hj
  refine (mem_slotSet b j).mpr ?_
  rw [← e]
  have h := (Rect.mem_set_unit (s := S2x2x512x1024) (inb := hoff) (i := y)).mp hy 0
  have h0 : b ≤ (y 0).val ∧ (y 0).val < b + 1 := h
  show (y 0).val = b
  omega

theorem load_val (off : Fin 4 → ℕ) (hoff) (s : Fin 2) (e : off = ![b, s.val, 0, 0]) :
    View.readAt (Elt F) (Memref.whole cc0_scratch0).view (Rect.unit (s := S2x2x512x1024) off S1x1x512x1024.size hoff).toLoadRect (gath w hw ys)
      = ring ys w hw s := by
  subst e
  funext j
  show gath w hw ys _ = _
  have q := fun a => ValueKit.rect_emb_unit_val (s := S2x2x512x1024) _ S1x1x512x1024.size hoff j a
  have j1 : (j 1).val < 1 := (j 1).isLt
  unfold gath
  congr 1
  funext a; apply Fin.ext
  have e : ∀ u u' : Fin 1024, u.val = u'.val → (w u).toNat = (w u').toNat := fun u u' h => by rw [Fin.ext h]
  fin_cases a
  · refine e _ _ ?_
    refine (congrArg₂ (fun p q => 2 * p + q) (q 2) (q 1)).trans ?_
    show 2 * (0 + (j 2).val) + (s.val + (j 1).val) = 2 * (j 2).val + s.val
    omega
  · refine (q 3).trans ?_
    show 0 + (j 3).val = (j 3).val
    omega

include hinj in
set_option maxHeartbeats 4000000 in
/-- The drain and the four loads. -/
theorem tail_run (hb : b < 2) (eb : b = (i 0).val % 2) (Q : (Σ' (v26 : FVec F S512x1024 .f32) (v30 : FVec F S512x1024 .f32), FVec F S512x1024 .f32) → sProp 𝕄) :
    iprop(Fly c ys b w hw ∗ (∃ W, owes (c : Thread nD τ) 0 W)
        ∗ (arg3.view.loc (c : Thread nD τ) ↦[arg3.view.set]{fullShare} arg3.view.rep x)
        ∗ (arg4.view.loc (c : Thread nD τ) ↦[arg4.view.set]{fullShare} arg4.view.rep wt)
        ∗ (iprop(Landed c ys b w hw ∗ (∃ W, owes (c : Thread nD τ) 0 W)
          ∗ (arg3.view.loc (c : Thread nD τ) ↦[arg3.view.set]{fullShare} arg3.view.rep x)
          ∗ (arg4.view.loc (c : Thread nD τ) ↦[arg4.view.set]{fullShare} arg4.view.rep wt))
          -∗ Q ⟨k0_pay2 wt x (ring ys w hw 0),
            k0_pay3 (ring ys w hw 1), k0_pay4 wt⟩))
      ⊢ wp frame (wpE (defs₀ (F := F)) Variants.none (c : Thread nD τ) none) Set.univ (do
          Scf.Loop.for k0_t3_loop k0_t3_ok ⟨⟩ (k0_t3_body i arg1 harg1 arg2 harg2 arg3 harg3 arg4 harg4 (Memref.whole main_arg3) h5 arg6 harg6 (Memref.whole cc0_scratch0) h7 cc0_scratch1)
          let v18 : Vec F S512x128 .f32 ← Prog.lift (.load arg4 (Rect.unit (s := S512x128) ![0, 0] S512x128.size inb_S512x128_S512x128_0_0).toLoadRect (View.loadsAt_vmem h_S512x128))
          let v19 : Vec F S512x1024 .f32 ← Prog.lift (.load arg3 (Rect.unit (s := S512x1024) ![0, 0] S512x1024.size inb_S512x1024_S512x1024_0_0).toLoadRect (View.loadsAt_vmem h_S512x1024))
          let v22 : Vec F S1x1x512x1024 .f32 ← Prog.lift (.load (Memref.whole cc0_scratch0) (Rect.unit (s := S2x2x512x1024) (k0_off20 i) S1x1x512x1024.size (k0_off20_inb i)).toLoadRect (View.loadsAt_vmem h_S1x1x512x1024))
          let v29 : Vec F S1x1x512x1024 .f32 ← Prog.lift (.load (Memref.whole cc0_scratch0) (Rect.unit (s := S2x2x512x1024) (k0_off21 i) S1x1x512x1024.size (k0_off21_inb i)).toLoadRect (View.loadsAt_vmem h_S1x1x512x1024))
          pure ⟨k0_pay2 v18 v19 v22, k0_pay3 v29, k0_pay4 v18⟩) Q := by
  have e20 : k0_off20 i = ![b, (0 : Fin 2).val, 0, 0] := (off20_eq i).trans (by rw [eb]; rfl)
  have e21 : k0_off21 i = ![b, (1 : Fin 2).val, 0, 0] := (off21_eq i).trans (by rw [eb]; rfl)
  iintro ⟨HF, HO, H3, H4, HQ⟩
  iapply (drain_run c ys b w hw i arg1 harg1 arg2 harg2 arg3 harg3 arg4 harg4 h5 arg6 harg6 h7 hinj hb eb) $$ [HF HO]
  · isplitl [HF] <;> iassumption
  iintro %acc ⟨HL, HO⟩
  unfold Landed
  icases HL with ⟨HD, HC, HY⟩
  iapply (wp_load Variants.none (c : Thread nD τ) none Set.univ (View.setOn_subset_set _ _)) $$ H4
  iintro H4
  iapply (wp_load Variants.none (c : Thread nD τ) none Set.univ (View.setOn_subset_set _ _)) $$ H3
  iintro H3
  iapply (wp_load Variants.none (c : Thread nD τ) none Set.univ (load_sub b _ (k0_off20_inb i) _ e20)) $$ HD
  iintro HD
  iapply (wp_load Variants.none (c : Thread nD τ) none Set.univ (load_sub b _ (k0_off21_inb i) _ e21)) $$ HD
  iintro HD
  rw [View.readAt_rep_full (Val := Elt F) arg3.view, View.readAt_rep_full (Val := Elt F) arg4.view, load_val ys b w hw _ _ 0 e20, load_val ys b w hw _ _ 1 e21]
  rw [ret_bind']
  sl_step
  iapply HQ
  isplitr [HO H3 H4]
  · isplitl [HD]; · iexact HD
    isplitl [HC]; · iexact HC
    iexact HY
  isplitl [HO]; · iexact HO
  isplitl [H3] <;> iassumption

/-- A point's blocks, as they stay. -/
def Ins : sProp 𝕄 :=
  iprop((arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} arg3.view.rep x)
    ∗ (arg4.view.loc (c : Thread nD τ) ↦[arg4.view.set]{fullShare} arg4.view.rep wt))

include hinj in
set_option maxHeartbeats 4000000 in
/-- After the issues: the drain, the loads, and the store. -/
theorem rest_run (hb : b < 2) (eb : b = (i 0).val % 2) (Y : sProp 𝕄) (K : PUnit → sProp 𝕄) :
    iprop(Ins c arg1 arg2 arg3 arg4 f1 f2 x wt ∗ (∃ d, owns (c : Thread nD τ) arg6 fullShare d) ∗ Fly c ys b w hw ∗ (∃ W, owes (c : Thread nD τ) 0 W) ∗ Y
        ∗ (iprop(Ins c arg1 arg2 arg3 arg4 f1 f2 x wt ∗ owns (c : Thread nD τ) arg6 fullShare (outv ys w hw x wt) ∗ Y ∗ Free c ys b
            ∗ (∃ W, owes (c : Thread nD τ) 0 W)) -∗ K ⟨⟩))
      ⊢ wp frame (wpE (defs₀ (F := F)) Variants.none (c : Thread nD τ) none) Set.univ (do
          Scf.Loop.for k0_t3_loop k0_t3_ok ⟨⟩ (k0_t3_body i arg1 harg1 arg2 harg2 arg3 harg3 arg4 harg4 (Memref.whole main_arg3) h5 arg6 harg6 (Memref.whole cc0_scratch0) h7 cc0_scratch1)
          let v18 : Vec F S512x128 .f32 ← Prog.lift (.load arg4 (Rect.unit (s := S512x128) ![0, 0] S512x128.size inb_S512x128_S512x128_0_0).toLoadRect (View.loadsAt_vmem h_S512x128))
          let v19 : Vec F S512x1024 .f32 ← Prog.lift (.load arg3 (Rect.unit (s := S512x1024) ![0, 0] S512x1024.size inb_S512x1024_S512x1024_0_0).toLoadRect (View.loadsAt_vmem h_S512x1024))
          let v22 : Vec F S1x1x512x1024 .f32 ← Prog.lift (.load (Memref.whole cc0_scratch0) (Rect.unit (s := S2x2x512x1024) (k0_off20 i) S1x1x512x1024.size (k0_off20_inb i)).toLoadRect (View.loadsAt_vmem h_S1x1x512x1024))
          let v29 : Vec F S1x1x512x1024 .f32 ← Prog.lift (.load (Memref.whole cc0_scratch0) (Rect.unit (s := S2x2x512x1024) (k0_off21 i) S1x1x512x1024.size (k0_off21_inb i)).toLoadRect (View.loadsAt_vmem h_S1x1x512x1024))
          pure (f := Prog (TpuEff nD τ sig (Elt F) Λ₀ .tc)) (⟨k0_pay2 v18 v19 v22, k0_pay3 v29, k0_pay4 v18⟩ : (Σ' (v26 : FVec F S512x1024 .f32) (v30 : FVec F S512x1024 .f32), FVec F S512x1024 .f32)))
          (fun r => wp frame (wpE (defs₀ (F := F)) Variants.none (c : Thread nD τ) none) Set.univ (do
            let _ ← Prog.lift (.load arg6 (Rect.unit (s := S512x1024) ![0, 0] S512x1024.size inb_S512x1024_S512x1024_0_0).toLoadRect (View.loadsAt_vmem h_S512x1024))
            Prog.lift (.store arg6 (Rect.unit (s := S512x1024) ![0, 0] S512x1024.size inb_S512x1024_S512x1024_0_0) (k0_pay1 r.fst r.2.fst r.2.snd) Finset.univ (View.stores_vmem_bits_univ h_S512x1024 rfl) (.inl rfl))
            pure (PUnit.unit : PUnit)) K) := by
  unfold Ins owns
  iintro ⟨⟨H1, H2, H3, H4⟩, ⟨%d, %f6, -, H6⟩, HA, HO, HY, HK⟩
  iapply (tail_run c ys b w hw i arg1 harg1 arg2 harg2 arg3 harg3 arg4 harg4 h5 arg6 harg6 h7 hinj x wt hb eb)
  isplitl [HA]; · iexact HA
  isplitl [HO]; · iexact HO
  isplitl [H3]; · iexact H3
  isplitl [H4]; · iexact H4
  iintro ⟨HL, HO, H3, H4⟩
  sl_exec!
  sl_step
  iapply HK
  isplitl [H1 H2 H3 H4]
  · isplitl [H1]; · iexact H1
    isplitl [H2]; · iexact H2
    isplitl [H3] <;> iassumption
  isplitl [H6]
  · iexists _; isplitr; swap
    · iexact H6
    · ipureintro
      exact View.read_writes_full (Val := Elt F) arg6.view _ _ _ _
  isplitl [HY]; · iexact HY
  isplitl [HL]; · iapply (Free_of_Landed c ys b w hw); iexact HL
  iexact HO

include hinj hinj' in
set_option maxHeartbeats 4000000 in
theorem body_run (hb : b < 2) (eb : b = (i 0).val % 2) (hb' : b' < 2) (eb' : b' = ((i 0).val + 1) % 2)
    (hwd : ∀ j, wd c arg1 f1 j = w j) (hwd' : k0_cond2 i = 1#1 → ∀ j, wd c arg2 f2 j = w' j) (h1b : k0_cond1 i = 1#1 → b = 0) (K : PUnit → sProp 𝕄) :
    iprop(Ins c arg1 arg2 arg3 arg4 f1 f2 x wt ∗ (∃ d, owns (c : Thread nD τ) arg6 fullShare d)
        ∗ (if k0_cond1 i = 1#1 then Free c ys b else Fly c ys b w hw) ∗ Free c ys b' ∗ (∃ W, owes (c : Thread nD τ) 0 W)
        ∗ (iprop(Ins c arg1 arg2 arg3 arg4 f1 f2 x wt ∗ owns (c : Thread nD τ) arg6 fullShare (outv ys w hw x wt)
          ∗ (if k0_cond2 i = 1#1 then Fly c ys b' w' hw' else Free c ys b') ∗ Free c ys b ∗ (∃ W, owes (c : Thread nD τ) 0 W)) -∗ K ⟨⟩))
      ⊢ wp frame (wpE (defs₀ (F := F)) Variants.none (c : Thread nD τ) none) Set.univ
        (cc0_combine (F := F) i arg1 harg1 arg2 harg2 arg3 harg3 arg4 harg4 (Memref.whole main_arg3) h5 arg6 harg6 (Memref.whole cc0_scratch0) h7 cc0_scratch1) K := by
  rw [cc0_combine_eq_skeleton]
  unfold cc0_combine_skel
  rw [k0_part1_eq_skeleton]
  unfold k0_part1_skel
  have go1 : ∀ (h1 : k0_cond1 i = 1#1) {A : Type} (P : Unit → Prog (TpuEff nD τ sig (Elt F) Λ₀ .tc) A) (Q : A → sProp 𝕄),
      iprop(Ins c arg1 arg2 arg3 arg4 f1 f2 x wt ∗ Free c ys b)
      ⊢ iprop((∀ acc, (Ins c arg1 arg2 arg3 arg4 f1 f2 x wt ∗ Fly c ys b w hw)
          -∗ wp frame (wpE (defs₀ (F := F)) Variants.none (c : Thread nD τ) none) Set.univ (P acc) Q)
        -∗ wp frame (wpE (defs₀ (F := F)) Variants.none (c : Thread nD τ) none) Set.univ
          (Scf.Loop.for k0_t1_loop (k0_t1_ok i h1) ⟨⟩
            (k0_t1_body i arg1 harg1 arg2 harg2 arg3 harg3 arg4 harg4 (Memref.whole main_arg3) h5 arg6 harg6 (Memref.whole cc0_scratch0) h7 cc0_scratch1 h1) >>= P) Q) := by
    intro h1 A P Q
    obtain rfl := h1b h1
    unfold Ins
    iintro ⟨⟨H1, H2, H3, H4⟩, HA⟩ HK
    iapply (issue1_run c ys w hw i arg1 harg1 arg2 harg2 arg3 harg3 arg4 harg4 h5 arg6 harg6 h7 hinj h1 f1 hwd P Q) $$ [H1 HA]
    · isplitl [H1] <;> iassumption
    iintro %acc ⟨H1, HA⟩
    iapply HK
    isplitl [H1 H2 H3 H4]; swap
    · iexact HA
    isplitl [H1]; · iexact H1
    isplitl [H2]; · iexact H2
    isplitl [H3] <;> iassumption
  have go2 : ∀ (h2 : k0_cond2 i = 1#1) {A : Type} (P : Unit → Prog (TpuEff nD τ sig (Elt F) Λ₀ .tc) A) (Q : A → sProp 𝕄),
      iprop(Ins c arg1 arg2 arg3 arg4 f1 f2 x wt ∗ Free c ys b')
      ⊢ iprop((∀ acc, (Ins c arg1 arg2 arg3 arg4 f1 f2 x wt ∗ Fly c ys b' w' hw')
          -∗ wp frame (wpE (defs₀ (F := F)) Variants.none (c : Thread nD τ) none) Set.univ (P acc) Q)
        -∗ wp frame (wpE (defs₀ (F := F)) Variants.none (c : Thread nD τ) none) Set.univ
          (Scf.Loop.for k0_t2_loop (k0_t2_ok i h2) ⟨⟩
            (k0_t2_body i arg1 harg1 arg2 harg2 arg3 harg3 arg4 harg4 (Memref.whole main_arg3) h5 arg6 harg6 (Memref.whole cc0_scratch0) h7 cc0_scratch1 h2) >>= P) Q) := by
    intro h2 A P Q
    unfold Ins
    iintro ⟨⟨H1, H2, H3, H4⟩, HA⟩ HK
    iapply (issue2_run c ys b' w' hw' i arg1 harg1 arg2 harg2 arg3 harg3 arg4 harg4 h5 arg6 harg6 h7 hinj' h2 hb' eb' f2 (hwd' h2) P Q) $$ [H2 HA]
    · isplitl [H2] <;> iassumption
    iintro %acc ⟨H2, HA⟩
    iapply HK
    isplitl [H1 H2 H3 H4]; swap
    · iexact HA
    isplitl [H1]; · iexact H1
    isplitl [H2]; · iexact H2
    isplitl [H3] <;> iassumption
  have rest := fun Y => rest_run c ys b w hw i arg1 harg1 arg2 harg2 arg3 harg3 arg4 harg4 h5 arg6 harg6 h7 hinj f1 f2 x wt hb eb Y K
  by_cases h1 : k0_cond1 i = 1#1 <;> by_cases h2 : k0_cond2 i = 1#1
  · simp only [dif_pos h1, dif_pos h2, if_pos h1, if_pos h2]
    rw [wp_bind]
    iintro ⟨HI, H6, HA, HB, HO, HK⟩
    iapply (go1 h1) $$ [HI HA]
    · isplitl [HI] <;> iassumption
    iintro %acc ⟨HI, HA⟩
    iapply (go2 h2) $$ [HI HB]
    · isplitl [HI] <;> iassumption
    iintro %acc ⟨HI, HB⟩
    iapply (rest (Fly c ys b' w' hw'))
    isplitl [HI]; · iexact HI
    isplitl [H6]; · iexact H6
    isplitl [HA]; · iexact HA
    isplitl [HO]; · iexact HO
    isplitl [HB]; · iexact HB
    iexact HK
  · simp only [dif_pos h1, dif_neg h2, if_pos h1, if_neg h2]
    rw [wp_bind]
    iintro ⟨HI, H6, HA, HB, HO, HK⟩
    iapply (go1 h1) $$ [HI HA]
    · isplitl [HI] <;> iassumption
    iintro %acc ⟨HI, HA⟩
    iapply (rest (Free c ys b'))
    isplitl [HI]; · iexact HI
    isplitl [H6]; · iexact H6
    isplitl [HA]; · iexact HA
    isplitl [HO]; · iexact HO
    isplitl [HB]; · iexact HB
    iexact HK
  · simp only [dif_neg h1, dif_pos h2, if_neg h1, if_pos h2]
    rw [wp_bind]
    iintro ⟨HI, H6, HA, HB, HO, HK⟩
    iapply (go2 h2) $$ [HI HB]
    · isplitl [HI] <;> iassumption
    iintro %acc ⟨HI, HB⟩
    iapply (rest (Fly c ys b' w' hw'))
    isplitl [HI]; · iexact HI
    isplitl [H6]; · iexact H6
    isplitl [HA]; · iexact HA
    isplitl [HO]; · iexact HO
    isplitl [HB]; · iexact HB
    iexact HK
  · simp only [dif_neg h1, dif_neg h2, if_neg h1, if_neg h2]
    rw [wp_bind]
    iintro ⟨HI, H6, HA, HB, HO, HK⟩
    iapply (rest (Free c ys b'))
    isplitl [HI]; · iexact HI
    isplitl [H6]; · iexact H6
    isplitl [HA]; · iexact HA
    isplitl [HO]; · iexact HO
    isplitl [HB]; · iexact HB
    iexact HK

end Run

end Sets

end Loops

end Cert.Kernel3Ideal.Hand

end
-- ==== Proof.CRun.lean ====
/- The combine program's run, over any value instance: the launch around the body of `CBody.lean`, the rows of a block in
   flight from the point before it to its own. -/
module

public import proofs.«01_k».proof.Proof.CBody
public import Idealize.ShloMosaic.Lib.Pipeline.TableIdle

@[expose] public section

set_option Elab.async false

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The points -/

theorem cfg0_N : cfg0.N = 32 := by decide
theorem coord : ∀ t : Fin cfg0.N, (grid0.coords t 0).val = t.val := by decide +kernel
theorem cond1_iff : ∀ t : Fin cfg0.N, k0_cond1 (grid0.coords t) = 1#1 ↔ t.val = 0 := by decide +kernel
theorem cond2_iff : ∀ t : Fin cfg0.N, k0_cond2 (grid0.coords t) = 1#1 ↔ t.val + 1 < 32 := by decide +kernel
theorem index0 : ∀ t : Fin cfg0.N, win0_0.index t = ![t.val, 0, 0] := by decide +kernel
theorem index1 : ∀ t : Fin cfg0.N, win0_1.index t = ![min (t.val + 1) 31, 0, 0] := by decide +kernel

/-- The positions point `t` reads; the rows; and the point after `t`. -/
def words (c : Dev nD) (t : Fin cfg0.N) : Fin 1024 → BitVec 32 := fun j => iblk m c 0 t (ValueIdx.ix3 (n0 := 1) (n1 := 1) (n2 := 1024) 0 0 j)
def rows (c : Dev nD) : S49152x1024.Idx → Elt F .f32 := V m c main_arg3
def nxt (t : Fin cfg0.N) : Fin cfg0.N := ⟨min (t.val + 1) 31, by have := cfg0_N; omega⟩

theorem words_eq (c : Dev nD) (t : Fin cfg0.N) (j : Fin 1024) :
    words m c t j = V m c main_v45 (ValueIdx.ix3 (n0 := 32) (n1 := 1) (n2 := 1024) ⟨t.val, by have := t.isLt; have := cfg0_N; omega⟩ 0 j) := by
  unfold words iblk
  show V m c main_v45 _ = V m c main_v45 _
  refine congrArg (V m c main_v45) (funext fun a => Fin.ext ?_)
  match a with
  | ⟨0, _⟩ => blk_simp [index0]
  | ⟨1, _⟩ => blk_simp [index0]
  | ⟨2, _⟩ => blk_simp [index0]

theorem ahead_eq (c : Dev nD) (t : Fin cfg0.N) (j : Fin 1024) :
    iblk m c 1 t (ValueIdx.ix3 (n0 := 1) (n1 := 1) (n2 := 1024) 0 0 j) = words m c (nxt t) j := by
  rw [words_eq]
  unfold iblk
  show V m c main_v45 _ = V m c main_v45 _
  refine congrArg (V m c main_v45) (funext fun a => Fin.ext ?_)
  match a with
  | ⟨0, _⟩ => blk_simp [index1]; rfl
  | ⟨1, _⟩ => blk_simp [index1]
  | ⟨2, _⟩ => blk_simp [index1]

/-- Each point's positions are rows of the array, no row named twice. -/
def Good : Prop := ∀ c t, (∀ j, (words m c t j).toNat < 49152) ∧ ∀ j j', (words m c t j).toNat = (words m c t j').toNat → j = j'

variable (hg : Good m)

/-! ## The invariant -/

abbrev osem0 : Fin 2 → SemLoc sig := fun j => (![SemLoc.dma 10, SemLoc.dma 11] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0) := by
  rw [Pipeline.ownSems0_eq_of_list c osem0 [0, 1] (by decide) (by decide)]; rfl

/-- The array the copies read. -/
def H0 : Finset (Ref sig .tc) := {main_arg3}
theorem H0_sub : H0 ⊆ Pipeline.restRefs sig spec0 := by decide

/-- What the launch hands over and takes back. -/
theorem Phi_eq (c : Dev nD) :
    (Pipeline.ΦDRG osem0 spec0 H0 ∅ (V m) (V m) c : sProp 𝕄)
      = iprop((∃ f : Buf (Elt F) (BL c), (BL c ↦{fullShare} f)) ∗ (∃ r, prngReg c r)
          ∗ (semVal ((c : Thread nD τ), SemLoc.dma 10) 0 ∗ semVal ((c : Thread nD τ), SemLoc.dma 11) 0)
          ∗ (YL c ↦{fullShare} rows m c) ∗ BIBase.emp) := by
  rw [Pipeline.ΦDRG_eq, scopedRest0_eq, ownSems00_eq]
  unfold H0 Pipeline.routed
  rw [bigSep_singleton, bigSep_empty]
  rfl

/-- The slot point `n` works in: its copies in flight, unless no point is before it or it is past the last. -/
def Cur (c : Dev nD) (n : ℕ) : sProp 𝕄 :=
  if h : 0 < n ∧ n < 32 then Fly c (rows m c) (n % 2) (words m c ⟨n, by have := cfg0_N; omega⟩) (hg c _).1 else Free c (rows m c) (n % 2)

def Inv (c : Dev nD) (n : ℕ) : sProp 𝕄 :=
  iprop((∃ r, prngReg c r) ∗ Cur m hg c n ∗ Free c (rows m c) ((n + 1) % 2))

theorem slots_disjoint : Disjoint (slotSet 0) (slotSet 1) := by
  rw [Finset.disjoint_left]
  intro i h h'
  rw [mem_slotSet] at h h'
  omega
theorem slots_cover : slotSet 0 ∪ slotSet 1 = Finset.univ := by
  refine Finset.eq_univ_iff_forall.mpr fun i => ?_
  have h : (i 0).val < 2 := (i 0).isLt
  rw [Finset.mem_union, mem_slotSet, mem_slotSet]
  omega

theorem enter (c : Dev nD) : Pipeline.ΦDRG osem0 spec0 H0 ∅ (V m) (V m) c ⊢ (Inv m hg c 0 : sProp 𝕄) := by
  rw [Phi_eq]
  unfold Inv Cur
  rw [dif_neg (by omega)]
  show _ ⊢ iprop(_ ∗ Free c (rows m c) 0 ∗ Free c (rows m c) 1)
  unfold Free
  iintro ⟨⟨%f, HB⟩, Hg, ⟨HC0, HC1⟩, HY, -⟩
  ihave HB := (show (BL c ↦{fullShare} f : sProp 𝕄) ⊢ iprop((BL c ↦[slotSet 0]{fullShare} f) ∗ (BL c ↦[slotSet 1]{fullShare} f)) from by
    have h := (pointsTo_union (ℓ := BL c) (q := fullShare) (f := f) slots_disjoint : _ ⊣⊢ (_ : sProp 𝕄)).1
    rw [slots_cover] at h
    exact h) $$ HB
  icases HB with ⟨HB0, HB1⟩
  ihave HY := (pointsTo_share (PosShare.mem_left_op_right fullShare)).1 $$ HY
  icases HY with ⟨HY0, HY1⟩
  isplitl [Hg]; · iexact Hg
  isplitl [HB0 HC0 HY0]
  · iexists f
    isplitl [HB0]; · iexact HB0
    isplitl [HC0]; · iexact HC0
    iexact HY0
  · iexists f
    isplitl [HB1]; · iexact HB1
    isplitl [HC1]; · iexact HC1
    iexact HY1

theorem leave (c : Dev nD) : (Inv m hg c 32 : sProp 𝕄) ⊢ Pipeline.ΦDRG osem0 spec0 H0 ∅ (V m) (V m) c := by
  rw [Phi_eq]
  unfold Inv Cur
  rw [dif_neg (by omega)]
  show iprop(_ ∗ Free c (rows m c) 0 ∗ Free c (rows m c) 1) ⊢ _
  unfold Free
  iintro ⟨Hg, ⟨%f0, HB0, HC0, HY0⟩, ⟨%f1, HB1, HC1, HY1⟩⟩
  isplitl [HB0 HB1]
  · iexists _
    iapply (show iprop((BL c ↦[slotSet 0]{fullShare} f0) ∗ (BL c ↦[slotSet 1]{fullShare} f1)) ⊢ (BL c ↦{fullShare} _ : sProp 𝕄) from by
      have h := (pointsTo_join (ℓ := BL c) (q := fullShare) (f := f0) (g := f1) slots_disjoint : _ ⊢ (_ : sProp 𝕄))
      rw [slots_cover] at h
      exact h)
    isplitl [HB0] <;> iassumption
  isplitl [Hg]; · iexact Hg
  isplitl [HC0 HC1]
  · isplitl [HC0]; · iexact HC0
    iexact HC1
  isplitl [HY0 HY1]
  · iapply (pointsTo_share (PosShare.mem_left_op_right fullShare)).2
    isplitl [HY0]; · iexact HY0
    iexact HY1
  iempintro

/-! ## The proof data and the body obligation -/

/-- What point `t` leaves in the result's block. -/
def left (c : Dev nD) (t : Fin cfg0.N) : S512x1024.Idx → Elt F .f32 :=
  outv (rows m c) (words m c t) (hg c t).1 (iblk m c 2 t) (iblk m c 3 t)

def dats (_ : Fin 1) (c : Dev nD) : Dat τ (Elt F) Unit ℕ (Pipeline.UD sig nD τ) ℕ cfg0 c where
  A w := V m c (Pipeline.arrRef spec0 w)
  after w t :=
    match w with
    | ⟨0, _⟩ => iblk m c 0 t
    | ⟨1, _⟩ => iblk m c 1 t
    | ⟨2, _⟩ => iblk m c 2 t
    | ⟨3, _⟩ => iblk m c 3 t
    | ⟨4, _⟩ => left m hg c t
    | ⟨_ + 5, h⟩ => absurd h (Nat.not_lt.2 (Nat.le_add_left _ _))
  Φ t := Inv m hg c t.val
  q w := Pipeline.shareOf spec0 w
  owed _ := 0

theorem A_eq (c : Dev nD) (w : Fin cfg0.W) : (dats m hg 0 c).A w = V m c (Pipeline.arrRef spec0 w) := by dsimp only [dats]

theorem after0 (c : Dev nD) (t : Fin cfg0.N) : (dats m hg 0 c).after 0 t = iblk m c 0 t := by dsimp only [dats]
theorem after1 (c : Dev nD) (t : Fin cfg0.N) : (dats m hg 0 c).after 1 t = iblk m c 1 t := by dsimp only [dats]
theorem after2 (c : Dev nD) (t : Fin cfg0.N) : (dats m hg 0 c).after 2 t = iblk m c 2 t := by dsimp only [dats]
theorem after3 (c : Dev nD) (t : Fin cfg0.N) : (dats m hg 0 c).after 3 t = iblk m c 3 t := by dsimp only [dats]
theorem after4 (c : Dev nD) (t : Fin cfg0.N) : (dats m hg 0 c).after 4 t = left m hg c t := by dsimp only [dats]
theorem before0 (c : Dev nD) (t : Fin cfg0.N) (d) : (dats m hg 0 c).before 0 t d = iblk m c 0 t :=
  ((dats m hg 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m hg 0 c).before 1 t d = iblk m c 1 t :=
  ((dats m hg 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m hg 0 c).before 2 t d = iblk m c 2 t :=
  ((dats m hg 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m hg 0 c).before 3 t d = iblk m c 3 t :=
  ((dats m hg 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m hg 0 c).Φ t.castSucc ∗ (dats m hg 0 c).owesAt () t.castSucc
    ∗ (∃ d, owns (c : Thread nD τ) (st0_0 t) fullShare ((dats m hg 0 c).before 0 t d))
    ∗ (∃ d, owns (c : Thread nD τ) (st0_1 t) fullShare ((dats m hg 0 c).before 1 t d))
    ∗ (∃ d, owns (c : Thread nD τ) (st0_2 t) fullShare ((dats m hg 0 c).before 2 t d))
    ∗ (∃ d, owns (c : Thread nD τ) (st0_3 t) fullShare ((dats m hg 0 c).before 3 t d))
    ∗ (∃ d, owns (c : Thread nD τ) (st0_4 t) fullShare ((dats m hg 0 c).before 4 t d)))
def bodyPost (c : Dev nD) (t : Fin cfg0.N) : sProp 𝕄 :=
  iprop((dats m hg 0 c).Φ t.succ ∗ (dats m hg 0 c).owesAt () t.succ
    ∗ owns (c : Thread nD τ) (st0_0 t) fullShare ((dats m hg 0 c).after 0 t)
    ∗ owns (c : Thread nD τ) (st0_1 t) fullShare ((dats m hg 0 c).after 1 t)
    ∗ owns (c : Thread nD τ) (st0_2 t) fullShare ((dats m hg 0 c).after 2 t)
    ∗ owns (c : Thread nD τ) (st0_3 t) fullShare ((dats m hg 0 c).after 3 t)
    ∗ owns (c : Thread nD τ) (st0_4 t) fullShare ((dats m hg 0 c).after 4 t))

theorem cur_pre (c : Dev nD) (t : Fin cfg0.N) :
    (Cur m hg c t.val : sProp 𝕄) = (if k0_cond1 (grid0.coords t) = 1#1 then Free c (rows m c) (t.val % 2) else Fly c (rows m c) (t.val % 2) (words m c t) (hg c t).1) := by
  have ht := t.isLt; have hN := cfg0_N
  unfold Cur
  by_cases h : t.val = 0
  · rw [if_pos ((cond1_iff t).2 h), dif_neg (by omega)]
  · rw [if_neg (fun h' => h ((cond1_iff t).1 h')), dif_pos (by omega)]

theorem cur_post (c : Dev nD) (t : Fin cfg0.N) :
    (Cur m hg c (t.val + 1) : sProp 𝕄)
      = (if k0_cond2 (grid0.coords t) = 1#1 then Fly c (rows m c) ((t.val + 1) % 2) (words m c (nxt t)) (hg c (nxt t)).1 else Free c (rows m c) ((t.val + 1) % 2)) := by
  have ht := t.isLt; have hN := cfg0_N
  unfold Cur
  by_cases h : t.val + 1 < 32
  · have e : nxt t = ⟨t.val + 1, by omega⟩ := Fin.ext (by show min (t.val + 1) 31 = t.val + 1; omega)
    rw [if_pos ((cond2_iff t).2 h), dif_pos (by omega)]
    simp only [e]
  · rw [if_neg (fun h' => h ((cond2_iff t).1 h')), dif_neg (by omega)]

set_option maxHeartbeats 4000000 in
theorem sound_body (c : Dev nD) (t : Fin cfg0.N) :
    bodyPre m hg c t ⊢ wp frame (wpE (defs₀ (F := F)) Variants.none c none) Set.univ (bodyAt0 t) (fun _ => bodyPost m hg c t) := by
  unfold bodyPre bodyPost bodyAt0
  rw [show (dats m hg 0 c).Φ t.succ = Inv m hg c (t.val + 1) from rfl,
    show (dats m hg 0 c).owesAt () t.succ = (dats m hg 0 c).owesAt () t.castSucc from rfl,
    show (dats m hg 0 c).Φ t.castSucc = Inv m hg c t.val from rfl]
  unfold Inv
  rw [cur_pre, cur_post, show (t.val + 1 + 1) % 2 = t.val % 2 by omega]
  simp only [before0, before1, before2, before3, after0, after1, after2, after3, after4]
  unfold Dat.owesAt Pipeline.owesWithin
  rw [show (dats m hg 0 c).owed t.castSucc = 0 from rfl]
  iintro ⟨⟨Hg, HA, HB⟩, ⟨%W, %hW, HO⟩, ⟨%d0, H1⟩, ⟨%d1, H2⟩, ⟨%d2, H3⟩, ⟨%d3, H4⟩, ⟨%d4, H5⟩⟩
  ihave H1 := (show owns (c : Thread nD τ) (st0_0 t) fullShare (iblk m c 0 t) ⊢ iprop(∃ f, ⌜(st0_0 t).view.read (Elt F) f = iblk m c 0 t⌝ ∗ ((st0_0 t).view.loc (c : Thread nD τ) ↦[(st0_0 t).view.set]{fullShare} f) : sProp 𝕄) from .rfl) $$ H1
  ihave H2 := (show owns (c : Thread nD τ) (st0_1 t) fullShare (iblk m c 1 t) ⊢ iprop(∃ f, ⌜(st0_1 t).view.read (Elt F) f = iblk m c 1 t⌝ ∗ ((st0_1 t).view.loc (c : Thread nD τ) ↦[(st0_1 t).view.set]{fullShare} f) : sProp 𝕄) from .rfl) $$ H2
  icases H1 with ⟨%f1, %hf1, H1⟩
  icases H2 with ⟨%f2, %hf2, H2⟩
  iapply (body_run (F := F) c (rows m c) (t.val % 2) (words m c t) (hg c t).1 (grid0.coords t)
    (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (Memref.isWhole_whole _) (st0_4 t) (hstage0_4 ((cfg0.slots t 4).cast nbuf0_4)) (Memref.isWhole_whole _)
    (hg c t).2 ((t.val + 1) % 2) (words m c (nxt t)) (hg c (nxt t)).1 (hg c (nxt t)).2 f1 f2 (iblk m c 2 t) (iblk m c 3 t)
    (Nat.mod_lt _ (by decide)) (by rw [coord]) (Nat.mod_lt _ (by decide)) (by rw [coord])
    (fun j => congrFun hf1 _) (fun _ j => (congrFun hf2 _).trans (ahead_eq m c t j))
    (fun h => by rw [(cond1_iff t).1 h]))
  unfold Ins
  isplitl [H1 H2 H3 H4]
  · isplitl [H1]; · iexact H1
    isplitl [H2]; · iexact H2
    isplitl [H3]
    · iapply rep_of_owns; iexact H3
    · iapply rep_of_owns; iexact H4
  isplitl [H5]; · iexists _; iexact H5
  isplitl [HA]; · iexact HA
  isplitl [HB]; · iexact HB
  isplitl [HO]; · iexists W; iexact HO
  iintro ⟨⟨H1, H2, H3, H4⟩, H5, HB, HA, ⟨%W', HO⟩⟩
  isplitl [Hg HA HB]
  · isplitl [Hg]; · iexact Hg
    isplitl [HB]; · iexact HB
    iexact HA
  isplitl [HO]
  · iexists W'; isplitr; · ipureintro; exact fun _ _ => Or.inl trivial
    iexact HO
  isplitl [H1]
  · unfold owns; iexists f1; isplitr; · ipureintro; exact hf1
    iexact H1
  isplitl [H2]
  · unfold owns; iexists f2; isplitr; · ipureintro; exact hf2
    iexact H2
  isplitl [H3]; · iapply owns_of_rep; iexact H3
  isplitl [H4]; · iapply owns_of_rep; iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m hg 0 c) (defs₀ (F := F)) Variants.none () Set.univ := fun t => by
  rw [bigSep_W0, bigSep_W0, defs₀_row]
  exact triple_restated (sound_body m hg c t) rfl .rfl fun _ => .rfl

/-! ## The launch -/

set_option maxHeartbeats 800000 in
/-- The lines of host operations, then the region, at the algebra the transfers run in. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩)
    main_chain

set_option backward.isDefEq.respectTransparency.types false in
theorem run_post :
    θ_run defs (onTc (τ := τ) (main (F := F))) (s₀ m ρ)
      (fun r => Pipeline.FramePostRG cfgs (dats m hg) 0 ∅ (V m) (V m) r ∧ r.2.sem = fun _ => 0) :=
  Pipeline.θ_run_frame_dmaRG_shared (Q' := _) cfgs (dats m hg) (0 : Fin 1) launch₀0 osem0 defs₀ Variants.none ownSemFacts0 H0 ∅ H0_sub (Finset.empty_subset _) m ρ main
    (hbody := fun c => (body_obligation m hg c).loose) (hq := fun _ _ _ => rfl)
    (howed := fun _ _ => rfl) (V := V m) (hmain := hmainD m Variants.none) (hA := A_eq m hg) (G := V m)
    (hin := fun c => enter m hg c) (hout := fun c => leave m hg c) (hQ' := fun _ h => h)

/-- Every run ends with the arguments as launched, the counters at zero, and the result at what the points leave. -/
theorem run_main :
    θ_run defs (onTc (τ := τ) (main (F := F))) (s₀ m ρ) (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) ∧ ∀ c : Dev nD, r.2.mem ((c.tc : Thread nD τ).loc main_v46) = (dats m hg 0 c).arrAt 4 cfg0.N) :=
  (θ_run defs _ _).mono (fun r h => ⟨⟨fun c =>
      ⟨((h.1.1 c).2 main_arg0 (Finset.mem_sdiff.mpr ⟨Pipeline.mem_restRefs_of main_arg0 (by decide) (by decide), by decide⟩)).trans (V_main_arg0 m c),
       ((h.1.1 c).1 3).trans (((dats m hg 0 c).arrAt_in 3 rfl _).trans ((A_eq m hg c 3).trans (V_main_arg1 m c))),
       ((h.1.1 c).1 2).trans (((dats m hg 0 c).arrAt_in 2 rfl _).trans ((A_eq m hg c 2).trans (V_main_arg2 m c))),
       ((h.1.1 c).2 main_arg3 (Finset.mem_sdiff.mpr ⟨Pipeline.mem_restRefs_of main_arg3 (by decide) (by decide), by decide⟩)).trans (V_main_arg3 m c)⟩,
      h.2⟩, fun c => (h.1.1 c).1 4⟩) (run_post m ρ hg)

end Cert.Kernel3Ideal.Hand

end
-- ==== Proof.CPos.lean ====
/- The positions the combine program computes before its call: word by word, the rows of `Pos.lean`. -/
module

public import proofs.«01_k».proof.Proof.Gen.Kernel3Ideal
public import proofs.«01_k».proof.Proof.Pos
public import Idealize.ShloMosaic.Lib.StableHlo.Run

@[expose] public section

noncomputable section

namespace Cert.Kernel3Ideal.Host

open Cert.Kernel3Ideal Cert.Kernel3Ideal.Gen Cert.Pos
open Idealize.ShloMosaic Idealize.ShloMosaic.TcCoe Idealize.ShloMosaic.ValueIdx Idealize.ShloMosaic.Routing
open Idealize.SL.Sem Idealize.ShloMosaic.StableHlo

/-- Each assignment's expert as a row of zeros and a one. -/
def hot (v : IVec S32768 32) : IVec S32768x32 32 :=
  extui 32 (cmpi .eq (broadcastInDim S32768x32 ![0, 1] bcast_S32768x1_S32768x32_0_1 (broadcastInDim S32768x1 ![0] bcast_S32768_S32768x1_0 v))
    (broadcastInDim S32768x32 ![0, 1] bcast_S1x32_S32768x32_0_1 (broadcastInDim S1x32 ![1] bcast_S32_S1x32_1 (iotaInDim S32 32 0)))) natLt_1_32
/-- Running sums down the assignments. -/
def run (h : IVec S32768x32 32) : IVec S32768x32 32 :=
  Host.reduceWindow IntOp.addi ![32768, 1] ![1, 1] ![32767, 0] ![0, 0] h (broadcastInDim S_ ![] bcast_S_S_ (constantI S_ 32 0#32))
    reduceWindows_S32768x32_S32768x32_w32768s1p32767_0_w1s1p0_0 h_S_
/-- The rank of each assignment within its expert. -/
def rank (h : IVec S32768x32 32) : IVec S32768 32 :=
  subi (Host.reduce IntOp.addi (muli (run h) h) (constantI S_ 32 0#32) reducesTo_S32768x32_S32768_d1 h_S_)
    (broadcastInDim S32768 ![] bcast_S_S32768 (constantI S_ 32 1#32))
/-- The rows each expert takes. -/
def rows (h : IVec S32768x32 32) : IVec S32 32 :=
  muli (pyDiv bcast_S_S32 (subi (addi (shapeCast S32 (extractStridedSlice S1x32 ![32767, 0] (run h) slices_S32768x32_S1x32_32767_0) shapeCasts_S1x32_S32)
      (broadcastInDim S32 ![] bcast_S_S32 (constantI S_ 32 512#32))) (broadcastInDim S32 ![] bcast_S_S32 (constantI S_ 32 1#32)))
      (constantI S_ 32 512#32))
    (broadcastInDim S32 ![] bcast_S_S32 (constantI S_ 32 512#32))
/-- The first row of each expert. -/
def starts (r : IVec S32 32) : IVec S32 32 :=
  subi (Host.reduceWindow IntOp.addi ![32] ![1] ![31] ![0] r (broadcastInDim S_ ![] bcast_S_S_ (constantI S_ 32 0#32)) reduceWindows_S32_S32_w32s1p31_0 h_S_) r
/-- The row of each assignment. -/
def positions (h : IVec S32768x32 32) : IVec S32768 32 :=
  addi (Host.reduce IntOp.addi (muli (broadcastInDim S32768x32 ![0, 1] bcast_S1x32_S32768x32_0_1 (broadcastInDim S1x32 ![1] bcast_S32_S1x32_1 (starts (rows h)))) h)
    (constantI S_ 32 0#32) reducesTo_S32768x32_S32768_d1 h_S_) (rank h)

section Reading
variable (v : IVec S32768 32) (e : ℕ → ℕ) (hv : ∀ a : Fin 32768, v (ix1 a) = BitVec.ofNat 32 (e a.val)) (he : ∀ a, a < 32768 → e a < 32)
include hv he

theorem hot_at (a : Fin 32768) (x : Fin 32) : hot v (ix2 a x) = BitVec.ofNat 32 (if e a.val = x.val then 1 else 0) := by
  have h : cmpi .eq (broadcastInDim S32768x32 ![0, 1] bcast_S32768x1_S32768x32_0_1 (broadcastInDim S32768x1 ![0] bcast_S32768_S32768x1_0 v))
      (broadcastInDim S32768x32 ![0, 1] bcast_S1x32_S32768x32_0_1 (broadcastInDim S1x32 ![1] bcast_S32_S1x32_1 (iotaInDim S32 32 0))) (ix2 a x)
      = BitVec.ofBool (decide (e a.val = x.val)) := by
    show IntOp.cmpi .eq _ _ = _
    rw [bcRows, bcCols, hv, iota1_ap, WordCmp.cmpi_eq_ofNat (w := 32) (by have := he a.val a.isLt; omega) (by have := x.isLt; omega)]
  unfold hot
  show BitVec.setWidth 32 _ = _
  rw [h, setWidth_ofBool]

theorem run_at (a : Fin 32768) (x : Fin 32) : run (hot v) (ix2 a x) = BitVec.ofNat 32 (Nat.count (fun b => e b = x.val) (a.val + 1)) := by
  unfold run
  rw [cumsum_rows (R := 32768) (Rm1 := 32767) (C := 32) rfl (hot v) (fun i c => if e i = c then 1 else 0) (hot_at v e hv he) _ (by rw [bc0]; rfl), sum_map_ite]

theorem rank_at (a : Fin 32768) : rank (hot v) (ix1 a) = BitVec.ofNat 32 (rk e a.val) := by
  unfold rank
  rw [subi_ap, bc0, reduce_row (n := 32768) (m := 32) _ (fun x => if e a.val = x then Nat.count (fun b => e b = x) (a.val + 1) else 0) a (fun q => by
    rw [muli_ap, run_at v e hv he, hot_at v e hv he]
    split
    · show _ * 1#32 = _; rw [BitVec.mul_one]
    · show _ * 0#32 = _; rw [BitVec.mul_zero]), sum_pick _ _ 32 (he _ a.isLt)]
  rw [Nat.count_succ, if_pos rfl]
  show BitVec.ofNat 32 _ - 1#32 = _
  rw [StableHlo.Predicate.sub_one_ofNat _ (by omega) (by have := Nat.count_le (p := fun b => e b = e a.val) (n := a.val); have := a.isLt; omega)]
  rfl

theorem rows_at (x : Fin 32) : rows (hot v) (ix1 x) = BitVec.ofNat 32 (tiles e x.val * 512) := by
  have hs : shapeCast S32 (extractStridedSlice S1x32 ![32767, 0] (run (hot v)) slices_S32768x32_S1x32_32767_0) shapeCasts_S1x32_S32 (ix1 x)
      = BitVec.ofNat 32 (cnt e x.val) := by
    rw [cast21 (a := 1) (b := 32) _ _ (0 : Fin 1) x x (by simp)]
    have : extractStridedSlice S1x32 ![32767, 0] (run (hot v)) slices_S32768x32_S1x32_32767_0 (ix2 (0 : Fin 1) x)
        = run (hot v) (ix2 (⟨32767, by decide⟩ : Fin 32768) x) := by
      unfold extractStridedSlice
      refine congrArg (run (hot v)) (funext fun b => Fin.ext ?_)
      match b with
      | ⟨0, _⟩ => rfl
      | ⟨1, _⟩ => show 0 + x.val = x.val; exact Nat.zero_add _
    rw [this, run_at v e hv he]; rfl
  have hc := cnt_le e x.val
  unfold rows
  rw [muli_ap, bc0, pyDiv_ap bcast_S_S32 _ _ (ix1 x) (a := cnt e x.val + 512 - 1) (b := 512) (by
      rw [subi_ap, addi_ap, hs, bc0, bc0]
      show BitVec.ofNat 32 _ + BitVec.ofNat 32 512 - 1#32 = _
      rw [← BitVec.ofNat_add, StableHlo.Predicate.sub_one_ofNat _ (by omega) (by omega)]) rfl (by omega) (by decide) (by decide)]
  show BitVec.ofNat 32 _ * BitVec.ofNat 32 512 = _
  rw [← BitVec.ofNat_mul]; rfl

theorem starts_at (x : Fin 32) : starts (rows (hot v)) (ix1 x) = BitVec.ofNat 32 (st e x.val) := by
  unfold starts
  rw [subi_ap, cumsum1 (N := 32) (Nm1 := 31) rfl (rows (hot v)) (fun y => tiles e y * 512) (rows_at v e hv he) _ (by rw [bc0]; rfl), rows_at v e hv he]
  have : ((List.range (x.val + 1)).map fun y => tiles e y * 512).sum = st e x.val + tiles e x.val * 512 := st_succ e x.val
  rw [this, BitVec.ofNat_add, BitVec.add_sub_cancel]

theorem positions_at (a : Fin 32768) : positions (hot v) (ix1 a) = BitVec.ofNat 32 (row e a.val) := by
  unfold positions
  rw [addi_ap, rank_at v e hv he, reduce_row (n := 32768) (m := 32) _ (fun x => if e a.val = x then st e x else 0) a (fun q => by
    rw [muli_ap, bcCols, starts_at v e hv he, hot_at v e hv he]
    split
    · show _ * 1#32 = _; rw [BitVec.mul_one]
    · show _ * 0#32 = _; rw [BitVec.mul_zero]), sum_pick _ _ 32 (he _ a.isLt), ← BitVec.ofNat_add]
  rfl

end Reading

end Cert.Kernel3Ideal.Host
-- ==== Proof.CHost.lean ====
/- What the combine program's call reads: its positions are the rows of `Pos.lean`, so its copies read pairwise different rows of the
   experts' outputs. -/
module

public import proofs.«01_k».proof.Proof.CRun
public import proofs.«01_k».proof.Proof.CPos
public import Idealize.ShloMosaic.Lib.Pipeline.ValueKit.Geometry

@[expose] public section

noncomputable section

namespace Cert.Kernel3Ideal.Hand

open Cert.Kernel3Ideal Cert.Kernel3Ideal.Gen Cert.Pos
open Idealize.ShloMosaic Idealize.ShloMosaic.TcCoe Idealize.ShloMosaic.ValueIdx Idealize.ShloMosaic.Routing
open Idealize.SL.Sem Idealize.ShloMosaic.StableHlo

variable {F : FTy → Type} [FloatOps F] [∀ e, Nonempty (Elt F e)]
variable (m : (ℓ : Loc nD τ sig) → Buf (Elt F) ℓ)

/-- The experts of the assignments, in order. -/
def flat (c : Dev nD) : IVec S32768 32 := shapeCast S32768 (m ((c : Thread nD τ).loc main_arg0)) shapeCasts_S16384x2_S32768

set_option maxRecDepth 8192 in
set_option maxHeartbeats 8000000 in
theorem V_positions (c : Dev nD) : V m c main_v45 = shapeCast S32x1x1024 (Host.positions (Host.hot (flat m c))) shapeCasts_S32768_S32x1x1024 := by
  simp only [V, hostOps0, hostOps0_1, hostOps0_2, hostOps0_3, hostOps0_4, hostOps0_5, hostOps0_6, hostOps0_7, hostOps0_8, List.flatten_cons, List.flatten_nil,
    List.append_nil, List.cons_append, List.nil_append, TRef.binary, TRef.nullary, TRef.ternary, TRef.unary, TRef.toBuf, TRef.ofBuf, cast_eq]
  after_results_simp
  rfl

/-- The expert of assignment `a`, a natural number. -/
def expert (c : Dev nD) (a : ℕ) : ℕ := if h : a < 32768 then (flat m c (ix1 ⟨a, h⟩)).toNat else 0

section Rows
variable (c : Dev nD) (he : ∀ a, a < 32768 → expert m c a < 32)
include he

theorem flat_at (a : Fin 32768) : flat m c (ix1 a) = BitVec.ofNat 32 (expert m c a.val) := by
  unfold expert; rw [dif_pos a.isLt, BitVec.ofNat_toNat, BitVec.setWidth_eq]

theorem words_at (t : Fin cfg0.N) (j : Fin 1024) : (words m c t j).toNat = row (expert m c) (1024 * t.val + j.val) := by
  have ht := t.isLt; have hN := cfg0_N; have hj := j.isLt
  have ha : 1024 * t.val + j.val < 32768 := by omega
  rw [words_eq, V_positions, cast13 (a := 32) (b := 1) (c := 1024) (n := 32768) _ _ _ _ _ ⟨1024 * t.val + j.val, ha⟩ (by
    show 1024 * t.val + j.val = (t.val * 1 + 0) * 1024 + j.val; omega),
    Host.positions_at (flat m c) (expert m c) (flat_at m c he) he, BitVec.toNat_ofNat]
  exact Nat.mod_eq_of_lt (lt_trans (row_lt ha (he _ ha)) (by decide))

end Rows

theorem good (he : ∀ c a, a < 32768 → expert m c a < 32) : Good m := by
  intro c t
  have ht := t.isLt; have hN := cfg0_N
  refine ⟨fun j => ?_, fun j j' h => ?_⟩
  · have hj := j.isLt
    rw [words_at m c (he c)]
    exact row_lt (e := expert m c) (a := 1024 * t.val + j.val) (by omega) (he c _ (by omega))
  · have hj := j.isLt; have hj' := j'.isLt
    rw [words_at m c (he c), words_at m c (he c)] at h
    have := row_inj (by omega) (by omega) h
    exact Fin.ext (by omega)

end Cert.Kernel3Ideal.Hand
-- ==== Proof.CVal.lean ====
/- What the combine program's call leaves, over the extended reals: each token's row of the third argument and its two rows of the
   experts' outputs, scaled by its two weights. -/
module

public import proofs.«01_k».proof.Proof.CHost
public import Idealize.ShloMosaic.Lib.IdealHost

@[expose] public section

noncomputable section

namespace Cert.Kernel3Ideal.Hand

open Cert.Kernel3Ideal Cert.Kernel3Ideal.Gen Cert.Pos
open Idealize.ShloMosaic Idealize.ShloMosaic.TcCoe Idealize.ShloMosaic.ValueIdx
open Idealize.SL.Sem
open Idealize.ShloMosaic.Pipeline (Dat)

/-! ## A block's sum -/

theorem cast_row (v : S1x1x512x1024.Idx → EReal) (a : Fin 512) (l : Fin 1024) :
    shapeCast S512x1024 v shapeCasts_S1x1x512x1024_S512x1024 (ix2 a l) = v (ix4 (n0 := 1) (n1 := 1) (n2 := 512) (n3 := 1024) 0 0 a l) := by
  have ha := a.isLt; have hl := l.isLt
  rw [shapeCast_apply _ shapeCasts_S1x1x512x1024_S512x1024 (ix2 a l) (ix4 (n0 := 1) (n1 := 1) (n2 := 512) (n3 := 1024) 0 0 a l) (by
    rw [Shape.rowMajor_val_four, Shape.rowMajor_val_two]
    show ((0 * 1 + 0) * 512 + a.val) * 1024 + l.val = a.val * 1024 + l.val
    omega)]

theorem wide_at (off : Fin 2 → ℕ) (s : Fin 128) (e : off = ![0, s.val]) (wt : S512x128.Idx → EReal) (h) (a : Fin 512) (l : Fin 1024) :
    broadcastTo S512x1024 (extractStridedSlice S512x1 off wt h) broadcasts_S512x1_S512x1024 (ix2 a l) = wt (ix2 (n0 := 512) (n1 := 128) a s) := by
  subst e
  refine (broadcastTo_apply _ _ (ix2 a l) (ix2 (n0 := 512) (n1 := 1) a 0) fun b => ?_).trans (extractStridedSlice_apply _ _ _ _ _ fun b => ?_)
  · match b with
    | ⟨0, _⟩ => rfl
    | ⟨1, _⟩ => rfl
  · match b with
    | ⟨0, _⟩ => show a.val = 0 + a.val; omega
    | ⟨1, _⟩ => show s.val = s.val + 0; omega

theorem outv_at (ys : S49152x1024.Idx → Elt Ideal .f32) (w : Fin 1024 → BitVec 32) (hw : ∀ t, (w t).toNat < 49152)
    (x : FVec Ideal S512x1024 .f32) (wt : FVec Ideal S512x128 .f32) (a : Fin 512) (l : Fin 1024) :
    @Eq EReal (outv ys w hw x wt (ix2 a l))
      (@HAdd.hAdd EReal EReal EReal _ (@HAdd.hAdd EReal EReal EReal _ (x (ix2 a l))
        (@HMul.hMul EReal EReal EReal _ (wt (ix2 a 0)) (ys (ix2 ⟨(w ⟨2 * a.val, by omega⟩).toNat, hw _⟩ l))))
        (@HMul.hMul EReal EReal EReal _ (wt (ix2 a 1)) (ys (ix2 ⟨(w ⟨2 * a.val + 1, by omega⟩).toNat, hw _⟩ l)))) := by
  refine congrArg₂ (fun p q : EReal => p + q) (congrArg₂ (fun p q : EReal => p + q) rfl ?_) ?_
  · exact congrArg₂ (fun p q : EReal => p * q) (wide_at ![0, 0] 0 rfl wt slices_S512x128_o0_0_S512x1 a l) (cast_row (ring ys w hw 0) a l)
  · exact congrArg₂ (fun p q : EReal => p * q) (wide_at ![0, 1] 1 rfl wt slices_S512x128_o0_1_S512x1 a l) (cast_row (ring ys w hw 1) a l)

/-! ## The array -/

variable (m : (ℓ : Loc nD τ sig) → Buf (Elt Ideal) ℓ) (hg : Good m)

theorem index2 : ∀ t : Fin cfg0.N, win0_2.index t = ![t.val, 0] := by decide +kernel
theorem index3 : ∀ t : Fin cfg0.N, win0_3.index t = ![t.val, 0] := by decide +kernel
theorem index4 : ∀ t : Fin cfg0.N, win0_4.index t = ![t.val, 0] := by decide +kernel

theorem tokens_eq (c : Dev nD) (t : Fin cfg0.N) (a : Fin 512) (l : Fin 1024) (r : Fin 16384) (hr : r.val = 512 * t.val + a.val) :
    iblk m c 2 t (ix2 (n0 := 512) (n1 := 1024) a l) = m ((c : Thread nD τ).loc main_arg2) (ix2 (n0 := 16384) (n1 := 1024) r l) := by
  rw [← V_main_arg2 m c]
  unfold iblk
  show V m c main_arg2 _ = V m c main_arg2 _
  refine congrArg (V m c main_arg2) (funext fun b => Fin.ext ?_)
  match b with
  | ⟨0, _⟩ => blk_simp [index2]; show t.val * 512 + a.val = r.val; omega
  | ⟨1, _⟩ => blk_simp [index2]
theorem weights_eq (c : Dev nD) (t : Fin cfg0.N) (a : Fin 512) (s : Fin 128) (r : Fin 16384) (hr : r.val = 512 * t.val + a.val) :
    iblk m c 3 t (ix2 (n0 := 512) (n1 := 128) a s) = m ((c : Thread nD τ).loc main_arg1) (ix2 (n0 := 16384) (n1 := 128) r s) := by
  rw [← V_main_arg1 m c]
  unfold iblk
  show V m c main_arg1 _ = V m c main_arg1 _
  refine congrArg (V m c main_arg1) (funext fun b => Fin.ext ?_)
  match b with
  | ⟨0, _⟩ => blk_simp [index3]; show t.val * 512 + a.val = r.val; omega
  | ⟨1, _⟩ => blk_simp [index3]

/-- The element of row `r` and column `l` in the array the call leaves, `b` and `d` the token's two rows. -/
def elem (wt : S16384x128.Idx → EReal) (x : S16384x1024.Idx → EReal) (ys : S49152x1024.Idx → EReal) (r : Fin 16384) (l : Fin 1024) (b d : Fin 49152) : EReal :=
  x (ix2 r l) + wt (ix2 r 0) * ys (ix2 b l) + wt (ix2 r 1) * ys (ix2 d l)

/-- The row of assignment `a`. -/
def rowFin (c : Dev nD) (he : ∀ a, a < 32768 → expert m c a < 32) (a : ℕ) (ha : a < 32768) : Fin 49152 :=
  ⟨row (expert m c) a, row_lt ha (he a ha)⟩

/-- That element. -/
def elemm (c : Dev nD) (he : ∀ a, a < 32768 → expert m c a < 32) (r : Fin 16384) (l : Fin 1024) : EReal :=
  elem (m ((c : Thread nD τ).loc main_arg1)) (m ((c : Thread nD τ).loc main_arg2)) (m ((c : Thread nD τ).loc main_arg3)) r l
    (rowFin m c he (2 * r.val) (by omega)) (rowFin m c he (2 * r.val + 1) (by omega))

section Array
variable (c : Dev nD) (he : ∀ a, a < 32768 → expert m c a < 32)

theorem left_at (t : Fin cfg0.N) (a : Fin 512) (l : Fin 1024) (r : Fin 16384) (hr : r.val = 512 * t.val + a.val) :
    @Eq EReal (left m hg c t (ix2 a l)) (elemm m c he r l) := by
  have ha := a.isLt
  have hrow : ∀ (s : ℕ) (hs : s < 2), (⟨(words m c t ⟨2 * a.val + s, by omega⟩).toNat, (hg c t).1 _⟩ : Fin 49152)
      = rowFin m c he (2 * r.val + s) (by omega) := fun s hs => Fin.ext (by
    show (words m c t ⟨2 * a.val + s, by omega⟩).toNat = row (expert m c) (2 * r.val + s)
    rw [words_at m c he]
    refine congrArg (row (expert m c)) ?_
    show 1024 * t.val + (2 * a.val + s) = 2 * r.val + s
    omega)
  have hy : ∀ b d : Fin 49152, b = d → rows m c (ix2 (n0 := 49152) (n1 := 1024) b l) = m ((c : Thread nD τ).loc main_arg3) (ix2 (n0 := 49152) (n1 := 1024) d l) := fun b d e => by
    subst e; unfold rows; rw [V_main_arg3 m c]
  unfold left
  refine (outv_at _ _ _ _ _ a l).trans ?_
  unfold elemm elem
  refine congrArg₂ (fun p q : EReal => p + q) (congrArg₂ (fun p q : EReal => p + q) (tokens_eq m c t a l r hr)
    (congrArg₂ (fun p q : EReal => p * q) (weights_eq m c t a 0 r hr) (hy _ _ (hrow 0 (by decide)))))
    (congrArg₂ (fun p q : EReal => p * q) (weights_eq m c t a 1 r hr) (hy _ _ (hrow 1 (by decide))))

/-- The array the call leaves. -/
theorem array_at (r : Fin 16384) (l : Fin 1024) :
    @Eq EReal ((dats m hg 0 c).arrAt 4 cfg0.N (ix2 (n0 := 16384) (n1 := 1024) r l)) (elemm m c he r l) := by
  have hN := cfg0_N
  have h : (dats m hg 0 c).arrAt 4 cfg0.N = (fun i : S16384x1024.Idx => elemm m c he (i 0) (i 1)) := by
    refine (dats m hg 0 c).arrAt_eq_of_emb 4 _ (fun t hf y => ?_) (fun i => ?_)
    · have ht : t.val < 32 := lt_of_lt_of_eq t.isLt hN
      have h0 : (y 0).val < 512 := (y 0).isLt
      have h1 : (y 1).val < 1024 := (y 1).isLt
      refine Eq.trans (b := left m hg c t (ix2 (n0 := 512) (n1 := 1024) ⟨(y 0).val, h0⟩ ⟨(y 1).val, h1⟩)) ?_ ?_
      · show left m hg c t _ = _
        refine congrArg (left m hg c t) (funext fun b => Fin.ext ?_)
        match b with
        | ⟨0, _⟩ => rfl
        | ⟨1, _⟩ => rfl
      · refine (left_at m hg c he t ⟨(y 0).val, h0⟩ ⟨(y 1).val, h1⟩ ⟨512 * t.val + (y 0).val, by omega⟩ rfl).trans ?_
        show elemm m c he _ _ = elemm m c he _ _
        refine congrArg₂ (elemm m c he) (Fin.ext ?_) (Fin.ext ?_)
        · show 512 * t.val + (y 0).val = win0_4.index t 0 * 512 + 1 * (y 0).val
          rw [index4]; show 512 * t.val + (y 0).val = t.val * 512 + 1 * (y 0).val; omega
        · show (y 1).val = win0_4.index t 1 * 1024 + 1 * (y 1).val
          rw [index4]; show (y 1).val = 0 * 1024 + 1 * (y 1).val; omega
    · have h0 : (i 0).val < 16384 := (i 0).isLt
      have h1 : (i 1).val < 1024 := (i 1).isLt
      refine ⟨⟨(i 0).val / 512, by omega⟩, flush0_4 _, ?_⟩
      refine ((cfg0.win 4).emb_mem_blk_iff _ i rfl).2 fun b => ?_
      rw [show (cfg0.win 4).index _ = _ from index4 _]
      match b with
      | ⟨0, _⟩ => show (i 0).val / 512 * 512 ≤ (i 0).val ∧ (i 0).val < (i 0).val / 512 * 512 + 512; omega
      | ⟨1, _⟩ => show 0 * 1024 ≤ (i 1).val ∧ (i 1).val < 0 * 1024 + 1024; omega
  exact congrFun h _

end Array

end Cert.Kernel3Ideal.Hand
-- ==== Proof.CRVal.lean ====
/- What the combine's reference computes: each token's row of the third argument and its two rows of the fourth, scaled. -/
module

public import proofs.«01_k».proof.Proof.Gen.Reference3Ideal
public import proofs.«01_k».proof.Proof.Gen.Reference3Ideal.Run
public import proofs.«01_k».proof.Proof.Pos
public import Idealize.ShloMosaic.Lib.StableHlo.Run
public import Idealize.ShloMosaic.Lib.IdealHost
public import Idealize.ShloMosaic.Lib.Pointwise.Reduce

@[expose] public section

noncomputable section

namespace Cert.Reference3Ideal.Hand

open Cert.Reference3Ideal Cert.Reference3Ideal.Gen Cert.Pos
open Idealize.ShloMosaic hiding ix0 ix1 ix2 ix3 ix4 eq_ix2
open Idealize.ShloMosaic.TcCoe Idealize.ShloMosaic.ValueIdx Idealize.ShloMosaic.Routing
open Idealize.SL.Sem Idealize.ShloMosaic.StableHlo

/-- Which earlier assignments chose the same expert. -/
def earlier (v : IVec S32768 32) : IVec S32768x32768 1 :=
  andi (cmpi .eq (broadcastInDim S32768x32768 ![0, 1] bcast_S1x32768_S32768x32768_0_1 (broadcastInDim S1x32768 ![1] bcast_S32768_S1x32768_1 v))
      (broadcastInDim S32768x32768 ![0, 1] bcast_S32768x1_S32768x32768_0_1 (broadcastInDim S32768x1 ![0] bcast_S32768_S32768x1_0 v)))
    (cmpi .slt (broadcastInDim S32768x32768 ![0, 1] bcast_S1x32768_S32768x32768_0_1 (broadcastInDim S1x32768 ![1] bcast_S32768_S1x32768_1 (iotaInDim S32768 32 0)))
      (broadcastInDim S32768x32768 ![0, 1] bcast_S32768x1_S32768x32768_0_1 (broadcastInDim S32768x1 ![0] bcast_S32768_S32768x1_0 (iotaInDim S32768 32 0))))
/-- The rank of each assignment within its expert. -/
def rank (v : IVec S32768 32) : IVec S32768 32 :=
  Host.reduce IntOp.addi (extui 32 (earlier v) natLt_1_32) (constantI S_ 32 0#32) reducesTo_S32768x32768_S32768_d1 h_S_
/-- The assignments of each expert. -/
def counts (v : IVec S32768 32) : IVec S32 32 :=
  Host.reduce IntOp.addi (extui 32 (cmpi .eq (broadcastInDim S32768x32 ![0, 1] bcast_S32768x1_S32768x32_0_1 (broadcastInDim S32768x1 ![0] bcast_S32768_S32768x1_0 v))
    (broadcastInDim S32768x32 ![0, 1] bcast_S1x32_S32768x32_0_1 (broadcastInDim S1x32 ![1] bcast_S32_S1x32_1 (iotaInDim S32 32 0)))) natLt_1_32)
    (constantI S_ 32 0#32) reducesTo_S32768x32_S32_d0 h_S_
/-- The tiles of each expert. -/
def tilesOf (v : IVec S32768 32) : IVec S32 32 :=
  pyDiv bcast_S_S32 (subi (addi (counts v) (broadcastInDim S32 ![] bcast_S_S32 (constantI S_ 32 512#32))) (broadcastInDim S32 ![] bcast_S_S32 (constantI S_ 32 1#32)))
    (constantI S_ 32 512#32)
/-- The tiles before each assignment's expert. -/
def before (v : IVec S32768 32) : IVec S32768 32 :=
  Host.reduce IntOp.addi (select (cmpi .sgt (broadcastInDim S32768x32 ![0, 1] bcast_S32768x1_S32768x32_0_1 (broadcastInDim S32768x1 ![0] bcast_S32768_S32768x1_0 v))
      (broadcastInDim S32768x32 ![0, 1] bcast_S1x32_S32768x32_0_1 (broadcastInDim S1x32 ![1] bcast_S32_S1x32_1 (iotaInDim S32 32 0))))
    (broadcastInDim S32768x32 ![0, 1] bcast_S1x32_S32768x32_0_1 (broadcastInDim S1x32 ![1] bcast_S32_S1x32_1 (tilesOf v)))
    (broadcastInDim S32768x32 ![] bcast_S_S32768x32 (constantI S_ 32 0#32)))
    (constantI S_ 32 0#32) reducesTo_S32768x32_S32768_d1 h_S_
/-- The row of each assignment. -/
def rowOf (v : IVec S32768 32) : IVec S32768 32 :=
  addi (muli (before v) (broadcastInDim S32768 ![] bcast_S_S32768 (constantI S_ 32 512#32))) (rank v)
/-- The column of row words the scatter takes. -/
def rowCol (r : IVec S32768 32) : IVec S32768x1 32 :=
  broadcastInDim S32768x1 ![0] bcast_S32768_S32768x1_0 (select (cmpi .slt r (broadcastInDim S32768 ![] bcast_S_S32768 (constantI S_ 32 0#32)))
    (addi r (broadcastInDim S32768 ![] bcast_S_S32768 (constantI S_ 32 49152#32))) r)
section Reading
variable (v : IVec S32768 32) (e : ℕ → ℕ) (hv : ∀ a : Fin 32768, v (ix1 a) = BitVec.ofNat 32 (e a.val)) (he : ∀ a, a < 32768 → e a < 32)
include hv he

theorem earlier_at (a b : Fin 32768) : earlier v (ix2 a b) = 1#1 ↔ (b.val < a.val ∧ e b.val = e a.val) := by
  unfold earlier
  show IntOp.andi (IntOp.cmpi .eq _ _) (IntOp.cmpi .slt _ _) = 1#1 ↔ _
  rw [bcCols, bcRows, bcCols, bcRows, hv, hv, iota1_ap, iota1_ap,
    WordCmp.cmpi_eq_ofNat (w := 32) (by have := he _ b.isLt; omega) (by have := he _ a.isLt; omega),
    WordCmp.cmpi_slt_ofNat (w := 32) (by have := b.isLt; omega) (by have := a.isLt; omega), IntOp.andi_eq_one, StableHlo.Predicate.ofBool_eq_one_iff, StableHlo.Predicate.ofBool_eq_one_iff, decide_eq_true_iff, decide_eq_true_iff]
  exact and_comm

theorem rank_at (a : Fin 32768) : rank v (ix1 a) = BitVec.ofNat 32 (rk e a.val) := by
  unfold rank
  rw [reduce_count (n := 32768) (m := 32768) (by decide) (earlier v) natLt_1_32 _ _ a (fun b => b < a.val ∧ e b = e a.val) (fun b => earlier_at v e hv he a b)]
  exact congrArg (BitVec.ofNat 32) (count_and_lt (fun b => e b = e a.val) a.val 32768 a.isLt.le)

theorem counts_at (x : Fin 32) : counts v (ix1 x) = BitVec.ofNat 32 (cnt e x.val) := by
  unfold counts
  rw [reduce_count_down (n := 32768) (m := 32) (by decide) _ natLt_1_32 _ _ x (fun b => e b = x.val) (fun b => by
    show IntOp.cmpi .eq _ _ = 1#1 ↔ _
    rw [bcRows, bcCols, hv, iota1_ap, WordCmp.cmpi_eq_ofNat (w := 32) (by have := he _ b.isLt; omega) (by have := x.isLt; omega),
      StableHlo.Predicate.ofBool_eq_one_iff, decide_eq_true_iff])]
  rfl

theorem tilesOf_at (x : Fin 32) : tilesOf v (ix1 x) = BitVec.ofNat 32 (tiles e x.val) := by
  have hc := cnt_le e x.val
  unfold tilesOf
  rw [pyDiv_ap bcast_S_S32 _ _ (ix1 x) (a := cnt e x.val + 512 - 1) (b := 512) (by
      rw [subi_ap, addi_ap, counts_at v e hv he, bc0, bc0]
      show BitVec.ofNat 32 _ + BitVec.ofNat 32 512 - 1#32 = _
      rw [← BitVec.ofNat_add, StableHlo.Predicate.sub_one_ofNat _ (by omega) (by omega)]) rfl (by omega) (by decide) (by decide)]
  rfl

theorem before_at (a : Fin 32768) : before v (ix1 a) = BitVec.ofNat 32 ((List.range (e a.val)).map (tiles e)).sum := by
  have ha := he _ a.isLt
  unfold before
  rw [reduce_row (n := 32768) (m := 32) _ (fun x => if x < e a.val then tiles e x else 0) a (fun q => by
    have hq := q.isLt
    show Scalar.select (IntOp.cmpi .sgt _ _) _ _ = _
    rw [bcRows, bcCols, hv, iota1_ap, bcCols, tilesOf_at v e hv he, bc0,
      cmpi_sgt_small _ _ (by omega) (by omega)]
    by_cases h : q.val < e a.val
    · rw [if_pos h, decide_eq_true h]; rfl
    · rw [if_neg h, decide_eq_false h]; rfl), sum_below _ _ 32 (by omega)]

theorem rowOf_at (a : Fin 32768) : rowOf v (ix1 a) = BitVec.ofNat 32 (row e a.val) := by
  unfold rowOf
  rw [addi_ap, muli_ap, before_at v e hv he, rank_at v e hv he, bc0]
  show BitVec.ofNat 32 _ * BitVec.ofNat 32 512 + _ = _
  rw [← BitVec.ofNat_mul, ← BitVec.ofNat_add]
  congr 1
  unfold row st
  rw [sum_mul_right]

theorem rowCol_at (a : Fin 32768) : rowCol (rowOf v) (ix2 a 0) = BitVec.ofNat 32 (row e a.val) := by
  unfold rowCol
  rw [bcCol]
  show Scalar.select (IntOp.cmpi .slt _ (broadcastInDim S32768 ![] bcast_S_S32768 (constantI S_ 32 0#32) (ix1 a))) _ _ = _
  rw [bc0]
  show Scalar.select (IntOp.cmpi .slt _ 0#32) _ _ = _
  rw [wrap_of_lt, rowOf_at v e hv he]
  rw [rowOf_at v e hv he, BitVec.toNat_ofNat]
  exact lt_of_le_of_lt (Nat.mod_le _ _) (lt_trans (row_lt a.isLt (he _ a.isLt)) (by decide))

end Reading

variable (m : (ℓ : Loc nD τ sig) → Buf (Elt Ideal) ℓ)

/-- The experts, one assignment after another. -/
def flat (c : Dev nD) : IVec S32768 32 := shapeCast S32768 (m ((c : Thread nD τ).loc main_arg0)) shapeCasts_S16384x2_S32768

/-- The two rows of each token. -/
def both (ys : FVec Ideal S49152x1024 .f32) (idx : IVec S32768x1 32) : FVec Ideal S16384x2x1024 .f32 :=
  shapeCast S16384x2x1024 (Host.gather gather_S49152x1024_S32768x1_S32768x1024_1_0_n_n_0_1_11024 ys idx) shapeCasts_S32768x1024_S16384x2x1024
/-- The two weights of each token. -/
def wide (wt : FVec Ideal S16384x128 .f32) : FVec Ideal S16384x2x1024 .f32 :=
  broadcastInDim S16384x2x1024 ![0, 1, 2] bcast_S16384x2x1_S16384x2x1024_0_1_2
    (broadcastInDim S16384x2x1 ![0, 1] bcast_S16384x2_S16384x2x1_0_1 (extractStridedSlice S16384x2 ![0, 0] wt slices_S16384x128_S16384x2_0_0))

set_option maxRecDepth 8192 in
theorem result_eq (c : Dev nD) : Value.res_main_v52 m c
    = addf (F := Ideal) (m ((c : Thread nD τ).loc main_arg2)) (Host.reduceAdd (F := Ideal) (mulf (wide (m ((c : Thread nD τ).loc main_arg1)))
        (both (m ((c : Thread nD τ).loc main_arg3)) (rowCol (rowOf (flat m c))))) (constant (F := Ideal) S_ .f32 0x00000000#32) reducesTo_S16384x2x1024_S16384x1024_d1 h_S_) := by
  unfold Value.res_main_v52; rfl

theorem both_at (ys : FVec Ideal S49152x1024 .f32) (idx : IVec S32768x1 32) (r : Fin 16384) (s : Fin 2) (l : Fin 1024) (b : Fin 49152)
    (hb : idx (ix2 ⟨2 * r.val + s.val, by omega⟩ 0) = BitVec.ofNat 32 b.val) : both ys idx (ix3 r s l) = ys (ix2 b l) := by
  unfold both
  rw [shapeCast_apply _ shapeCasts_S32768x1024_S16384x2x1024 (ix3 r s l) (ix2 (n0 := 32768) (n1 := 1024) ⟨2 * r.val + s.val, by omega⟩ l) (by
    rw [Shape.rowMajor_val_two, Shape.rowMajor_val_three]
    show (2 * r.val + s.val) * 1024 + l.val = (r.val * 2 + s.val) * 1024 + l.val
    omega)]
  exact gather_row (nb := 49152) (B := 1024) (n := 32768) _ rfl rfl rfl rfl rfl ys idx _ l b hb (by decide)

theorem wide_at (wt : FVec Ideal S16384x128 .f32) (r : Fin 16384) (s : Fin 2) (l : Fin 1024) :
    wide wt (ix3 r s l) = wt (ix2 (n0 := 16384) (n1 := 128) r ⟨s.val, by omega⟩) := by
  unfold wide
  refine (broadcastInDim_apply _ _ _ (ix3 r s l) (ix3 (n0 := 16384) (n1 := 2) (n2 := 1) r s 0) fun b => ?_).trans ?_
  · match b with
    | ⟨0, _⟩ => rfl
    | ⟨1, _⟩ => rfl
    | ⟨2, _⟩ => rfl
  refine (broadcastInDim_apply _ _ _ (ix3 (n0 := 16384) (n1 := 2) (n2 := 1) r s 0) (ix2 (n0 := 16384) (n1 := 2) r s) fun b => ?_).trans ?_
  · match b with
    | ⟨0, _⟩ => rfl
    | ⟨1, _⟩ => rfl
  refine extractStridedSlice_apply _ _ _ _ _ fun b => ?_
  match b with
  | ⟨0, _⟩ => show r.val = 0 + r.val; omega
  | ⟨1, _⟩ => show s.val = 0 + s.val; omega

/-- Token `r`'s column `l`: its entry of `x`, and the entries of its two rows of `ys`, each scaled by its weight. -/
def sum (wt : S16384x128.Idx → EReal) (x : S16384x1024.Idx → EReal) (ys : S49152x1024.Idx → EReal) (r : Fin 16384) (l : Fin 1024) (b0 b1 : Fin 49152) : EReal :=
  x (ix2 r l) + (wt (ix2 r 0) * ys (ix2 b0 l) + wt (ix2 r 1) * ys (ix2 b1 l))

theorem result_at (c : Dev nD) (e : ℕ → ℕ) (hv : ∀ a : Fin 32768, flat m c (ix1 a) = BitVec.ofNat 32 (e a.val)) (he : ∀ a, a < 32768 → e a < 32)
    (r : Fin 16384) (l : Fin 1024) (b0 b1 : Fin 49152) (h0 : b0.val = row e (2 * r.val)) (h1 : b1.val = row e (2 * r.val + 1)) :
    @Eq EReal (Value.res_main_v52 m c (ix2 r l))
      (sum (m ((c : Thread nD τ).loc main_arg1)) (m ((c : Thread nD τ).loc main_arg2)) (m ((c : Thread nD τ).loc main_arg3)) r l b0 b1) := by
  have k0 := both_at (m ((c : Thread nD τ).loc main_arg3)) (rowCol (rowOf (flat m c))) r 0 l b0
    ((rowCol_at _ e hv he ⟨2 * r.val + 0, by omega⟩).trans (congrArg (BitVec.ofNat 32) h0.symm))
  have k1 := both_at (m ((c : Thread nD τ).loc main_arg3)) (rowCol (rowOf (flat m c))) r 1 l b1
    ((rowCol_at _ e hv he ⟨2 * r.val + 1, by omega⟩).trans (congrArg (BitVec.ofNat 32) h1.symm))
  have w0 := wide_at (m ((c : Thread nD τ).loc main_arg1)) r 0 l
  have w1 := wide_at (m ((c : Thread nD τ).loc main_arg1)) r 1 l
  rw [result_eq]
  unfold sum
  refine congrArg (fun z : EReal => @HAdd.hAdd EReal EReal EReal _ (m ((c : Thread nD τ).loc main_arg2) (ix2 (n0 := 16384) (n1 := 1024) r l)) z) ?_
  refine (Ideal.hostReduceAdd_r3_a1 (n0 := 16384) (n1 := 2) (n2 := 1024) reducesTo_S16384x2x1024_S16384x1024_d1 _ _ (ix2 r l)).trans ?_
  rw [Fin.sum_univ_two]
  refine (congrArg₂ (fun p q : EReal => p + q) (Ideal.ofBits_zero_f32) rfl).trans ?_
  rw [zero_add]
  refine congrArg₂ (fun p q : EReal => p + q) ?_ ?_
  · exact congrArg₂ (fun p q : EReal => p * q) w0 k0
  · exact congrArg₂ (fun p q : EReal => p * q) w1 k1

end Cert.Reference3Ideal.Hand
-- ==== Proof.CEq.lean ====
/- The combine program's array is the reference's, where the experts are in range. -/
module

public import proofs.«01_k».proof.Proof.CVal
public import proofs.«01_k».proof.Proof.CRVal
public import proofs.«01_k».proof.Proof.Eq
public import proofs.«01_k».proof.Pre_ids_in_range3

@[expose] public section

noncomputable section

namespace Cert.Hand.Combine

open Cert.Pos Cert.Hand
open Idealize.ShloMosaic hiding ix0 ix1 ix2 ix3 ix4 eq_ix2
open Idealize.ShloMosaic.TcCoe Idealize.ShloMosaic.ValueIdx Idealize.ShloMosaic.Routing Idealize.SL.Sem

/-- The precondition's side conditions. -/
instance preFacts : Cert.Pre_ids_in_range3.Facts where
  bcast_S_S16384x2 := by decide
  reducesTo_S16384x2_S_d0_1 := by decide
  h_S_ := by decide

/-- Under the precondition every expert is one of the 32. -/
theorem ids_lt {F : FTy → Type} [FloatOps F] (ids : IVec Cert.Pre_ids_in_range3.S16384x2 32) (wt : FVec F Cert.Pre_ids_in_range3.S16384x128 .f32)
    (x : FVec F Cert.Pre_ids_in_range3.S16384x1024 .f32) (ys : FVec F Cert.Pre_ids_in_range3.S49152x1024 .f32)
    (h : Cert.Pre_ids_in_range3.fn (F := F) ids wt x ys = fun _ => 1#1) (i : Cert.Pre_ids_in_range3.S16384x2.Idx) : (ids i).toNat < 32 := by
  haveI : Subsingleton Cert.Pre_ids_in_range3.S_.Idx := ⟨fun a b => funext fun k => k.elim0⟩
  have h0 := congrFun h ix0
  have hi := Host.reduce_andi_all _ _ _ _ _ h0 i
  obtain ⟨a, b⟩ := IntOp.andi_eq_one.1 hi
  refine lt_of_range _ ?_ ?_
  · have := a; exact this
  · have := b; exact this

open Cert.Kernel3Ideal Cert.Kernel3Ideal.Gen Cert.Kernel3Ideal.Hand

/-- Under the precondition every assignment's expert is one of the 32. -/
theorem expert_lt {F : FTy → Type} [FloatOps F] [∀ e, Nonempty (Elt F e)] (m : (ℓ : Loc nD τ sig) → Buf (Elt F) ℓ)
    (h : ∀ c : Dev nD, Cert.Pre_ids_in_range3.fn (F := F) (m ((c.tc : Thread nD τ).loc main_arg0)) (m ((c.tc : Thread nD τ).loc main_arg1))
      (m ((c.tc : Thread nD τ).loc main_arg2)) (m ((c.tc : Thread nD τ).loc main_arg3)) = fun _ => 1#1) (c : Dev nD) (a : ℕ) (ha : a < 32768) : expert m c a < 32 := by
  unfold expert
  rw [dif_pos ha]
  unfold flat
  rw [cast21 (a := 16384) (b := 2) (n := 32768) _ _ ⟨a / 2, by omega⟩ ⟨a % 2, by omega⟩ ⟨a, ha⟩ (by show a = a / 2 * 2 + a % 2; omega)]
  exact ids_lt _ _ _ _ (h c) _

/-- The two arrays are equal. -/
theorem same (m : (ℓ : Loc nD τ sig) → Buf (Elt Ideal) ℓ) (hg : Good m)
    (m' : (ℓ : Loc Cert.Reference3Ideal.nD Cert.Reference3Ideal.τ Cert.Reference3Ideal.sig) → Buf (Elt Ideal) ℓ) (c : Dev nD)
    (h0 : m' ((c.tc : Thread Cert.Reference3Ideal.nD Cert.Reference3Ideal.τ).loc Cert.Reference3Ideal.main_arg0) = m ((c.tc : Thread nD τ).loc main_arg0))
    (h1 : m' ((c.tc : Thread Cert.Reference3Ideal.nD Cert.Reference3Ideal.τ).loc Cert.Reference3Ideal.main_arg1) = m ((c.tc : Thread nD τ).loc main_arg1))
    (h2 : m' ((c.tc : Thread Cert.Reference3Ideal.nD Cert.Reference3Ideal.τ).loc Cert.Reference3Ideal.main_arg2) = m ((c.tc : Thread nD τ).loc main_arg2))
    (h3 : m' ((c.tc : Thread Cert.Reference3Ideal.nD Cert.Reference3Ideal.τ).loc Cert.Reference3Ideal.main_arg3) = m ((c.tc : Thread nD τ).loc main_arg3))
    (he : ∀ a, a < 32768 → expert m c a < 32) :
    Cert.Reference3Ideal.Value.res_main_v52 m' c = (dats m hg 0 c).arrAt 4 cfg0.N := by
  have hv : ∀ a : Fin 32768, Cert.Reference3Ideal.Hand.flat m' c (ix1 a) = BitVec.ofNat 32 (expert m c a.val) := fun a => by
    rw [← flat_at m c he a]
    unfold Cert.Reference3Ideal.Hand.flat
    rw [h0]; rfl
  funext i
  obtain ⟨r, l, rfl⟩ : ∃ (r : Fin 16384) (l : Fin 1024), i = ix2 r l := ⟨i 0, i 1, ValueIdx.eq_ix2 i⟩
  refine Eq.trans ?_ (array_at m hg c he r l).symm
  refine (Cert.Reference3Ideal.Hand.result_at m' c (expert m c) hv he r l (rowFin m c he (2 * r.val) (by omega))
    (rowFin m c he (2 * r.val + 1) (by omega)) rfl rfl).trans ?_
  rw [h1, h2, h3]
  unfold Cert.Reference3Ideal.Hand.sum elemm elem
  exact (add_assoc _ _ _).symm

end Cert.Hand.Combine
-- ==== Proof.BCEq.lean ====
/- The same range of experts at the kernel's program as it runs on bits: it is a program of its own, with its own buffers. -/
module

public import proofs.«01_k».proof.Proof.BCHost
public import proofs.«01_k».proof.Proof.CEq

@[expose] public section

noncomputable section

namespace Cert.Hand.Combine.OnBits

open Cert.Pos Cert.Hand
open Idealize.ShloMosaic hiding ix0 ix1 ix2 ix3 ix4 eq_ix2
open Idealize.ShloMosaic.TcCoe Idealize.ShloMosaic.ValueIdx Idealize.ShloMosaic.Routing Idealize.SL.Sem
open Cert.Kernel3 Cert.Kernel3.Gen Cert.Kernel3.Hand

/-- Under the precondition every assignment's expert is one of the 32. -/
theorem expert_lt {F : FTy → Type} [FloatOps F] [∀ e, Nonempty (Elt F e)] (m : (ℓ : Loc nD τ sig) → Buf (Elt F) ℓ)
    (h : ∀ c : Dev nD, Cert.Pre_ids_in_range3.fn (F := F) (m ((c.tc : Thread nD τ).loc main_arg0)) (m ((c.tc : Thread nD τ).loc main_arg1))
      (m ((c.tc : Thread nD τ).loc main_arg2)) (m ((c.tc : Thread nD τ).loc main_arg3)) = fun _ => 1#1) (c : Dev nD) (a : ℕ) (ha : a < 32768) : expert m c a < 32 := by
  unfold expert
  rw [dif_pos ha]
  unfold flat
  rw [cast21 (a := 16384) (b := 2) (n := 32768) _ _ ⟨a / 2, by omega⟩ ⟨a % 2, by omega⟩ ⟨a, ha⟩ (by show a = a / 2 * 2 + a % 2; omega)]
  exact ids_lt _ _ _ _ (h c) _

end Cert.Hand.Combine.OnBits
-- ==== Proof.IDef.lean ====
/- A row scaled to unit mean square and by a gain, and its product with a column. -/
module

public import Idealize.ShloMosaic.PureOps.Ideal

@[expose] public section

noncomputable section

namespace Cert.Hand.Proj

open Idealize.ShloMosaic

/-- Entry `k` of the row `x`, divided by the root of its mean square (plus 1e-6) and times the gain. -/
def normed (x g : Fin 1024 → EReal) (k : Fin 1024) : EReal :=
  x k * Ideal.rsqrt (Ideal.div (∑ j, x j * x j) (Ideal.ofBits .f32 0x44800000#32) + Ideal.ofBits .f32 0x358637BD#32) * g k
/-- That row times the column `w`. -/
def prod (x g w : Fin 1024 → EReal) : EReal := ∑ k, normed x g k * w k

end Cert.Hand.Proj
-- ==== Proof.IVal.lean ====
/- What the input projections' call leaves in its last four results, over the extended reals: each row scaled, through a column of the
   third argument. -/
module

public import proofs.«01_k».proof.Proof.IDef
public import proofs.«01_k».proof.Proof.Gen.Kernel4Ideal.Value
public import Idealize.ShloMosaic.Lib.Pipeline.ValueKit.Geometry
public import Idealize.ShloMosaic.Lib.Pipeline.ValueKit.Tiles
public import Idealize.ShloMosaic.Lib.IdealHost
public import Idealize.ShloMosaic.Lib.Pointwise.Contract
public import Idealize.ShloMosaic.Lib.Pointwise.Reduce

@[expose] public section

set_option maxRecDepth 16384

noncomputable section

namespace Cert.Kernel4Ideal.Hand

open Cert.Kernel4Ideal Cert.Kernel4Ideal.Gen Cert.Hand.Proj
open Idealize.ShloMosaic hiding ix0 ix1 ix2 ix3 ix4 eq_ix2
open Idealize.ShloMosaic.TcCoe Idealize.ShloMosaic.ValueIdx
open Idealize.SL.Sem Idealize.ShloMosaic.StableHlo
open Idealize.ShloMosaic.Pipeline (Dat)

/-! ## A block's products -/

theorem pay1_at (x : Vec Ideal S512x1024 .f32) (g : Vec Ideal S1x1024 .f32) (a : Fin 512) (k : Fin 1024) :
    @Eq EReal (k0_pay1 x g (ix2 a k)) (normed (fun j => x (ix2 a j)) (fun j => g (ix2 (n0 := 1) (n1 := 1024) 0 j)) k) := by
  unfold k0_pay1 normed
  refine congrArg₂ (fun p q : EReal => p * q) (congrArg (fun q : EReal => @HMul.hMul EReal EReal EReal _ (x (ix2 a k)) q) ?_) ?_
  · refine (broadcastTo_apply _ _ (ix2 a k) (ix2 (n0 := 512) (n1 := 1) a 0) fun b => ?_).trans ?_
    · match b with
      | ⟨0, _⟩ => rfl
      | ⟨1, _⟩ => rfl
    refine congrArg (fun z : EReal => Ideal.rsqrt (Ideal.div z (Ideal.ofBits .f32 0x44800000#32) + Ideal.ofBits .f32 0x358637BD#32)) ?_
    refine (shapeCast_apply _ shapeCasts_S512_S512x1 (ix2 (n0 := 512) (n1 := 1) a 0) (ix1 a) (by
      rw [Shape.rowMajor_val_one, Shape.rowMajor_val_two]
      show a.val = a.val * 1 + 0
      omega)).trans ?_
    exact Ideal.reduceAdd_r2_a1 (n0 := 512) (n1 := 1024) reduces_S512x1024_S512 _ (ix1 a)
  · refine (broadcastTo_apply _ _ (ix2 a k) (ix2 (n0 := 1) (n1 := 1024) 0 k) fun b => ?_).trans ?_
    · match b with
      | ⟨0, _⟩ => rfl
      | ⟨1, _⟩ => rfl
    exact shapeCast_apply _ shapeCasts_S1x1024_S1x1024 _ _ rfl

theorem dot_at (x : FVec Ideal S512x1024 .bf16) (w : FVec Ideal S1024x512 .bf16) (a l : Fin 512) :
    matmul (F := Ideal) dot_S512x1024_S1024x512_S512x512_1_0_0_1_n_n none x w (constant S512x512 .f32 0x00000000#32) (ix2 a l)
      = ∑ k : Fin 1024, x (ix2 a k) * w (ix2 k l) := by
  refine Eq.trans (Ideal.matmul_apply _ _ _ _ _ _) ?_
  show Ideal.ofBits .f32 0x00000000#32 + _ = _
  rw [Ideal.ofBits_zero_f32, zero_add]
  refine (DotDims.sum_contr₁ _ (a := (1 : Fin 2)) rfl (K := 1024) rfl _).trans (Finset.sum_congr rfl fun k _ => ?_)
  refine congrArg₂ (· * ·) (congrArg x (funext fun p => ?_)) (congrArg w (funext fun p => ?_))
  · match p with
    | ⟨0, _⟩ => rfl
    | ⟨1, _⟩ => rfl
  · match p with
    | ⟨0, _⟩ => rfl
    | ⟨1, _⟩ => rfl

/-- A block's rows through the columns `o …`. -/
def blk (x : Vec Ideal S512x1024 .f32) (g : Vec Ideal S1x1024 .f32) (w : Vec Ideal S1024x3072 .bf16) (a : Fin 512) (q : Fin 3072) : EReal :=
  prod (fun j => x (ix2 a j)) (fun j => g (ix2 (n0 := 1) (n1 := 1024) 0 j)) (fun k => w (ix2 (n0 := 1024) (n1 := 3072) k q))

theorem part_at (x : Vec Ideal S512x1024 .f32) (g : Vec Ideal S1x1024 .f32) (w : Vec Ideal S1024x3072 .bf16) (v : Vec Ideal S1024x512 .bf16)
    (a l : Fin 512) (q : Fin 3072) (hv : ∀ k : Fin 1024, v (ix2 k l) = w (ix2 (n0 := 1024) (n1 := 3072) k q)) :
    matmul (F := Ideal) dot_S512x1024_S1024x512_S512x512_1_0_0_1_n_n none (k0_pay1 (F := Ideal) x g) (shapeCast S1024x512 v shapeCasts_S1024x512_S1024x512 : FVec Ideal S1024x512 .bf16)
      (constant (F := Ideal) S512x512 .f32 0x00000000#32) (ix2 a l) = blk x g w a q := by
  unfold blk prod
  refine (dot_at _ _ a l).trans (Finset.sum_congr rfl fun k _ => ?_)
  exact congrArg₂ (fun p q : EReal => p * q) (pay1_at x g a k) ((shapeCast_apply _ shapeCasts_S1024x512_S1024x512 _ _ rfl).trans (hv k))

theorem cols_at (w : Vec Ideal S1024x3072 .bf16) (o : ℕ) (inb) (k : Fin 1024) (l : Fin 512) (q : Fin 3072) (hq : q.val = o + l.val) :
    View.ld w (Rect.unit (s := S1024x3072) ![0, o] S1024x512.size inb) (ix2 (n0 := 1024) (n1 := 512) k l) = w (ix2 (n0 := 1024) (n1 := 3072) k q) :=
  View.ld_unit_apply_of w _ _ inb _ _ fun b => by
    match b with
    | ⟨0, _⟩ => show k.val = 0 + k.val; omega
    | ⟨1, _⟩ => exact hq

section Out
variable (x0 : Vec Ideal S512x1024 .f32) (x1 : Vec Ideal S1x1024 .f32) (x2 : Vec Ideal S1024x3072 .bf16) (x3 x4 : Vec Ideal S1x512 .f32)
  (x5 x6 x7 : Vec Ideal S512x128 .f32) (x8 : Vec Ideal S512x512 .bf16) (a l : Fin 512)

theorem first_eq : k0_pay20 x0 x1 x2 x3 x4 x5 x6 x7 x8 = k0_pay1 x0 x1 := by
  unfold k0_pay20
  rw [View.ld_unit_lit (S := S512x1024) _ x0 (by decide), View.ld_unit_lit (S := S1x1024) _ x1 (by decide)]

theorem out11_at : @Eq EReal (out0_11 x0 x1 x2 x3 x4 x5 x6 x7 x8 (ix2 a l)) (blk x0 x1 x2 a ⟨1024 + l.val, by omega⟩) := by
  unfold out0_11
  rw [View.canon_cons_unit_lit (S := S512x512) _ _ _ (by decide), first_eq]
  exact part_at x0 x1 x2 _ a l _ fun k => cols_at x2 1024 _ k l _ rfl
theorem out12_at : @Eq EReal (out0_12 x0 x1 x2 x3 x4 x5 x6 x7 x8 (ix2 a l)) (blk x0 x1 x2 a ⟨1536 + l.val, by omega⟩ * Ideal.ofBits .f32 0x3E000000#32) := by
  unfold out0_12
  rw [View.canon_cons_unit_lit (S := S512x512) _ _ _ (by decide), first_eq]
  exact congrArg (fun z : EReal => z * Ideal.ofBits .f32 0x3E000000#32) (part_at x0 x1 x2 _ a l _ fun k => cols_at x2 1536 _ k l _ rfl)
theorem out13_at : @Eq EReal (out0_13 x0 x1 x2 x3 x4 x5 x6 x7 x8 (ix2 a l)) (blk x0 x1 x2 a ⟨2048 + l.val, by omega⟩) := by
  unfold out0_13
  rw [View.canon_cons_unit_lit (S := S512x512) _ _ _ (by decide), first_eq]
  exact part_at x0 x1 x2 _ a l _ fun k => cols_at x2 2048 _ k l _ rfl
theorem out14_at : @Eq EReal (out0_14 x0 x1 x2 x3 x4 x5 x6 x7 x8 (ix2 a l)) (blk x0 x1 x2 a ⟨2560 + l.val, by omega⟩) := by
  unfold out0_14
  rw [View.canon_cons_unit_lit (S := S512x512) _ _ _ (by decide), first_eq]
  exact part_at x0 x1 x2 _ a l _ fun k => cols_at x2 2560 _ k l _ rfl
end Out

/-! ## The windows' blocks -/

variable (m : (ℓ : Loc nD τ sig) → Buf (Elt Ideal) ℓ)

set_option maxHeartbeats 8000000 in
theorem V_gain (c : Dev nD) : V m c main_v43 = broadcastInDim S1x1024 ![1] bcast_S1024_S1x1024_1 (m ((c : Thread nD τ).loc main_arg1)) := by
  simp only [V, hostOps0, hostOps0_1, hostOps0_2, List.flatten_cons, List.flatten_nil, List.append_nil, List.cons_append, List.nil_append]
  after_results_simp
set_option maxHeartbeats 8000000 in
theorem V_weights (c : Dev nD) : V m c main_v44 = truncf (F := Ideal) (s := S1024x3072) .bf16 (m ((c : Thread nD τ).loc main_arg2)) bitsLt_bf16_f32 := by
  simp only [V, hostOps0, hostOps0_1, hostOps0_2, List.flatten_cons, List.flatten_nil, List.append_nil, List.cons_append, List.nil_append]
  after_results_simp

theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![0, 0] := by decide +kernel
theorem index11 : ∀ t : Fin cfg0.N, win0_11.index t = ![t.val, 0] := by decide +kernel
theorem index12 : ∀ t : Fin cfg0.N, win0_12.index t = ![t.val, 0] := by decide +kernel
theorem index13 : ∀ t : Fin cfg0.N, win0_13.index t = ![t.val, 0] := by decide +kernel
theorem index14 : ∀ t : Fin cfg0.N, win0_14.index t = ![t.val, 0] := by decide +kernel

theorem rows_eq (c : Dev nD) (t : Fin cfg0.N) (a : Fin 512) (k : Fin 1024) (r : Fin 16384) (hr : r.val = 512 * t.val + a.val) :
    iblk m c 0 t (ix2 (n0 := 512) (n1 := 1024) a k) = m ((c : Thread nD τ).loc main_arg0) (ix2 (n0 := 16384) (n1 := 1024) r k) := by
  rw [← V_main_arg0 m c]
  unfold iblk
  show V m c main_arg0 _ = V m c main_arg0 _
  refine congrArg (V m c main_arg0) (funext fun b => Fin.ext ?_)
  match b with
  | ⟨0, _⟩ => blk_simp [index0]; show t.val * 512 + a.val = r.val; omega
  | ⟨1, _⟩ => blk_simp [index0]
theorem gain_eq (c : Dev nD) (t : Fin cfg0.N) (k : Fin 1024) :
    iblk m c 1 t (ix2 (n0 := 1) (n1 := 1024) 0 k) = m ((c : Thread nD τ).loc main_arg1) (ix1 (n := 1024) k) := by
  refine Eq.trans (b := V m c main_v43 (ix2 (n0 := 1) (n1 := 1024) 0 k)) ?_ ?_
  · unfold iblk
    show V m c main_v43 _ = V m c main_v43 _
    refine congrArg (V m c main_v43) (funext fun b => Fin.ext ?_)
    match b with
    | ⟨0, _⟩ => blk_simp [index1]
    | ⟨1, _⟩ => blk_simp [index1]
  · rw [V_gain]
    refine broadcastInDim_apply _ _ _ _ _ fun b => ?_
    match b with
    | ⟨0, _⟩ => rfl
theorem weights_eq (c : Dev nD) (t : Fin cfg0.N) (k : Fin 1024) (q : Fin 3072) :
    @Eq EReal (iblk m c 2 t (ix2 (n0 := 1024) (n1 := 3072) k q)) (m ((c : Thread nD τ).loc main_arg2) (ix2 (n0 := 1024) (n1 := 3072) k q)) := by
  refine Eq.trans (b := V m c main_v44 (ix2 (n0 := 1024) (n1 := 3072) k q)) ?_ ?_
  · unfold iblk
    show V m c main_v44 _ = V m c main_v44 _
    refine congrArg (V m c main_v44) (funext fun b => Fin.ext ?_)
    match b with
    | ⟨0, _⟩ => blk_simp [index2]
    | ⟨1, _⟩ => blk_simp [index2]
  · rw [V_weights]; rfl

/-- Row `r` scaled, through column `q`. -/
def elem (c : Dev nD) (r : Fin 16384) (q : Fin 3072) : EReal :=
  prod (fun j => m ((c : Thread nD τ).loc main_arg0) (ix2 (n0 := 16384) (n1 := 1024) r j)) (fun j => m ((c : Thread nD τ).loc main_arg1) (ix1 (n := 1024) j))
    (fun k => m ((c : Thread nD τ).loc main_arg2) (ix2 (n0 := 1024) (n1 := 3072) k q))

theorem blk_at (c : Dev nD) (t : Fin cfg0.N) (a : Fin 512) (q : Fin 3072) (r : Fin 16384) (hr : r.val = 512 * t.val + a.val) :
    blk (iblk m c 0 t) (iblk m c 1 t) (iblk m c 2 t) a q = elem m c r q := by
  unfold blk elem
  rw [show (fun j => iblk m c 0 t (ix2 (n0 := 512) (n1 := 1024) a j)) = _ from funext fun j => rows_eq m c t a j r hr,
    show (fun j => iblk m c 1 t (ix2 (n0 := 1) (n1 := 1024) 0 j)) = _ from funext fun j => gain_eq m c t j,
    show (fun k => iblk m c 2 t (ix2 (n0 := 1024) (n1 := 3072) k q)) = _ from funext fun k => weights_eq m c t k q]

/-- Output window 11's array. -/
def arr11 (c : Dev nD) (r : Fin 16384) (l : Fin 512) : EReal := elem m c r ⟨1024 + l.val, by omega⟩
theorem array11_at (c : Dev nD) (r : Fin 16384) (l : Fin 512) :
    @Eq EReal ((dats m 0 c).arrAt 11 cfg0.N (ix2 (n0 := 16384) (n1 := 512) r l)) (arr11 m c r l) := by
  have hN : cfg0.N = 32 := by decide
  have h : (dats m 0 c).arrAt 11 cfg0.N = (fun i : S16384x512.Idx => arr11 m c (i 0) (i 1)) := by
    refine (dats m 0 c).arrAt_eq_of_emb 11 _ (fun t hf y => ?_) (fun i => ?_)
    · have ht : t.val < 32 := lt_of_lt_of_eq t.isLt hN
      have h0 : (y 0).val < 512 := (y 0).isLt
      have h1 : (y 1).val < 512 := (y 1).isLt
      refine Eq.trans (b := out0_11 (iblk m c 0 t) (iblk m c 1 t) (iblk m c 2 t) (iblk m c 3 t) (iblk m c 4 t) (iblk m c 5 t) (iblk m c 6 t) (iblk m c 7 t) (iblk m c 8 t)
        (ix2 (n0 := 512) (n1 := 512) ⟨(y 0).val, h0⟩ ⟨(y 1).val, h1⟩)) ?_ ?_
      · show (dats m 0 c).after 11 t _ = _
        rw [after0_11]
        refine congrArg (out0_11 _ _ _ _ _ _ _ _ _) (funext fun b => Fin.ext ?_)
        match b with
        | ⟨0, _⟩ => rfl
        | ⟨1, _⟩ => rfl
      · refine ((out11_at _ _ _ _ _ _ _ _ _ _ _).trans (blk_at m c t _ _ ⟨512 * t.val + (y 0).val, by omega⟩ rfl)).trans ?_
        show arr11 m c ⟨512 * t.val + (y 0).val, _⟩ ⟨(y 1).val, h1⟩ = arr11 m c _ _
        refine congrArg₂ (arr11 m c) (Fin.ext ?_) (Fin.ext ?_)
        · show 512 * t.val + (y 0).val = win0_11.index t 0 * 512 + 1 * (y 0).val
          rw [index11]; show 512 * t.val + (y 0).val = t.val * 512 + 1 * (y 0).val; omega
        · show (y 1).val = win0_11.index t 1 * 512 + 1 * (y 1).val
          rw [index11]; show (y 1).val = 0 * 512 + 1 * (y 1).val; omega
    · have h0 : (i 0).val < 16384 := (i 0).isLt
      have h1 : (i 1).val < 512 := (i 1).isLt
      refine ⟨⟨(i 0).val / 512, by omega⟩, flush0_11 _, ?_⟩
      refine ((cfg0.win 11).emb_mem_blk_iff _ i rfl).2 fun b => ?_
      rw [show (cfg0.win 11).index _ = _ from index11 _]
      match b with
      | ⟨0, _⟩ => show (i 0).val / 512 * 512 ≤ (i 0).val ∧ (i 0).val < (i 0).val / 512 * 512 + 512; omega
      | ⟨1, _⟩ => show 0 * 512 ≤ (i 1).val ∧ (i 1).val < 0 * 512 + 512; omega
  exact congrFun h _

/-- Output window 12's array. -/
def arr12 (c : Dev nD) (r : Fin 16384) (l : Fin 512) : EReal := elem m c r ⟨1536 + l.val, by omega⟩ * Ideal.ofBits .f32 0x3E000000#32
theorem array12_at (c : Dev nD) (r : Fin 16384) (l : Fin 512) :
    @Eq EReal ((dats m 0 c).arrAt 12 cfg0.N (ix2 (n0 := 16384) (n1 := 512) r l)) (arr12 m c r l) := by
  have hN : cfg0.N = 32 := by decide
  have h : (dats m 0 c).arrAt 12 cfg0.N = (fun i : S16384x512.Idx => arr12 m c (i 0) (i 1)) := by
    refine (dats m 0 c).arrAt_eq_of_emb 12 _ (fun t hf y => ?_) (fun i => ?_)
    · have ht : t.val < 32 := lt_of_lt_of_eq t.isLt hN
      have h0 : (y 0).val < 512 := (y 0).isLt
      have h1 : (y 1).val < 512 := (y 1).isLt
      refine Eq.trans (b := out0_12 (iblk m c 0 t) (iblk m c 1 t) (iblk m c 2 t) (iblk m c 3 t) (iblk m c 4 t) (iblk m c 5 t) (iblk m c 6 t) (iblk m c 7 t) (iblk m c 8 t)
        (ix2 (n0 := 512) (n1 := 512) ⟨(y 0).val, h0⟩ ⟨(y 1).val, h1⟩)) ?_ ?_
      · show (dats m 0 c).after 12 t _ = _
        rw [after0_12]
        refine congrArg (out0_12 _ _ _ _ _ _ _ _ _) (funext fun b => Fin.ext ?_)
        match b with
        | ⟨0, _⟩ => rfl
        | ⟨1, _⟩ => rfl
      · refine ((out12_at _ _ _ _ _ _ _ _ _ _ _).trans (congrArg (fun z : EReal => z * Ideal.ofBits .f32 0x3E000000#32) (blk_at m c t _ _ ⟨512 * t.val + (y 0).val, by omega⟩ rfl))).trans ?_
        show arr12 m c ⟨512 * t.val + (y 0).val, _⟩ ⟨(y 1).val, h1⟩ = arr12 m c _ _
        refine congrArg₂ (arr12 m c) (Fin.ext ?_) (Fin.ext ?_)
        · show 512 * t.val + (y 0).val = win0_12.index t 0 * 512 + 1 * (y 0).val
          rw [index12]; show 512 * t.val + (y 0).val = t.val * 512 + 1 * (y 0).val; omega
        · show (y 1).val = win0_12.index t 1 * 512 + 1 * (y 1).val
          rw [index12]; show (y 1).val = 0 * 512 + 1 * (y 1).val; omega
    · have h0 : (i 0).val < 16384 := (i 0).isLt
      have h1 : (i 1).val < 512 := (i 1).isLt
      refine ⟨⟨(i 0).val / 512, by omega⟩, flush0_12 _, ?_⟩
      refine ((cfg0.win 12).emb_mem_blk_iff _ i rfl).2 fun b => ?_
      rw [show (cfg0.win 12).index _ = _ from index12 _]
      match b with
      | ⟨0, _⟩ => show (i 0).val / 512 * 512 ≤ (i 0).val ∧ (i 0).val < (i 0).val / 512 * 512 + 512; omega
      | ⟨1, _⟩ => show 0 * 512 ≤ (i 1).val ∧ (i 1).val < 0 * 512 + 512; omega
  exact congrFun h _

/-- Output window 13's array. -/
def arr13 (c : Dev nD) (r : Fin 16384) (l : Fin 512) : EReal := elem m c r ⟨2048 + l.val, by omega⟩
theorem array13_at (c : Dev nD) (r : Fin 16384) (l : Fin 512) :
    @Eq EReal ((dats m 0 c).arrAt 13 cfg0.N (ix2 (n0 := 16384) (n1 := 512) r l)) (arr13 m c r l) := by
  have hN : cfg0.N = 32 := by decide
  have h : (dats m 0 c).arrAt 13 cfg0.N = (fun i : S16384x512.Idx => arr13 m c (i 0) (i 1)) := by
    refine (dats m 0 c).arrAt_eq_of_emb 13 _ (fun t hf y => ?_) (fun i => ?_)
    · have ht : t.val < 32 := lt_of_lt_of_eq t.isLt hN
      have h0 : (y 0).val < 512 := (y 0).isLt
      have h1 : (y 1).val < 512 := (y 1).isLt
      refine Eq.trans (b := out0_13 (iblk m c 0 t) (iblk m c 1 t) (iblk m c 2 t) (iblk m c 3 t) (iblk m c 4 t) (iblk m c 5 t) (iblk m c 6 t) (iblk m c 7 t) (iblk m c 8 t)
        (ix2 (n0 := 512) (n1 := 512) ⟨(y 0).val, h0⟩ ⟨(y 1).val, h1⟩)) ?_ ?_
      · show (dats m 0 c).after 13 t _ = _
        rw [after0_13]
        refine congrArg (out0_13 _ _ _ _ _ _ _ _ _) (funext fun b => Fin.ext ?_)
        match b with
        | ⟨0, _⟩ => rfl
        | ⟨1, _⟩ => rfl
      · refine ((out13_at _ _ _ _ _ _ _ _ _ _ _).trans (blk_at m c t _ _ ⟨512 * t.val + (y 0).val, by omega⟩ rfl)).trans ?_
        show arr13 m c ⟨512 * t.val + (y 0).val, _⟩ ⟨(y 1).val, h1⟩ = arr13 m c _ _
        refine congrArg₂ (arr13 m c) (Fin.ext ?_) (Fin.ext ?_)
        · show 512 * t.val + (y 0).val = win0_13.index t 0 * 512 + 1 * (y 0).val
          rw [index13]; show 512 * t.val + (y 0).val = t.val * 512 + 1 * (y 0).val; omega
        · show (y 1).val = win0_13.index t 1 * 512 + 1 * (y 1).val
          rw [index13]; show (y 1).val = 0 * 512 + 1 * (y 1).val; omega
    · have h0 : (i 0).val < 16384 := (i 0).isLt
      have h1 : (i 1).val < 512 := (i 1).isLt
      refine ⟨⟨(i 0).val / 512, by omega⟩, flush0_13 _, ?_⟩
      refine ((cfg0.win 13).emb_mem_blk_iff _ i rfl).2 fun b => ?_
      rw [show (cfg0.win 13).index _ = _ from index13 _]
      match b with
      | ⟨0, _⟩ => show (i 0).val / 512 * 512 ≤ (i 0).val ∧ (i 0).val < (i 0).val / 512 * 512 + 512; omega
      | ⟨1, _⟩ => show 0 * 512 ≤ (i 1).val ∧ (i 1).val < 0 * 512 + 512; omega
  exact congrFun h _

/-- Output window 14's array. -/
def arr14 (c : Dev nD) (r : Fin 16384) (l : Fin 512) : EReal := elem m c r ⟨2560 + l.val, by omega⟩
theorem array14_at (c : Dev nD) (r : Fin 16384) (l : Fin 512) :
    @Eq EReal ((dats m 0 c).arrAt 14 cfg0.N (ix2 (n0 := 16384) (n1 := 512) r l)) (arr14 m c r l) := by
  have hN : cfg0.N = 32 := by decide
  have h : (dats m 0 c).arrAt 14 cfg0.N = (fun i : S16384x512.Idx => arr14 m c (i 0) (i 1)) := by
    refine (dats m 0 c).arrAt_eq_of_emb 14 _ (fun t hf y => ?_) (fun i => ?_)
    · have ht : t.val < 32 := lt_of_lt_of_eq t.isLt hN
      have h0 : (y 0).val < 512 := (y 0).isLt
      have h1 : (y 1).val < 512 := (y 1).isLt
      refine Eq.trans (b := out0_14 (iblk m c 0 t) (iblk m c 1 t) (iblk m c 2 t) (iblk m c 3 t) (iblk m c 4 t) (iblk m c 5 t) (iblk m c 6 t) (iblk m c 7 t) (iblk m c 8 t)
        (ix2 (n0 := 512) (n1 := 512) ⟨(y 0).val, h0⟩ ⟨(y 1).val, h1⟩)) ?_ ?_
      · show (dats m 0 c).after 14 t _ = _
        rw [after0_14]
        refine congrArg (out0_14 _ _ _ _ _ _ _ _ _) (funext fun b => Fin.ext ?_)
        match b with
        | ⟨0, _⟩ => rfl
        | ⟨1, _⟩ => rfl
      · refine ((out14_at _ _ _ _ _ _ _ _ _ _ _).trans (blk_at m c t _ _ ⟨512 * t.val + (y 0).val, by omega⟩ rfl)).trans ?_
        show arr14 m c ⟨512 * t.val + (y 0).val, _⟩ ⟨(y 1).val, h1⟩ = arr14 m c _ _
        refine congrArg₂ (arr14 m c) (Fin.ext ?_) (Fin.ext ?_)
        · show 512 * t.val + (y 0).val = win0_14.index t 0 * 512 + 1 * (y 0).val
          rw [index14]; show 512 * t.val + (y 0).val = t.val * 512 + 1 * (y 0).val; omega
        · show (y 1).val = win0_14.index t 1 * 512 + 1 * (y 1).val
          rw [index14]; show (y 1).val = 0 * 512 + 1 * (y 1).val; omega
    · have h0 : (i 0).val < 16384 := (i 0).isLt
      have h1 : (i 1).val < 512 := (i 1).isLt
      refine ⟨⟨(i 0).val / 512, by omega⟩, flush0_14 _, ?_⟩
      refine ((cfg0.win 14).emb_mem_blk_iff _ i rfl).2 fun b => ?_
      rw [show (cfg0.win 14).index _ = _ from index14 _]
      match b with
      | ⟨0, _⟩ => show (i 0).val / 512 * 512 ≤ (i 0).val ∧ (i 0).val < (i 0).val / 512 * 512 + 512; omega
      | ⟨1, _⟩ => show 0 * 512 ≤ (i 1).val ∧ (i 1).val < 0 * 512 + 512; omega
  exact congrFun h _

end Cert.Kernel4Ideal.Hand
-- ==== Proof.IEq.lean ====
/- The input projections' last four results are the reference's. -/
module

public import proofs.«01_k».proof.Proof.IVal
public import proofs.«01_k».proof.Proof.Gen.Reference4Ideal
public import proofs.«01_k».proof.Proof.Gen.Reference4Ideal.Run

@[expose] public section

set_option maxRecDepth 16384

noncomputable section

namespace Cert.Reference4Ideal.Hand

open Cert.Reference4Ideal Cert.Reference4Ideal.Gen Cert.Hand.Proj
open Idealize.ShloMosaic hiding ix0 ix1 ix2 ix3 ix4 eq_ix2
open Idealize.ShloMosaic.TcCoe Idealize.ShloMosaic.ValueIdx
open Idealize.SL.Sem Idealize.ShloMosaic.StableHlo

/-- The rows, scaled. -/
def scaled (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0
      (Host.reduceAdd (mulf x x) (constant S_ .f32 0x00000000#32) reducesTo_S16384x1024_S16384_d1 h_S_)) (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))
/-- The rows, scaled, through the matrix. -/
def proj (x : FVec Ideal S16384x1024 .f32) (g : FVec Ideal S1024 .f32) (w : FVec Ideal S1024x3072 .f32) : FVec Ideal S16384x3072 .f32 :=
  Host.dotGeneral dot_S16384x1024_S1024x3072_S16384x3072_1_0_0_1_n_n none (scaled x g) w

theorem scaled_at (x : FVec Ideal S16384x1024 .f32) (g : FVec Ideal S1024 .f32) (r : Fin 16384) (k : Fin 1024) :
    @Eq EReal (scaled x g (ix2 r k)) (normed (fun j => x (ix2 r j)) (fun j => g (ix1 (n := 1024) j)) k) := by
  unfold scaled normed
  refine congrArg₂ (fun p q : EReal => p * q) (congrArg (fun q : EReal => @HMul.hMul EReal EReal EReal _ (x (ix2 r k)) q) ?_) ?_
  · refine (broadcastInDim_apply _ _ _ (ix2 r k) (ix2 (n0 := 16384) (n1 := 1) r 0) fun b => ?_).trans ?_
    · match b with
      | ⟨0, _⟩ => rfl
      | ⟨1, _⟩ => rfl
    refine congrArg (fun z : EReal => Ideal.rsqrt (Ideal.div z (Ideal.ofBits .f32 0x44800000#32) + Ideal.ofBits .f32 0x358637BD#32)) ?_
    refine (broadcastInDim_apply _ _ _ (ix2 (n0 := 16384) (n1 := 1) r 0) (ix1 (n := 16384) r) fun b => ?_).trans ?_
    · match b with
      | ⟨0, _⟩ => rfl
    refine (Ideal.hostReduceAdd_r2_a1 (n0 := 16384) (n1 := 1024) reducesTo_S16384x1024_S16384_d1 _ _ (ix1 r)).trans ?_
    refine (congrArg₂ (fun p q : EReal => p + q) (Ideal.ofBits_zero_f32) rfl).trans ?_
    exact zero_add _
  · refine (broadcastInDim_apply _ _ _ (ix2 r k) (ix2 (n0 := 1) (n1 := 1024) 0 k) fun b => ?_).trans ?_
    · match b with
      | ⟨0, _⟩ => rfl
      | ⟨1, _⟩ => rfl
    refine broadcastInDim_apply _ _ _ _ _ fun b => ?_
    match b with
    | ⟨0, _⟩ => rfl

theorem proj_at (x : FVec Ideal S16384x1024 .f32) (g : FVec Ideal S1024 .f32) (w : FVec Ideal S1024x3072 .f32) (r : Fin 16384) (q : Fin 3072) :
    @Eq EReal (proj x g w (ix2 r q)) (prod (fun j => x (ix2 r j)) (fun j => g (ix1 (n := 1024) j)) (fun k => w (ix2 k q))) := by
  unfold proj prod
  refine Eq.trans (Ideal.dotGeneral_apply _ _ _ _ _ _) (((DotDims.sum_contr₁ _ (a := (1 : Fin 2)) rfl (K := 1024) rfl _)).trans (Finset.sum_congr rfl fun k _ => ?_))
  refine congrArg₂ (fun p q : EReal => p * q) ((congrArg (scaled x g) (funext fun p => ?_)).trans (scaled_at x g r k)) (congrArg w (funext fun p => ?_))
  · match p with
    | ⟨0, _⟩ => rfl
    | ⟨1, _⟩ => rfl
  · match p with
    | ⟨0, _⟩ => rfl
    | ⟨1, _⟩ => rfl

theorem part_at (o : ℕ) (h) (x : FVec Ideal S16384x1024 .f32) (g : FVec Ideal S1024 .f32) (w : FVec Ideal S1024x3072 .f32) (r : Fin 16384) (l : Fin 512) (q : Fin 3072) (hq : q.val = o + l.val) :
    @Eq EReal (extractStridedSlice S16384x512 ![0, o] (proj x g w) h (ix2 r l)) (prod (fun j => x (ix2 r j)) (fun j => g (ix1 (n := 1024) j)) (fun k => w (ix2 k q))) := by
  refine (extractStridedSlice_apply _ _ _ _ (ix2 (n0 := 16384) (n1 := 3072) r q) fun b => ?_).trans (proj_at x g w r q)
  match b with
  | ⟨0, _⟩ => show r.val = 0 + r.val; omega
  | ⟨1, _⟩ => exact hq

end Cert.Reference4Ideal.Hand

namespace Cert.Hand.Proj

open Idealize.ShloMosaic hiding ix0 ix1 ix2 ix3 ix4 eq_ix2
open Idealize.ShloMosaic.TcCoe Idealize.ShloMosaic.ValueIdx Idealize.SL.Sem
open Cert.Kernel4Ideal Cert.Kernel4Ideal.Gen Cert.Kernel4Ideal.Hand

variable (m : (ℓ : Loc nD τ sig) → Buf (Elt Ideal) ℓ) (c : Dev nD)

/-- The reference's rows through the matrix, at the call's arguments. -/
abbrev whole : FVec Ideal Cert.Reference4Ideal.S16384x3072 .f32 :=
  Cert.Reference4Ideal.Hand.proj (m ((c : Thread nD τ).loc main_arg0)) (m ((c : Thread nD τ).loc main_arg1)) (m ((c : Thread nD τ).loc main_arg2))

theorem same11 (h) : truncf (F := Ideal) .bf16 (extractStridedSlice Cert.Reference4Ideal.S16384x512 ![0, 1024] (whole m c) h) Cert.Reference4Ideal.Facts₀.bitsLt_bf16_f32
    = (dats m 0 c).arrAt 11 cfg0.N := by
  funext i
  obtain ⟨r, l, rfl⟩ : ∃ (r : Fin 16384) (l : Fin 512), i = ix2 r l := ⟨i 0, i 1, ValueIdx.eq_ix2 i⟩
  exact Eq.trans (Cert.Reference4Ideal.Hand.part_at 1024 h _ _ _ r l _ rfl) (array11_at m c r l).symm
theorem same12 (h) (hb) : truncf (F := Ideal) .bf16 (mulf (extractStridedSlice Cert.Reference4Ideal.S16384x512 ![0, 1536] (whole m c) h)
      (broadcastInDim Cert.Reference4Ideal.S16384x512 ![] hb (constant (F := Ideal) Cert.Reference4Ideal.S_ .f32 0x3E000000#32))) Cert.Reference4Ideal.Facts₀.bitsLt_bf16_f32
    = (dats m 0 c).arrAt 12 cfg0.N := by
  funext i
  obtain ⟨r, l, rfl⟩ : ∃ (r : Fin 16384) (l : Fin 512), i = ix2 r l := ⟨i 0, i 1, ValueIdx.eq_ix2 i⟩
  exact Eq.trans (congrArg (fun z : EReal => z * Ideal.ofBits .f32 0x3E000000#32) (Cert.Reference4Ideal.Hand.part_at 1536 h _ _ _ r l _ rfl)) (array12_at m c r l).symm
theorem same13 (h) : truncf (F := Ideal) .bf16 (extractStridedSlice Cert.Reference4Ideal.S16384x512 ![0, 2048] (whole m c) h) Cert.Reference4Ideal.Facts₀.bitsLt_bf16_f32
    = (dats m 0 c).arrAt 13 cfg0.N := by
  funext i
  obtain ⟨r, l, rfl⟩ : ∃ (r : Fin 16384) (l : Fin 512), i = ix2 r l := ⟨i 0, i 1, ValueIdx.eq_ix2 i⟩
  exact Eq.trans (Cert.Reference4Ideal.Hand.part_at 2048 h _ _ _ r l _ rfl) (array13_at m c r l).symm
theorem same14 (h) : truncf (F := Ideal) .bf16 (extractStridedSlice Cert.Reference4Ideal.S16384x512 ![0, 2560] (whole m c) h) Cert.Reference4Ideal.Facts₀.bitsLt_bf16_f32
    = (dats m 0 c).arrAt 14 cfg0.N := by
  funext i
  obtain ⟨r, l, rfl⟩ : ∃ (r : Fin 16384) (l : Fin 512), i = ix2 r l := ⟨i 0, i 1, ValueIdx.eq_ix2 i⟩
  exact Eq.trans (Cert.Reference4Ideal.Hand.part_at 2560 h _ _ _ r l _ rfl) (array14_at m c r l).symm

end Cert.Hand.Proj
-- ==== Proof.OVal.lean ====
/- What the output projection's call leaves in its first two results, over the extended reals: each row plus its mixture through the
   matrix, and that sum scaled. -/
module

public import proofs.«01_k».proof.Proof.IDef
public import proofs.«01_k».proof.Proof.Gen.Kernel5Ideal.Value
public import Idealize.ShloMosaic.Lib.Pipeline.ValueKit.Geometry
public import Idealize.ShloMosaic.Lib.Pipeline.ValueKit.Tiles
public import Idealize.ShloMosaic.Lib.IdealHost
public import Idealize.ShloMosaic.Lib.Pointwise.Contract
public import Idealize.ShloMosaic.Lib.Pointwise.Reduce

@[expose] public section

set_option maxRecDepth 16384

noncomputable section

namespace Cert.Hand.Proj

/-- Entry `n` of the row `x` plus the rows `p` and `q`, side by side, through the matrix `w`. -/
def mixed (x : Fin 1024 → EReal) (p q : Fin 512 → EReal) (w : Fin 1024 → Fin 1024 → EReal) (n : Fin 1024) : EReal :=
  x n + (∑ k : Fin 512, p k * w ⟨k.val, by omega⟩ n + ∑ k : Fin 512, q k * w ⟨512 + k.val, by omega⟩ n)

end Cert.Hand.Proj

namespace Cert.Kernel5Ideal.Hand

open Cert.Kernel5Ideal Cert.Kernel5Ideal.Gen Cert.Hand.Proj
open Idealize.ShloMosaic hiding ix0 ix1 ix2 ix3 ix4 eq_ix2
open Idealize.ShloMosaic.TcCoe Idealize.ShloMosaic.ValueIdx
open Idealize.SL.Sem Idealize.ShloMosaic.StableHlo
open Idealize.ShloMosaic.Pipeline (Dat)

/-! ## A block's rows -/

theorem dot_at (x : FVec Ideal S512x512 .bf16) (w : FVec Ideal S512x1024 .bf16) (a : Fin 512) (n : Fin 1024) :
    matmul (F := Ideal) dot_S512x512_S512x1024_S512x1024_1_0_0_1_n_n none x w (constant S512x1024 .f32 0x00000000#32) (ix2 a n)
      = ∑ k : Fin 512, x (ix2 a k) * w (ix2 k n) := by
  refine Eq.trans (Ideal.matmul_apply _ _ _ _ _ _) ?_
  show Ideal.ofBits .f32 0x00000000#32 + _ = _
  rw [Ideal.ofBits_zero_f32, zero_add]
  refine (DotDims.sum_contr₁ _ (a := (1 : Fin 2)) rfl (K := 512) rfl _).trans (Finset.sum_congr rfl fun k _ => ?_)
  refine congrArg₂ (· * ·) (congrArg x (funext fun p => ?_)) (congrArg w (funext fun p => ?_))
  · match p with
    | ⟨0, _⟩ => rfl
    | ⟨1, _⟩ => rfl
  · match p with
    | ⟨0, _⟩ => rfl
    | ⟨1, _⟩ => rfl

/-- A block's rows, mixed. -/
def blk (x : Vec Ideal S512x1024 .f32) (p q : Vec Ideal S512x512 .bf16) (w : Vec Ideal S1024x1024 .bf16) (a : Fin 512) : Fin 1024 → EReal :=
  mixed (fun j => x (ix2 a j)) (fun k => p (ix2 a k)) (fun k => q (ix2 a k)) (fun k n => w (ix2 k n))

theorem rows_at (w : Vec Ideal S1024x1024 .bf16) (o : ℕ) (inb) (k : Fin 512) (n : Fin 1024) (q : Fin 1024) (hq : q.val = o + k.val) :
    View.ld w (Rect.unit (s := S1024x1024) ![o, 0] S512x1024.size inb) (ix2 (n0 := 512) (n1 := 1024) k n) = w (ix2 (n0 := 1024) (n1 := 1024) q n) :=
  View.ld_unit_apply_of w _ _ inb _ _ fun b => by
    match b with
    | ⟨0, _⟩ => exact hq
    | ⟨1, _⟩ => show n.val = 0 + n.val; omega

theorem pay3_at (x : Vec Ideal S512x1024 .f32) (p q : Vec Ideal S512x512 .bf16) (w : Vec Ideal S1024x1024 .bf16) (a : Fin 512) (n : Fin 1024) :
    @Eq EReal (k0_pay3 p (View.ld w r0_1) q (View.ld w r0_2) x (ix2 a n)) (blk x p q w a n) := by
  unfold k0_pay3 blk mixed
  refine congrArg (fun z : EReal => @HAdd.hAdd EReal EReal EReal _ (x (ix2 a n)) z) (congrArg₂ (fun y z : EReal => y + z) ?_ ?_)
  · refine (dot_at p _ a n).trans (Finset.sum_congr rfl fun k _ => ?_)
    exact congrArg (fun z : EReal => @HMul.hMul EReal EReal EReal _ (p (ix2 a k)) z) ((shapeCast_apply _ shapeCasts_S512x1024_S512x1024 _ _ rfl).trans
      (rows_at w 0 _ k n ⟨k.val, by omega⟩ (by show k.val = 0 + k.val; omega)))
  · refine (dot_at q _ a n).trans (Finset.sum_congr rfl fun k _ => ?_)
    exact congrArg (fun z : EReal => @HMul.hMul EReal EReal EReal _ (q (ix2 a k)) z) ((shapeCast_apply _ shapeCasts_S512x1024_S512x1024 _ _ rfl).trans
      (rows_at w 512 _ k n ⟨512 + k.val, by omega⟩ rfl))

theorem pay4_at (x : Vec Ideal S512x1024 .f32) (p q : Vec Ideal S512x512 .bf16) (w : Vec Ideal S1024x1024 .bf16) (g : Vec Ideal S1x1024 .f32) (a : Fin 512) (n : Fin 1024) :
    @Eq EReal (k0_pay4 p (View.ld w r0_1) q (View.ld w r0_2) x g (ix2 a n)) (normed (blk x p q w a) (fun j => g (ix2 (n0 := 1) (n1 := 1024) 0 j)) n) := by
  unfold k0_pay4 normed
  refine congrArg₂ (fun p q : EReal => p * q) (congrArg₂ (fun p q : EReal => p * q) (pay3_at x p q w a n) ?_) ?_
  · refine (broadcastTo_apply _ _ (ix2 a n) (ix2 (n0 := 512) (n1 := 1) a 0) fun b => ?_).trans ?_
    · match b with
      | ⟨0, _⟩ => rfl
      | ⟨1, _⟩ => rfl
    refine congrArg (fun z : EReal => Ideal.rsqrt (Ideal.div z (Ideal.ofBits .f32 0x44800000#32) + Ideal.ofBits .f32 0x358637BD#32)) ?_
    refine (shapeCast_apply _ shapeCasts_S512_S512x1 (ix2 (n0 := 512) (n1 := 1) a 0) (ix1 a) (by
      rw [Shape.rowMajor_val_one, Shape.rowMajor_val_two]
      show a.val = a.val * 1 + 0
      omega)).trans ?_
    refine (Ideal.reduceAdd_r2_a1 (n0 := 512) (n1 := 1024) reduces_S512x1024_S512 _ (ix1 a)).trans (Finset.sum_congr rfl fun j _ => ?_)
    exact congrArg₂ (fun p q : EReal => p * q) (pay3_at x p q w a j) (pay3_at x p q w a j)
  · refine (broadcastTo_apply _ _ (ix2 a n) (ix2 (n0 := 1) (n1 := 1024) 0 n) fun b => ?_).trans ?_
    · match b with
      | ⟨0, _⟩ => rfl
      | ⟨1, _⟩ => rfl
    exact shapeCast_apply _ shapeCasts_S1x1024_S1x1024 _ _ rfl

section Out
variable (x0 : Vec Ideal S512x1024 .f32) (x1 x2 : Vec Ideal S512x512 .bf16) (x3 : Vec Ideal S1024x1024 .bf16) (x4 : Vec Ideal S1x1024 .f32)
  (x5 x6 : Vec Ideal S1024x128 .bf16) (x7 : Vec Ideal S1x128 .f32) (a : Fin 512) (n : Fin 1024)

theorem out8_at : @Eq EReal (out0_8 x0 x1 x2 x3 x4 x5 x6 x7 (ix2 a n)) (blk x0 x1 x2 x3 a n) := by
  unfold out0_8
  rw [View.canon_cons_unit_lit (S := S512x1024) _ _ _ (by decide), View.ld_unit_lit (S := S512x512) _ x1 (by decide),
    View.ld_unit_lit (S := S512x512) _ x2 (by decide), View.ld_unit_lit (S := S512x1024) _ x0 (by decide)]
  exact pay3_at x0 x1 x2 x3 a n
theorem out9_at : @Eq EReal (out0_9 x0 x1 x2 x3 x4 x5 x6 x7 (ix2 a n)) (normed (blk x0 x1 x2 x3 a) (fun j => x4 (ix2 (n0 := 1) (n1 := 1024) 0 j)) n) := by
  unfold out0_9
  rw [View.canon_cons_unit_lit (S := S512x1024) _ _ _ (by decide), View.ld_unit_lit (S := S512x512) _ x1 (by decide),
    View.ld_unit_lit (S := S512x512) _ x2 (by decide), View.ld_unit_lit (S := S512x1024) _ x0 (by decide), View.ld_unit_lit (S := S1x1024) _ x4 (by decide)]
  exact pay4_at x0 x1 x2 x3 x4 a n
end Out

/-! ## The windows' blocks -/

variable (m : (ℓ : Loc nD τ sig) → Buf (Elt Ideal) ℓ)

set_option maxHeartbeats 8000000 in
theorem V_gain (c : Dev nD) : V m c main_v10 = broadcastInDim S1x1024 ![1] bcast_S1024_S1x1024_1 (m ((c : Thread nD τ).loc main_arg4)) := by
  simp only [V, hostOps0, hostOps0_1, hostOps0_2, hostOps0_3, hostOps0_4, List.flatten_cons, List.flatten_nil, List.append_nil, List.cons_append, List.nil_append]
  after_results_simp
set_option maxHeartbeats 8000000 in
theorem V_weights (c : Dev nD) : V m c main_v9 = truncf (F := Ideal) (s := S1024x1024) .bf16 (m ((c : Thread nD τ).loc main_arg3)) bitsLt_bf16_f32 := by
  simp only [V, hostOps0, hostOps0_1, hostOps0_2, hostOps0_3, hostOps0_4, List.flatten_cons, List.flatten_nil, List.append_nil, List.cons_append, List.nil_append]
  after_results_simp

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![0, 0] := by decide +kernel
theorem index8 : ∀ t : Fin cfg0.N, win0_8.index t = ![t.val, 0] := by decide +kernel
theorem index9 : ∀ t : Fin cfg0.N, win0_9.index t = ![t.val, 0] := by decide +kernel

theorem rows_eq (c : Dev nD) (t : Fin cfg0.N) (a : Fin 512) (k : Fin 1024) (r : Fin 16384) (hr : r.val = 512 * t.val + a.val) :
    iblk m c 0 t (ix2 (n0 := 512) (n1 := 1024) a k) = m ((c : Thread nD τ).loc main_arg0) (ix2 (n0 := 16384) (n1 := 1024) r k) := by
  rw [← V_main_arg0 m c]
  unfold iblk
  show V m c main_arg0 _ = V m c main_arg0 _
  refine congrArg (V m c main_arg0) (funext fun b => Fin.ext ?_)
  match b with
  | ⟨0, _⟩ => blk_simp [index0]; show t.val * 512 + a.val = r.val; omega
  | ⟨1, _⟩ => blk_simp [index0]
theorem left_eq (c : Dev nD) (t : Fin cfg0.N) (a : Fin 512) (k : Fin 512) (r : Fin 16384) (hr : r.val = 512 * t.val + a.val) :
    iblk m c 1 t (ix2 (n0 := 512) (n1 := 512) a k) = m ((c : Thread nD τ).loc main_arg1) (ix2 (n0 := 16384) (n1 := 512) r k) := by
  rw [← V_main_arg1 m c]
  unfold iblk
  show V m c main_arg1 _ = V m c main_arg1 _
  refine congrArg (V m c main_arg1) (funext fun b => Fin.ext ?_)
  match b with
  | ⟨0, _⟩ => blk_simp [index1]; show t.val * 512 + a.val = r.val; omega
  | ⟨1, _⟩ => blk_simp [index1]
theorem right_eq (c : Dev nD) (t : Fin cfg0.N) (a : Fin 512) (k : Fin 512) (r : Fin 16384) (hr : r.val = 512 * t.val + a.val) :
    iblk m c 2 t (ix2 (n0 := 512) (n1 := 512) a k) = m ((c : Thread nD τ).loc main_arg2) (ix2 (n0 := 16384) (n1 := 512) r k) := by
  rw [← V_main_arg2 m c]
  unfold iblk
  show V m c main_arg2 _ = V m c main_arg2 _
  refine congrArg (V m c main_arg2) (funext fun b => Fin.ext ?_)
  match b with
  | ⟨0, _⟩ => blk_simp [index2]; show t.val * 512 + a.val = r.val; omega
  | ⟨1, _⟩ => blk_simp [index2]
theorem gain_eq (c : Dev nD) (t : Fin cfg0.N) (k : Fin 1024) :
    iblk m c 4 t (ix2 (n0 := 1) (n1 := 1024) 0 k) = m ((c : Thread nD τ).loc main_arg4) (ix1 (n := 1024) k) := by
  refine Eq.trans (b := V m c main_v10 (ix2 (n0 := 1) (n1 := 1024) 0 k)) ?_ ?_
  · unfold iblk
    show V m c main_v10 _ = V m c main_v10 _
    refine congrArg (V m c main_v10) (funext fun b => Fin.ext ?_)
    match b with
    | ⟨0, _⟩ => blk_simp [index4]
    | ⟨1, _⟩ => blk_simp [index4]
  · rw [V_gain]
    refine broadcastInDim_apply _ _ _ _ _ fun b => ?_
    match b with
    | ⟨0, _⟩ => rfl
theorem weights_eq (c : Dev nD) (t : Fin cfg0.N) (k : Fin 1024) (q : Fin 1024) :
    @Eq EReal (iblk m c 3 t (ix2 (n0 := 1024) (n1 := 1024) k q)) (m ((c : Thread nD τ).loc main_arg3) (ix2 (n0 := 1024) (n1 := 1024) k q)) := by
  refine Eq.trans (b := V m c main_v9 (ix2 (n0 := 1024) (n1 := 1024) k q)) ?_ ?_
  · unfold iblk
    show V m c main_v9 _ = V m c main_v9 _
    refine congrArg (V m c main_v9) (funext fun b => Fin.ext ?_)
    match b with
    | ⟨0, _⟩ => blk_simp [index3]
    | ⟨1, _⟩ => blk_simp [index3]
  · rw [V_weights]; rfl

/-- Row `r`, mixed. -/
def elem (c : Dev nD) (r : Fin 16384) : Fin 1024 → EReal :=
  mixed (fun j => m ((c : Thread nD τ).loc main_arg0) (ix2 (n0 := 16384) (n1 := 1024) r j)) (fun k => m ((c : Thread nD τ).loc main_arg1) (ix2 (n0 := 16384) (n1 := 512) r k))
    (fun k => m ((c : Thread nD τ).loc main_arg2) (ix2 (n0 := 16384) (n1 := 512) r k)) (fun k n => m ((c : Thread nD τ).loc main_arg3) (ix2 (n0 := 1024) (n1 := 1024) k n))

theorem blk_at (c : Dev nD) (t : Fin cfg0.N) (a : Fin 512) (r : Fin 16384) (hr : r.val = 512 * t.val + a.val) :
    blk (iblk m c 0 t) (iblk m c 1 t) (iblk m c 2 t) (iblk m c 3 t) a = elem m c r := by
  unfold blk elem
  rw [show (fun j => iblk m c 0 t (ix2 (n0 := 512) (n1 := 1024) a j)) = _ from funext fun j => rows_eq m c t a j r hr,
    show (fun k => iblk m c 1 t (ix2 (n0 := 512) (n1 := 512) a k)) = _ from funext fun k => left_eq m c t a k r hr,
    show (fun k => iblk m c 2 t (ix2 (n0 := 512) (n1 := 512) a k)) = _ from funext fun k => right_eq m c t a k r hr,
    show (fun k n => iblk m c 3 t (ix2 (n0 := 1024) (n1 := 1024) k n)) = _ from funext fun k => funext fun n => weights_eq m c t k n]
theorem scaled_at (c : Dev nD) (t : Fin cfg0.N) (a : Fin 512) (n : Fin 1024) (r : Fin 16384) (hr : r.val = 512 * t.val + a.val) :
    normed (blk (iblk m c 0 t) (iblk m c 1 t) (iblk m c 2 t) (iblk m c 3 t) a) (fun j => iblk m c 4 t (ix2 (n0 := 1) (n1 := 1024) 0 j)) n
      = normed (elem m c r) (fun j => m ((c : Thread nD τ).loc main_arg4) (ix1 (n := 1024) j)) n := by
  rw [blk_at m c t a r hr, show (fun j => iblk m c 4 t (ix2 (n0 := 1) (n1 := 1024) 0 j)) = _ from funext fun j => gain_eq m c t j]

/-- Output window 8's array. -/
def arr8 (c : Dev nD) (r : Fin 16384) (l : Fin 1024) : EReal := elem m c r l
theorem array8_at (c : Dev nD) (r : Fin 16384) (l : Fin 1024) :
    @Eq EReal ((dats m 0 c).arrAt 8 cfg0.N (ix2 (n0 := 16384) (n1 := 1024) r l)) (arr8 m c r l) := by
  have hN : cfg0.N = 32 := by decide
  have h : (dats m 0 c).arrAt 8 cfg0.N = (fun i : S16384x1024.Idx => arr8 m c (i 0) (i 1)) := by
    refine (dats m 0 c).arrAt_eq_of_emb 8 _ (fun t hf y => ?_) (fun i => ?_)
    · have ht : t.val < 32 := lt_of_lt_of_eq t.isLt hN
      have h0 : (y 0).val < 512 := (y 0).isLt
      have h1 : (y 1).val < 1024 := (y 1).isLt
      refine Eq.trans (b := out0_8 (iblk m c 0 t) (iblk m c 1 t) (iblk m c 2 t) (iblk m c 3 t) (iblk m c 4 t) (iblk m c 5 t) (iblk m c 6 t) (iblk m c 7 t)
        (ix2 (n0 := 512) (n1 := 1024) ⟨(y 0).val, h0⟩ ⟨(y 1).val, h1⟩)) ?_ ?_
      · show (dats m 0 c).after 8 t _ = _
        rw [after0_8]
        refine congrArg (out0_8 _ _ _ _ _ _ _ _) (funext fun b => Fin.ext ?_)
        match b with
        | ⟨0, _⟩ => rfl
        | ⟨1, _⟩ => rfl
      · refine ((out8_at _ _ _ _ _ _ _ _ _ _).trans (congrFun (blk_at m c t _ ⟨512 * t.val + (y 0).val, by omega⟩ rfl) _)).trans ?_
        show arr8 m c ⟨512 * t.val + (y 0).val, _⟩ ⟨(y 1).val, h1⟩ = arr8 m c _ _
        refine congrArg₂ (arr8 m c) (Fin.ext ?_) (Fin.ext ?_)
        · show 512 * t.val + (y 0).val = win0_8.index t 0 * 512 + 1 * (y 0).val
          rw [index8]; show 512 * t.val + (y 0).val = t.val * 512 + 1 * (y 0).val; omega
        · show (y 1).val = win0_8.index t 1 * 1024 + 1 * (y 1).val
          rw [index8]; show (y 1).val = 0 * 1024 + 1 * (y 1).val; omega
    · have h0 : (i 0).val < 16384 := (i 0).isLt
      have h1 : (i 1).val < 1024 := (i 1).isLt
      refine ⟨⟨(i 0).val / 512, by omega⟩, flush0_8 _, ?_⟩
      refine ((cfg0.win 8).emb_mem_blk_iff _ i rfl).2 fun b => ?_
      rw [show (cfg0.win 8).index _ = _ from index8 _]
      match b with
      | ⟨0, _⟩ => show (i 0).val / 512 * 512 ≤ (i 0).val ∧ (i 0).val < (i 0).val / 512 * 512 + 512; omega
      | ⟨1, _⟩ => show 0 * 1024 ≤ (i 1).val ∧ (i 1).val < 0 * 1024 + 1024; omega
  exact congrFun h _

/-- Output window 9's array. -/
def arr9 (c : Dev nD) (r : Fin 16384) (l : Fin 1024) : EReal := normed (elem m c r) (fun j => m ((c : Thread nD τ).loc main_arg4) (ix1 (n := 1024) j)) l
theorem array9_at (c : Dev nD) (r : Fin 16384) (l : Fin 1024) :
    @Eq EReal ((dats m 0 c).arrAt 9 cfg0.N (ix2 (n0 := 16384) (n1 := 1024) r l)) (arr9 m c r l) := by
  have hN : cfg0.N = 32 := by decide
  have h : (dats m 0 c).arrAt 9 cfg0.N = (fun i : S16384x1024.Idx => arr9 m c (i 0) (i 1)) := by
    refine (dats m 0 c).arrAt_eq_of_emb 9 _ (fun t hf y => ?_) (fun i => ?_)
    · have ht : t.val < 32 := lt_of_lt_of_eq t.isLt hN
      have h0 : (y 0).val < 512 := (y 0).isLt
      have h1 : (y 1).val < 1024 := (y 1).isLt
      refine Eq.trans (b := out0_9 (iblk m c 0 t) (iblk m c 1 t) (iblk m c 2 t) (iblk m c 3 t) (iblk m c 4 t) (iblk m c 5 t) (iblk m c 6 t) (iblk m c 7 t)
        (ix2 (n0 := 512) (n1 := 1024) ⟨(y 0).val, h0⟩ ⟨(y 1).val, h1⟩)) ?_ ?_
      · show (dats m 0 c).after 9 t _ = _
        rw [after0_9]
        refine congrArg (out0_9 _ _ _ _ _ _ _ _) (funext fun b => Fin.ext ?_)
        match b with
        | ⟨0, _⟩ => rfl
        | ⟨1, _⟩ => rfl
      · refine ((out9_at _ _ _ _ _ _ _ _ _ _).trans (scaled_at m c t _ _ ⟨512 * t.val + (y 0).val, by omega⟩ rfl)).trans ?_
        show arr9 m c ⟨512 * t.val + (y 0).val, _⟩ ⟨(y 1).val, h1⟩ = arr9 m c _ _
        refine congrArg₂ (arr9 m c) (Fin.ext ?_) (Fin.ext ?_)
        · show 512 * t.val + (y 0).val = win0_9.index t 0 * 512 + 1 * (y 0).val
          rw [index9]; show 512 * t.val + (y 0).val = t.val * 512 + 1 * (y 0).val; omega
        · show (y 1).val = win0_9.index t 1 * 1024 + 1 * (y 1).val
          rw [index9]; show (y 1).val = 0 * 1024 + 1 * (y 1).val; omega
    · have h0 : (i 0).val < 16384 := (i 0).isLt
      have h1 : (i 1).val < 1024 := (i 1).isLt
      refine ⟨⟨(i 0).val / 512, by omega⟩, flush0_9 _, ?_⟩
      refine ((cfg0.win 9).emb_mem_blk_iff _ i rfl).2 fun b => ?_
      rw [show (cfg0.win 9).index _ = _ from index9 _]
      match b with
      | ⟨0, _⟩ => show (i 0).val / 512 * 512 ≤ (i 0).val ∧ (i 0).val < (i 0).val / 512 * 512 + 512; omega
      | ⟨1, _⟩ => show 0 * 1024 ≤ (i 1).val ∧ (i 1).val < 0 * 1024 + 1024; omega
  exact congrFun h _

end Cert.Kernel5Ideal.Hand
-- ==== Proof.OEq.lean ====
/- The output projection's first two results are the reference's. -/
module

public import proofs.«01_k».proof.Proof.OVal
public import proofs.«01_k».proof.Proof.Gen.Reference5Ideal
public import proofs.«01_k».proof.Proof.Gen.Reference5Ideal.Run

@[expose] public section

set_option maxRecDepth 16384

noncomputable section

namespace Cert.Reference5Ideal.Hand

open Cert.Reference5Ideal Cert.Reference5Ideal.Gen Cert.Hand.Proj
open Idealize.ShloMosaic hiding ix0 ix1 ix2 ix3 ix4 eq_ix2
open Idealize.ShloMosaic.TcCoe Idealize.ShloMosaic.ValueIdx
open Idealize.SL.Sem Idealize.ShloMosaic.StableHlo

/-- The rows plus the two groups, side by side, through the matrix. -/
def added (x : FVec Ideal S16384x1024 .f32) (p q : FVec Ideal S16384x512 .bf16) (w : FVec Ideal S1024x1024 .f32) : FVec Ideal S16384x1024 .f32 :=
  addf x (Host.dotGeneral dot_S16384x1024_S1024x1024_S16384x1024_1_0_0_1_n_n none (extf .f32 (concatenate S16384x1024 1 [⟨S16384x512, p⟩, ⟨S16384x512, q⟩]
    concatenates_S16384x512_S16384x512_S16384x1024_d1 : FVec Ideal S16384x1024 .bf16) bitsLt_bf16_f32) w)
/-- The rows, scaled. -/
def scaled (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0
      (Host.reduceAdd (mulf x x) (constant S_ .f32 0x00000000#32) reducesTo_S16384x1024_S16384_d1 h_S_)) (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

theorem scaled_at (x : FVec Ideal S16384x1024 .f32) (g : FVec Ideal S1024 .f32) (r : Fin 16384) (k : Fin 1024) :
    @Eq EReal (scaled x g (ix2 r k)) (normed (fun j => x (ix2 r j)) (fun j => g (ix1 (n := 1024) j)) k) := by
  unfold scaled normed
  refine congrArg₂ (fun p q : EReal => p * q) (congrArg (fun q : EReal => @HMul.hMul EReal EReal EReal _ (x (ix2 r k)) q) ?_) ?_
  · refine (broadcastInDim_apply _ _ _ (ix2 r k) (ix2 (n0 := 16384) (n1 := 1) r 0) fun b => ?_).trans ?_
    · match b with
      | ⟨0, _⟩ => rfl
      | ⟨1, _⟩ => rfl
    refine congrArg (fun z : EReal => Ideal.rsqrt (Ideal.div z (Ideal.ofBits .f32 0x44800000#32) + Ideal.ofBits .f32 0x358637BD#32)) ?_
    refine (broadcastInDim_apply _ _ _ (ix2 (n0 := 16384) (n1 := 1) r 0) (ix1 (n := 16384) r) fun b => ?_).trans ?_
    · match b with
      | ⟨0, _⟩ => rfl
    refine (Ideal.hostReduceAdd_r2_a1 (n0 := 16384) (n1 := 1024) reducesTo_S16384x1024_S16384_d1 _ _ (ix1 r)).trans ?_
    refine (congrArg₂ (fun p q : EReal => p + q) (Ideal.ofBits_zero_f32) rfl).trans ?_
    exact zero_add _
  · refine (broadcastInDim_apply _ _ _ (ix2 r k) (ix2 (n0 := 1) (n1 := 1024) 0 k) fun b => ?_).trans ?_
    · match b with
      | ⟨0, _⟩ => rfl
      | ⟨1, _⟩ => rfl
    refine broadcastInDim_apply _ _ _ _ _ fun b => ?_
    match b with
    | ⟨0, _⟩ => rfl

theorem left_at (p q : FVec Ideal S16384x512 .bf16) (h) (r : Fin 16384) (k : Fin 512) (n : Fin 1024) (hn : n.val = k.val) :
    concatenate S16384x1024 1 [⟨S16384x512, p⟩, ⟨S16384x512, q⟩] h (ix2 (n0 := 16384) (n1 := 1024) r n) = p (ix2 r k) :=
  concatenate_pair_apply_left _ p q h _ rfl (ix2 r k) fun b => by
    match b with
    | ⟨0, _⟩ => rfl
    | ⟨1, _⟩ => exact hn.symm
theorem right_at (p q : FVec Ideal S16384x512 .bf16) (h) (r : Fin 16384) (k : Fin 512) (n : Fin 1024) (hn : n.val = 512 + k.val) :
    concatenate S16384x1024 1 [⟨S16384x512, p⟩, ⟨S16384x512, q⟩] h (ix2 (n0 := 16384) (n1 := 1024) r n) = q (ix2 r k) :=
  concatenate_pair_apply_right _ p q h _ rfl rfl (ix2 r k) (fun b hb => by
    match b with
    | ⟨0, _⟩ => rfl
    | ⟨1, _⟩ => exact absurd rfl hb) (by show k.val + 512 = n.val; omega)

theorem added_at (x : FVec Ideal S16384x1024 .f32) (p q : FVec Ideal S16384x512 .bf16) (w : FVec Ideal S1024x1024 .f32) (r : Fin 16384) (n : Fin 1024) :
    @Eq EReal (added x p q w (ix2 r n)) (mixed (fun j => x (ix2 r j)) (fun k => p (ix2 r k)) (fun k => q (ix2 r k)) (fun k n => w (ix2 k n)) n) := by
  unfold added mixed
  refine congrArg (fun z : EReal => @HAdd.hAdd EReal EReal EReal _ (x (ix2 r n)) z) ?_
  refine Eq.trans (Ideal.dotGeneral_apply _ _ _ _ _ _) ((DotDims.sum_contr₁ _ (a := (1 : Fin 2)) rfl (K := 1024) rfl _).trans ?_)
  refine (Fin.sum_univ_add (a := 512) (b := 512) _).trans (congrArg₂ (fun y z : EReal => y + z) (Finset.sum_congr rfl fun k _ => ?_) (Finset.sum_congr rfl fun k _ => ?_))
  · refine congrArg₂ (fun p q : EReal => p * q) (Eq.trans ?_ (left_at p q concatenates_S16384x512_S16384x512_S16384x1024_d1 r k ⟨k.val, by omega⟩ rfl)) (congrArg w (funext fun b => ?_))
    · refine congrArg (concatenate S16384x1024 1 [⟨S16384x512, p⟩, ⟨S16384x512, q⟩] concatenates_S16384x512_S16384x512_S16384x1024_d1) (funext fun b => ?_)
      match b with
      | ⟨0, _⟩ => rfl
      | ⟨1, _⟩ => rfl
    · match b with
      | ⟨0, _⟩ => rfl
      | ⟨1, _⟩ => rfl
  · refine congrArg₂ (fun p q : EReal => p * q) (Eq.trans ?_ (right_at p q concatenates_S16384x512_S16384x512_S16384x1024_d1 r k ⟨512 + k.val, by omega⟩ rfl)) (congrArg w (funext fun b => ?_))
    · refine congrArg (concatenate S16384x1024 1 [⟨S16384x512, p⟩, ⟨S16384x512, q⟩] concatenates_S16384x512_S16384x512_S16384x1024_d1) (funext fun b => ?_)
      match b with
      | ⟨0, _⟩ => rfl
      | ⟨1, _⟩ => rfl
    · match b with
      | ⟨0, _⟩ => rfl
      | ⟨1, _⟩ => rfl

end Cert.Reference5Ideal.Hand

namespace Cert.Hand.Proj

open Idealize.ShloMosaic hiding ix0 ix1 ix2 ix3 ix4 eq_ix2
open Idealize.ShloMosaic.TcCoe Idealize.ShloMosaic.ValueIdx Idealize.SL.Sem
open Cert.Kernel5Ideal Cert.Kernel5Ideal.Gen Cert.Kernel5Ideal.Hand

variable (m : (ℓ : Loc nD τ sig) → Buf (Elt Ideal) ℓ) (c : Dev nD)

/-- The reference's rows, mixed, at the call's arguments. -/
abbrev summed : FVec Ideal Cert.Reference5Ideal.S16384x1024 .f32 :=
  Cert.Reference5Ideal.Hand.added (m ((c : Thread nD τ).loc main_arg0)) (m ((c : Thread nD τ).loc main_arg1)) (m ((c : Thread nD τ).loc main_arg2)) (m ((c : Thread nD τ).loc main_arg3))

theorem same8 : summed m c = (dats m 0 c).arrAt 8 cfg0.N := by
  funext i
  obtain ⟨r, l, rfl⟩ : ∃ (r : Fin 16384) (l : Fin 1024), i = ix2 r l := ⟨i 0, i 1, ValueIdx.eq_ix2 i⟩
  exact Eq.trans (Cert.Reference5Ideal.Hand.added_at _ _ _ _ r l) (array8_at m c r l).symm
theorem same9 : Cert.Reference5Ideal.Hand.scaled (summed m c) (m ((c : Thread nD τ).loc main_arg4)) = (dats m 0 c).arrAt 9 cfg0.N := by
  funext i
  obtain ⟨r, l, rfl⟩ : ∃ (r : Fin 16384) (l : Fin 1024), i = ix2 r l := ⟨i 0, i 1, ValueIdx.eq_ix2 i⟩
  refine Eq.trans (Cert.Reference5Ideal.Hand.scaled_at _ _ r l) (Eq.trans ?_ (array9_at m c r l).symm)
  exact congrArg (fun f => normed f _ l) (funext fun j => Cert.Reference5Ideal.Hand.added_at _ _ _ _ r j)

end Cert.Hand.Proj
-- ==== Proof.lean ====
/- The proof of the claims stated in Defs.lean. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.BEq
public import proofs.«01_k».proof.Proof.XEq
public import proofs.«01_k».proof.Proof.BXLaunch
public import proofs.«01_k».proof.Proof.BCEq
public import proofs.«01_k».proof.Proof.IEq
public import proofs.«01_k».proof.Proof.OEq
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import Idealize.ShloMosaic.Adequacy
public import Idealize.ShloMosaic.Init

@[expose] public section

noncomputable section

namespace Cert.Proof

open Idealize.ShloMosaic Idealize.ShloMosaic.TcCoe Idealize.SL.Sem

/-- The dispatch's run, at any float values: its arguments unchanged, its counters at zero, and its result as `accum` says. -/
theorem run_kernel {F : FTy → Type} [FloatOps F] [∀ e, Nonempty (Elt F e)]
    (m : (ℓ : Loc Cert.KernelIdeal.nD Cert.KernelIdeal.τ Cert.KernelIdeal.sig) → Buf (Elt F) ℓ) (g : Dev Cert.KernelIdeal.nD → PrngReg)
    (h : ∀ c : Dev Cert.KernelIdeal.nD, Cert.Pre_ids_in_range.fn (F := F) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = fun _ => 1#1) :
    θ_run (Cert.KernelIdeal.defs (F := F)) (onTc (τ := Cert.KernelIdeal.τ) (Cert.KernelIdeal.main (F := F))) ⟨m, fun _ => 0, g⟩ (fun r => ((∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) ∧ ∀ c : Dev Cert.KernelIdeal.nD,
        r.2.mem ((c.tc : Thread Cert.KernelIdeal.nD Cert.KernelIdeal.τ).loc Cert.KernelIdeal.main_v46) = Cert.KernelIdeal.Hand.accum m c Cert.KernelIdeal.cfg0.N) :=
  Cert.KernelIdeal.Hand.run_main (F := F) m g (Cert.KernelIdeal.Hand.good m (Cert.Hand.expert_lt m h))

/-- The same run of the program the bits run: its arguments unchanged, its counters at zero, and its result as `accum` says. -/
theorem run_bits {F : FTy → Type} [FloatOps F] [∀ e, Nonempty (Elt F e)]
    (m : (ℓ : Loc Cert.Kernel.nD Cert.Kernel.τ Cert.Kernel.sig) → Buf (Elt F) ℓ) (g : Dev Cert.Kernel.nD → PrngReg)
    (h : ∀ c : Dev Cert.Kernel.nD, Cert.Pre_ids_in_range.fn (F := F) (m ((c.tc : Thread Cert.Kernel.nD Cert.Kernel.τ).loc Cert.Kernel.main_arg0))
      (m ((c.tc : Thread Cert.Kernel.nD Cert.Kernel.τ).loc Cert.Kernel.main_arg1))
      (m ((c.tc : Thread Cert.Kernel.nD Cert.Kernel.τ).loc Cert.Kernel.main_arg2)) = fun _ => 1#1) :
    θ_run (Cert.Kernel.defs (F := F)) (onTc (τ := Cert.Kernel.τ) (Cert.Kernel.main (F := F))) ⟨m, fun _ => 0, g⟩ (fun r => ((∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) ∧ ∀ c : Dev Cert.Kernel.nD,
        r.2.mem ((c.tc : Thread Cert.Kernel.nD Cert.Kernel.τ).loc Cert.Kernel.main_v46) = Cert.Kernel.Hand.accum m c Cert.Kernel.cfg0.N) :=
  Cert.Kernel.Hand.run_main (F := F) m g (Cert.Kernel.Hand.good m (Cert.Hand.OnBits.expert_lt m h))

/-- The kernel's frame. -/
theorem frame_kernel : Cert.quiescent_Kernel := fun m g h =>
  (θ_run Cert.Kernel.defs _ _).mono (fun _ r => r.1) (run_bits (F := Bits) m g h)

/-- The ideal kernel's frame. -/
theorem frame_kernelIdeal : Cert.quiescent_KernelIdeal := fun m g h =>
  (θ_run Cert.KernelIdeal.defs _ _).mono (fun _ r => r.1) (run_kernel (F := Ideal) m g h)

/-- The ideal reference's frame: it declares no semaphore. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The ideal reference's frame under the precondition. -/
theorem frame_referenceIdeal_pre : Cert.quiescent_ReferenceIdeal_pre_ids_in_range := fun m g _ =>
  (θ_run Cert.ReferenceIdeal.defs _ _).mono (fun r h => ⟨fun c => (h c).2, sem_eq_zero_of_no_sems (by decide) r.2⟩)
    (Cert.ReferenceIdeal.Value.run (F := Ideal) m g)

/-- The reference's frame. -/
theorem frame_reference : Cert.quiescent_Reference := fun m g _ =>
  (θ_run Cert.Reference.defs _ _).mono (fun r h => ⟨fun c => (h c).2, sem_eq_zero_of_no_sems (by decide) r.2⟩)
    (Cert.Reference.Value.run (F := Bits) m g)

/-- Over the extended reals the dispatch leaves what the reference computes. -/
theorem algebraic : Cert.algebraic_KernelIdeal_ReferenceIdeal := fun m g m' g' h heq =>
  ⟨fun c => Cert.KernelIdeal.Hand.accum m c Cert.KernelIdeal.cfg0.N,
    (θ_run Cert.KernelIdeal.defs _ _).mono (fun _ r c => ⟨r.2 c, r.1.1 c⟩) (run_kernel (F := Ideal) m g h),
    (θ_run Cert.ReferenceIdeal.defs _ _).mono (fun _ r c => ⟨(r c).1.trans
      (Cert.Hand.same m m' c (heq c).1 (heq c).2.1 (heq c).2.2 (Cert.Hand.expert_lt m h c)), (r c).2⟩)
      (Cert.ReferenceIdeal.Value.run (F := Ideal) m' g')⟩

/-- Bit for bit the dispatch leaves what the reference computes. -/
theorem bitexact : Cert.bitexact_Kernel_Reference := fun m g m' g' h heq =>
  ⟨fun c => Cert.Kernel.Hand.accum (F := Bits) m c Cert.Kernel.cfg0.N,
    (θ_run Cert.Kernel.defs _ _).mono (fun _ r c => ⟨r.2 c, r.1.1 c⟩) (run_bits (F := Bits) m g h),
    (θ_run Cert.ReferenceIdeal.defs _ _).mono (fun _ r c => ⟨(r c).1.trans
      (Cert.Hand.OnBits.same (F := Bits) m m' c (heq c).1 (heq c).2.1 (heq c).2.2 (Cert.Hand.OnBits.expert_lt m h c)), (r c).2⟩)
      (Cert.ReferenceIdeal.Value.run (F := Bits) m' g')⟩

/-- The experts program's frame. -/
theorem frame_kernel2 : Cert.quiescent_Kernel2 := fun m g _ =>
  (θ_run Cert.Kernel2.defs _ _).mono (fun _ r => r.1) (Cert.Kernel2.Hand.run_main (F := Bits) m g)

/-- The ideal experts program's frame. -/
theorem frame_kernel2Ideal : Cert.quiescent_Kernel2Ideal := fun m g _ =>
  (θ_run Cert.Kernel2Ideal.defs _ _).mono (fun _ r => r.1) (Cert.Kernel2Ideal.Hand.run_main (F := Ideal) m g)

/-- The ideal experts reference's frame: it declares no semaphore. -/
theorem frame_reference2Ideal : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- Over the extended reals the experts leave what the reference computes, whatever the ids. -/
theorem algebraic2 : Cert.algebraic_Kernel2Ideal_Reference2Ideal := fun m g m' g' _ heq =>
  ⟨fun c => (Cert.Kernel2Ideal.Hand.datm m 0 c).arrAt (4 : Fin 5) (Cert.Kernel2Ideal.Hand.cfgA (Cert.Kernel2Ideal.Hand.tabs m)).N,
    (θ_run Cert.Kernel2Ideal.defs _ _).mono (fun _ r c => ⟨r.2 c, r.1.1 c⟩) (Cert.Kernel2Ideal.Hand.run_main (F := Ideal) m g),
    (θ_run Cert.Reference2Ideal.defs _ _).mono (fun _ r c => ⟨(r c).1.trans
      (Cert.Hand.Experts.same m m' c (heq c).1 (heq c).2.1 (heq c).2.2.1 (heq c).2.2.2.1 (heq c).2.2.2.2), (r c).2⟩)
      (Cert.Reference2Ideal.Value.run (F := Ideal) m' g')⟩

/-- The combine program's frame. -/
theorem frame_kernel3 : Cert.quiescent_Kernel3 := fun m g h =>
  (θ_run Cert.Kernel3.defs _ _).mono (fun _ r => r.1)
    (Cert.Kernel3.Hand.run_main (F := Bits) m g (Cert.Kernel3.Hand.good m (Cert.Hand.Combine.OnBits.expert_lt m h)))

/-- The ideal combine program's frame. -/
theorem frame_kernel3Ideal : Cert.quiescent_Kernel3Ideal := fun m g h =>
  (θ_run Cert.Kernel3Ideal.defs _ _).mono (fun _ r => r.1)
    (Cert.Kernel3Ideal.Hand.run_main (F := Ideal) m g (Cert.Kernel3Ideal.Hand.good m (Cert.Hand.Combine.expert_lt m h)))

/-- The ideal combine reference's frame: it declares no semaphore. -/
theorem frame_reference3Ideal : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The same frame under the precondition. -/
theorem frame_reference3Ideal_pre : Cert.quiescent_Reference3Ideal_pre_ids_in_range3 := fun m g _ =>
  (θ_run Cert.Reference3Ideal.defs _ _).mono (fun r h => ⟨fun c => (h c).2, sem_eq_zero_of_no_sems (by decide) r.2⟩)
    (Cert.Reference3Ideal.Value.run (F := Ideal) m g)

/-- Over the extended reals the combine leaves what the reference computes. -/
theorem algebraic3 : Cert.algebraic_Kernel3Ideal_Reference3Ideal := fun m g m' g' h heq =>
  have hg := Cert.Kernel3Ideal.Hand.good m (Cert.Hand.Combine.expert_lt m h)
  ⟨fun c => (Cert.Kernel3Ideal.Hand.dats m hg 0 c).arrAt 4 Cert.Kernel3Ideal.cfg0.N,
    (θ_run Cert.Kernel3Ideal.defs _ _).mono (fun _ r c => ⟨r.2 c, r.1.1 c⟩) (Cert.Kernel3Ideal.Hand.run_main (F := Ideal) m g hg),
    (θ_run Cert.Reference3Ideal.defs _ _).mono (fun _ r c => ⟨(r c).1.trans
      (Cert.Hand.Combine.same m hg m' c (heq c).1 (heq c).2.1 (heq c).2.2.1 (heq c).2.2.2 (Cert.Hand.Combine.expert_lt m h c)), (r c).2⟩)
      (Cert.Reference3Ideal.Value.run (F := Ideal) m' g')⟩

/-- The input projections program's frame. -/
theorem frame_kernel4 : Cert.quiescent_Kernel4 := fun m g _ => Cert.Kernel4.Gen.frame (F := Bits) m g

/-- The ideal input projections program's frame. -/
theorem frame_kernel4Ideal : Cert.quiescent_Kernel4Ideal := fun m g _ => Cert.Kernel4Ideal.Gen.frame (F := Ideal) m g

/-- The ideal input projections reference's frame: it declares no semaphore. -/
theorem frame_reference4Ideal : Cert.quiescent_Reference4Ideal := fun m g _ =>
  (θ_run Cert.Reference4Ideal.defs _ _).mono (fun r h => ⟨fun c => (h c).2.2.2.2, sem_eq_zero_of_no_sems (by decide) r.2⟩)
    (Cert.Reference4Ideal.Value.run (F := Ideal) m g)

/-- Over the extended reals the input projections leave what the reference computes. -/
theorem algebraic4 : Cert.algebraic_Kernel4Ideal_Reference4Ideal := fun m g m' g' _ heq =>
  ⟨fun c => (Cert.Kernel4Ideal.Gen.dats m 0 c).arrAt 11 Cert.Kernel4Ideal.cfg0.N, fun c => (Cert.Kernel4Ideal.Gen.dats m 0 c).arrAt 12 Cert.Kernel4Ideal.cfg0.N,
    fun c => (Cert.Kernel4Ideal.Gen.dats m 0 c).arrAt 13 Cert.Kernel4Ideal.cfg0.N, fun c => (Cert.Kernel4Ideal.Gen.dats m 0 c).arrAt 14 Cert.Kernel4Ideal.cfg0.N,
    (θ_run Cert.Kernel4Ideal.defs _ _).mono (fun _ r c => (r c).2.2) (Cert.Kernel4Ideal.Value.run_blocks (F := Ideal) m g),
    (θ_run Cert.Reference4Ideal.defs _ _).mono (fun _ r c => by
      obtain ⟨r0, r1, r2, r3, ra⟩ := r c
      rw [(heq c).1, (heq c).2.1, (heq c).2.2.1] at r0 r1 r2 r3
      exact ⟨r0.trans (Cert.Hand.Proj.same11 m c _), r1.trans (Cert.Hand.Proj.same12 m c _ _), r2.trans (Cert.Hand.Proj.same13 m c _),
        r3.trans (Cert.Hand.Proj.same14 m c _), ra⟩)
      (Cert.Reference4Ideal.Value.run (F := Ideal) m' g')⟩

/-- The output projection program's frame. -/
theorem frame_kernel5 : Cert.quiescent_Kernel5 := fun m g _ => Cert.Kernel5.Gen.frame (F := Bits) m g

/-- The ideal output projection program's frame. -/
theorem frame_kernel5Ideal : Cert.quiescent_Kernel5Ideal := fun m g _ => Cert.Kernel5Ideal.Gen.frame (F := Ideal) m g

/-- The ideal output projection reference's frame: it declares no semaphore. -/
theorem frame_reference5Ideal : Cert.quiescent_Reference5Ideal := fun m g _ =>
  (θ_run Cert.Reference5Ideal.defs _ _).mono (fun r h => ⟨fun c => (h c).2.2, sem_eq_zero_of_no_sems (by decide) r.2⟩)
    (Cert.Reference5Ideal.Value.run (F := Ideal) m g)

/-- Over the extended reals the output projection leaves what the reference computes. -/
theorem algebraic5 : Cert.algebraic_Kernel5Ideal_Reference5Ideal := fun m g m' g' _ heq =>
  ⟨fun c => (Cert.Kernel5Ideal.Gen.dats m 0 c).arrAt 8 Cert.Kernel5Ideal.cfg0.N, fun c => (Cert.Kernel5Ideal.Gen.dats m 0 c).arrAt 9 Cert.Kernel5Ideal.cfg0.N,
    (θ_run Cert.Kernel5Ideal.defs _ _).mono (fun _ r c => ⟨(r c).1, (r c).2.1, (r c).2.2.2.2⟩) (Cert.Kernel5Ideal.Value.run_blocks (F := Ideal) m g),
    (θ_run Cert.Reference5Ideal.defs _ _).mono (fun _ r c => by
      obtain ⟨r0, r1, ra⟩ := r c
      rw [(heq c).1, (heq c).2.1, (heq c).2.2.1, (heq c).2.2.2.1] at r0 r1
      rw [(heq c).2.2.2.2.1] at r1
      exact ⟨r0.trans (Cert.Hand.Proj.same8 m c), r1.trans (Cert.Hand.Proj.same9 m c), ra⟩)
      (Cert.Reference5Ideal.Value.run (F := Ideal) m' g')⟩

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Hand.preFacts, Cert.Hand.Combine.preFacts,
  frame_kernel, frame_kernelIdeal, frame_referenceIdeal, frame_referenceIdeal_pre, frame_reference, frame_kernel2, frame_kernel2Ideal, frame_reference2Ideal,
  frame_kernel3, frame_kernel3Ideal, frame_reference3Ideal, frame_reference3Ideal_pre, frame_kernel4, frame_kernel4Ideal, frame_reference4Ideal,
  frame_kernel5, frame_kernel5Ideal, frame_reference5Ideal,
  trivial, algebraic, bitexact, trivial, algebraic2, trivial, algebraic3, trivial, algebraic4, trivial, algebraic5⟩

end Cert.Proof

end
